-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def preserves_Kernel_KernelIdeal : Prop :=
  IdealRules.named_const.Statement Cert.KernelIdeal.κ "skip" .f32 0xC2DC0000#32 ⊥

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v36)) (v4 : (c : Dev Cert.KernelIdeal.nD) → Buf (Elt Ideal) ((c.tc : Thread Cert.KernelIdeal.nD Cert.KernelIdeal.τ).loc Cert.KernelIdeal.main_v37)) (v5 : (c : Dev Cert.KernelIdeal.nD) → Buf (Elt Ideal) ((c.tc : Thread Cert.KernelIdeal.nD Cert.KernelIdeal.τ).loc Cert.KernelIdeal.main_v38)) (v6 : (c : Dev Cert.KernelIdeal.nD) → Buf (Elt Ideal) ((c.tc : Thread Cert.KernelIdeal.nD Cert.KernelIdeal.τ).loc Cert.KernelIdeal.main_v40)) (v7 : (c : Dev Cert.KernelIdeal.nD) → Buf (Elt Ideal) ((c.tc : Thread Cert.KernelIdeal.nD Cert.KernelIdeal.τ).loc Cert.KernelIdeal.main_v42)) (v8 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_v37) = v4 c
          ∧ r.2.mem ((c.tc : Thread Cert.KernelIdeal.nD Cert.KernelIdeal.τ).loc Cert.KernelIdeal.main_v38) = v5 c
          ∧ r.2.mem ((c.tc : Thread Cert.KernelIdeal.nD Cert.KernelIdeal.τ).loc Cert.KernelIdeal.main_v40) = v6 c
          ∧ r.2.mem ((c.tc : Thread Cert.KernelIdeal.nD Cert.KernelIdeal.τ).loc Cert.KernelIdeal.main_v42) = v7 c
          ∧ r.2.mem ((c.tc : Thread Cert.KernelIdeal.nD Cert.KernelIdeal.τ).loc Cert.KernelIdeal.main_v43) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_v31) = v7 c
          ∧ r.2.mem ((c.tc : Thread Cert.ReferenceIdeal.nD Cert.ReferenceIdeal.τ).loc Cert.ReferenceIdeal.main_v88) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v17) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Merge_MergeIdeal
    ∧ algebraic_MergeIdeal_MergeReferenceIdeal (hMergeIdeal := hMergeIdeal) (hMergeReferenceIdeal := hMergeReferenceIdeal)
-- ==== Pre_finite_gains.lean ====
abbrev S1x16384x1024 : Shape := ⟨3, ![1, 16384, 1024]⟩
abbrev S1024 : Shape := ⟨1, ![1024]⟩
abbrev S1024x8208 : Shape := ⟨2, ![1024, 8208]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S1x16384x1024 .f32) (main_arg1 : FVec F S1024 .f32) (main_arg2 : FVec F S1024 .f32) (main_arg3 : FVec F S1024 .f32) (main_arg4 : FVec F S1024x8208 .f32) (main_arg5 : FVec F S128 .f32) (main_arg6 : FVec F S128 .f32) : IVec S_ 1 :=
  let main_v0 : FVec F S128 .f32 := Host.absf main_arg5
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg6
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S1x16384x1024 : Shape := ⟨3, ![1, 16384, 1024]⟩
abbrev S1024 : Shape := ⟨1, ![1024]⟩
abbrev S1024x8208 : Shape := ⟨2, ![1024, 8208]⟩
abbrev S128 : Shape := ⟨1, ![128]⟩
abbrev S16384x1024 : Shape := ⟨2, ![16384, 1024]⟩
abbrev S1024x512 : Shape := ⟨2, ![1024, 512]⟩
abbrev S1024x1024 : Shape := ⟨2, ![1024, 1024]⟩
abbrev S1024x8 : Shape := ⟨2, ![1024, 8]⟩
abbrev S1024x1536 : Shape := ⟨2, ![1024, 1536]⟩
abbrev S1024x3072 : Shape := ⟨2, ![1024, 3072]⟩
abbrev S_ : Shape := ⟨0, ![]⟩
abbrev S1024x120 : Shape := ⟨2, ![1024, 120]⟩
abbrev S1024x8192 : Shape := ⟨2, ![1024, 8192]⟩
abbrev S1024x256 : Shape := ⟨2, ![1024, 256]⟩
abbrev S1x128 : Shape := ⟨2, ![1, 128]⟩
abbrev S4x128 : Shape := ⟨2, ![4, 128]⟩
abbrev S512 : Shape := ⟨1, ![512]⟩
abbrev S1x1024 : Shape := ⟨2, ![1, 1024]⟩
abbrev S16384x8192 : Shape := ⟨2, ![16384, 8192]⟩
abbrev S16384x256 : Shape := ⟨2, ![16384, 256]⟩
abbrev S1024x1 : Shape := ⟨2, ![1024, 1]⟩
abbrev S1024x128 : Shape := ⟨2, ![1024, 128]⟩
abbrev S16384x512 : Shape := ⟨2, ![16384, 512]⟩
abbrev S16384x8 : Shape := ⟨2, ![16384, 8]⟩
abbrev S16384x1536 : Shape := ⟨2, ![16384, 1536]⟩
abbrev S16384x4 : Shape := ⟨2, ![16384, 4]⟩
abbrev S16384x3072 : Shape := ⟨2, ![16384, 3072]⟩
abbrev S256x512 : Shape := ⟨2, ![256, 512]⟩
abbrev S8x128x1 : Shape := ⟨3, ![8, 128, 1]⟩
abbrev S128x128 : Shape := ⟨2, ![128, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 55
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8208, .f32⟩
  | .hbm, ⟨5, _⟩ => ⟨S128, .f32⟩
  | .hbm, ⟨6, _⟩ => ⟨S128, .f32⟩
  | .hbm, ⟨7, _⟩ => ⟨S16384x1024, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x1536, .f32⟩
  | .hbm, ⟨12, _⟩ => ⟨S1024x1536, .f32⟩
  | .hbm, ⟨13, _⟩ => ⟨S1024x8, .f32⟩
  | .hbm, ⟨14, _⟩ => ⟨S1024x512, .f32⟩
  | .hbm, ⟨15, _⟩ => ⟨S1024x3072, .f32⟩
  | .hbm, ⟨16, _⟩ => ⟨S_, .f32⟩
  | .hbm, ⟨17, _⟩ => ⟨S1024x120, .f32⟩
  | .hbm, ⟨18, _⟩ => ⟨S1024x8192, .f32⟩
  | .hbm, ⟨19, _⟩ => ⟨S1024x8192, .bf16⟩
  | .hbm, ⟨20, _⟩ => ⟨S1024x256, .f32⟩
  | .hbm, ⟨21, _⟩ => ⟨S1024x256, .bf16⟩
  | .hbm, ⟨22, _⟩ => ⟨S1x128, .f32⟩
  | .hbm, ⟨23, _⟩ => ⟨S4x128, .f32⟩
  | .hbm, ⟨24, _⟩ => ⟨S512, .f32⟩
  | .hbm, ⟨25, _⟩ => ⟨S1x128, .f32⟩
  | .hbm, ⟨26, _⟩ => ⟨S4x128, .f32⟩
  | .hbm, ⟨27, _⟩ => ⟨S512, .f32⟩
  | .hbm, ⟨28, _⟩ => ⟨S1024, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S16384x8192, .bf16⟩
  | .hbm, ⟨40, _⟩ => ⟨S16384x256, .f32⟩
  | .hbm, ⟨41, _⟩ => ⟨S16384x512, .bf16⟩
  | .hbm, ⟨42, _⟩ => ⟨S16384x512, .f32⟩
  | .hbm, ⟨43, _⟩ => ⟨S16384x1024, .bf16⟩
  | .hbm, ⟨44, _⟩ => ⟨S16384x1024, .f32⟩
  | .hbm, ⟨45, _⟩ => ⟨S16384x8, .f32⟩
  | .hbm, ⟨46, _⟩ => ⟨S16384x1536, .bf16⟩
  | .hbm, ⟨47, _⟩ => ⟨S16384x1536, .f32⟩
  | .hbm, ⟨48, _⟩ => ⟨S16384x4, .f32⟩
  | .hbm, ⟨49, _⟩ => ⟨S16384x4, .f32⟩
  | .hbm, ⟨50, _⟩ => ⟨S16384x512, .bf16⟩
  | .hbm, ⟨51, _⟩ => ⟨S16384x512, .f32⟩
  | .hbm, ⟨52, _⟩ => ⟨S16384x3072, .bf16⟩
  | .hbm, ⟨53, _⟩ => ⟨S16384x3072, .f32⟩
  | .hbm, ⟨54, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x256, .f32⟩
  | .local _ .vmem, ⟨13, _⟩ => ⟨S1024x256, .f32⟩
  | .local _ .vmem, ⟨14, _⟩ => ⟨S1024x1024, .bf16⟩
  | .local _ .vmem, ⟨15, _⟩ => ⟨S256x512, .bf16⟩
  | .local _ .vmem, ⟨16, _⟩ => ⟨S256x512, .bf16⟩
  | .local _ .vmem, ⟨17, _⟩ => ⟨S16384x512, .bf16⟩
  | .local _ .vmem, ⟨18, _⟩ => ⟨S16384x512, .bf16⟩
  | .local _ .vmem, ⟨19, _⟩ => ⟨S256x512, .f32⟩
  | .local _ .vmem, ⟨20, _⟩ => ⟨S256x512, .f32⟩
  | .local _ .vmem, ⟨21, _⟩ => ⟨S8x128x1, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c3_i32 : BitVec 32 := 3#32
  let v3 : BitVec 1 := Scalar.cmpi .ne arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .eq arg1 c3_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![64], ![false]⟩

def k1_mult1 (i : grid1.Coords) : BitVec 32 :=
  let arg0 : BitVec 32 := BitVec.ofNat 32 (i 0).val
  let c2_i32 : BitVec 32 := 2#32
  let v0 : BitVec 32 := Scalar.muli arg0 c2_i32
  let c0_i32 : BitVec 32 := 0#32
  let v23 : BitVec 32 := Scalar.addi v0 c0_i32
  let c0_i32_12 : BitVec 32 := 0#32
  let v24 : BitVec 32 := Scalar.subi v23 c0_i32_12
  let c0_i32_13 : BitVec 32 := 0#32
  let v25 : BitVec 32 := Scalar.maxsi v24 c0_i32_13
  let c128_i32 : BitVec 32 := 128#32
  let v26 : BitVec 32 := Scalar.muli v25 c128_i32
  v26
def k1_mult2 (i : grid1.Coords) : BitVec 32 :=
  let arg0 : BitVec 32 := BitVec.ofNat 32 (i 0).val
  let c2_i32 : BitVec 32 := 2#32
  let v0 : BitVec 32 := Scalar.muli arg0 c2_i32
  let c1_i32 : BitVec 32 := 1#32
  let v28 : BitVec 32 := Scalar.addi v0 c1_i32
  let c0_i32_14 : BitVec 32 := 0#32
  let v29 : BitVec 32 := Scalar.subi v28 c0_i32_14
  let c0_i32_15 : BitVec 32 := 0#32
  let v30 : BitVec 32 := Scalar.maxsi v29 c0_i32_15
  let c128_i32_16 : BitVec 32 := 128#32
  let v31 : BitVec 32 := Scalar.muli v30 c128_i32_16
  v31
def k1_off1 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v23 : BitVec 32 := Scalar.addi v0 c0_i32
  let c0_i32_12 : BitVec 32 := 0#32
  let v24 : BitVec 32 := Scalar.subi v23 c0_i32_12
  let c0_i32_13 : BitVec 32 := 0#32
  let v25 : BitVec 32 := Scalar.maxsi v24 c0_i32_13
  let c128_i32 : BitVec 32 := 128#32
  let v26 : BitVec 32 := Scalar.muli v25 c128_i32
  let v27 : BitVec 32 := v26
  let v33 : Index := Scalar.indexCast v27
  let c0_17 : Index := 0#32
  ![v33.toNat, 0]
def k1_off2 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v23 : BitVec 32 := Scalar.addi v0 c0_i32
  let c0_i32_12 : BitVec 32 := 0#32
  let v24 : BitVec 32 := Scalar.subi v23 c0_i32_12
  let c0_i32_13 : BitVec 32 := 0#32
  let v25 : BitVec 32 := Scalar.maxsi v24 c0_i32_13
  let c128_i32 : BitVec 32 := 128#32
  let v26 : BitVec 32 := Scalar.muli v25 c128_i32
  let v27 : BitVec 32 := v26
  let v36 : Index := Scalar.indexCast v27
  let c128_18 : Index := 128#32
  ![v36.toNat, 128]
def k1_off3 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v23 : BitVec 32 := Scalar.addi v0 c0_i32
  let c0_i32_12 : BitVec 32 := 0#32
  let v24 : BitVec 32 := Scalar.subi v23 c0_i32_12
  let c0_i32_13 : BitVec 32 := 0#32
  let v25 : BitVec 32 := Scalar.maxsi v24 c0_i32_13
  let c128_i32 : BitVec 32 := 128#32
  let v26 : BitVec 32 := Scalar.muli v25 c128_i32
  let v27 : BitVec 32 := v26
  let v39 : Index := Scalar.indexCast v27
  let c256_19 : Index := 256#32
  ![v39.toNat, 256]
def k1_off4 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v23 : BitVec 32 := Scalar.addi v0 c0_i32
  let c0_i32_12 : BitVec 32 := 0#32
  let v24 : BitVec 32 := Scalar.subi v23 c0_i32_12
  let c0_i32_13 : BitVec 32 := 0#32
  let v25 : BitVec 32 := Scalar.maxsi v24 c0_i32_13
  let c128_i32 : BitVec 32 := 128#32
  let v26 : BitVec 32 := Scalar.muli v25 c128_i32
  let v27 : BitVec 32 := v26
  let v42 : Index := Scalar.indexCast v27
  let c384_20 : Index := 384#32
  ![v42.toNat, 384]
def k1_mult3 (i : grid1.Coords) (arg6 : BitVec 32) : BitVec 32 :=
  let arg0 : BitVec 32 := BitVec.ofNat 32 (i 0).val
  let c2_i32 : BitVec 32 := 2#32
  let v0 : BitVec 32 := Scalar.muli arg0 c2_i32
  let c0_i32_157 : BitVec 32 := 0#32
  let v395 : BitVec 32 := Scalar.addi v0 c0_i32_157
  let v396 : BitVec 32 := Scalar.subi v395 arg6
  let c0_i32_158 : BitVec 32 := 0#32
  let v397 : BitVec 32 := Scalar.maxsi v396 c0_i32_158
  let c128_i32_159 : BitVec 32 := 128#32
  let v398 : BitVec 32 := Scalar.muli v397 c128_i32_159
  v398

def k1_mult4 (i : grid1.Coords) (arg6 : BitVec 32) : BitVec 32 :=
  let arg0 : BitVec 32 := BitVec.ofNat 32 (i 0).val
  let c2_i32 : BitVec 32 := 2#32
  let v0 : BitVec 32 := Scalar.muli arg0 c2_i32
  let c1_i32_160 : BitVec 32 := 1#32
  let v400 : BitVec 32 := Scalar.addi v0 c1_i32_160
  let v401 : BitVec 32 := Scalar.subi v400 arg6
  let c0_i32_161 : BitVec 32 := 0#32
  let v402 : BitVec 32 := Scalar.maxsi v401 c0_i32_161
  let c128_i32_162 : BitVec 32 := 128#32
  let v403 : BitVec 32 := Scalar.muli v402 c128_i32_162
  v403
def k1_off5 (i : grid1.Coords) (arg6 : BitVec 32) (c0_i32_157 : BitVec 32) : Fin 2 → Nat :=
  let arg0 : BitVec 32 := BitVec.ofNat 32 (i 0).val
  let c2_i32 : BitVec 32 := 2#32
  let v0 : BitVec 32 := Scalar.muli arg0 c2_i32
  let v395 : BitVec 32 := Scalar.addi v0 c0_i32_157
  let v396 : BitVec 32 := Scalar.subi v395 arg6
  let c0_i32_158 : BitVec 32 := 0#32
  let v397 : BitVec 32 := Scalar.maxsi v396 c0_i32_158
  let c128_i32_159 : BitVec 32 := 128#32
  let v398 : BitVec 32 := Scalar.muli v397 c128_i32_159
  let v399 : BitVec 32 := v398
  let v405 : Index := Scalar.indexCast v399
  let c0_163 : Index := 0#32
  ![v405.toNat, 0]
def k1_off6 (i : grid1.Coords) (arg6 : BitVec 32) (c0_i32_157 : BitVec 32) : Fin 2 → Nat :=
  let arg0 : BitVec 32 := BitVec.ofNat 32 (i 0).val
  let c2_i32 : BitVec 32 := 2#32
  let v0 : BitVec 32 := Scalar.muli arg0 c2_i32
  let v395 : BitVec 32 := Scalar.addi v0 c0_i32_157
  let v396 : BitVec 32 := Scalar.subi v395 arg6
  let c0_i32_158 : BitVec 32 := 0#32
  let v397 : BitVec 32 := Scalar.maxsi v396 c0_i32_158
  let c128_i32_159 : BitVec 32 := 128#32
  let v398 : BitVec 32 := Scalar.muli v397 c128_i32_159
  let v399 : BitVec 32 := v398
  let v408 : Index := Scalar.indexCast v399
  let c128_164 : Index := 128#32
  ![v408.toNat, 128]
def k1_off7 (i : grid1.Coords) (arg6 : BitVec 32) (c0_i32_157 : BitVec 32) : Fin 2 → Nat :=
  let arg0 : BitVec 32 := BitVec.ofNat 32 (i 0).val
  let c2_i32 : BitVec 32 := 2#32
  let v0 : BitVec 32 := Scalar.muli arg0 c2_i32
  let v395 : BitVec 32 := Scalar.addi v0 c0_i32_157
  let v396 : BitVec 32 := Scalar.subi v395 arg6
  let c0_i32_158 : BitVec 32 := 0#32
  let v397 : BitVec 32 := Scalar.maxsi v396 c0_i32_158
  let c128_i32_159 : BitVec 32 := 128#32
  let v398 : BitVec 32 := Scalar.muli v397 c128_i32_159
  let v399 : BitVec 32 := v398
  let v411 : Index := Scalar.indexCast v399
  let c256_165 : Index := 256#32
  ![v411.toNat, 256]
def k1_off8 (i : grid1.Coords) (arg6 : BitVec 32) (c0_i32_157 : BitVec 32) : Fin 2 → Nat :=
  let arg0 : BitVec 32 := BitVec.ofNat 32 (i 0).val
  let c2_i32 : BitVec 32 := 2#32
  let v0 : BitVec 32 := Scalar.muli arg0 c2_i32
  let v395 : BitVec 32 := Scalar.addi v0 c0_i32_157
  let v396 : BitVec 32 := Scalar.subi v395 arg6
  let c0_i32_158 : BitVec 32 := 0#32
  let v397 : BitVec 32 := Scalar.maxsi v396 c0_i32_158
  let c128_i32_159 : BitVec 32 := 128#32
  let v398 : BitVec 32 := Scalar.muli v397 c128_i32_159
  let v399 : BitVec 32 := v398
  let v414 : Index := Scalar.indexCast v399
  let c384_166 : Index := 384#32
  ![v414.toNat, 384]

def k1_chk1 (i : grid1.Coords) (arg6 : BitVec 32) : Prop :=
  (128 ∣ (k1_mult3 i arg6).toNat) ∧
  (128 ∣ (k1_mult4 i arg6).toNat) ∧
  (∀ (r : Fin 2), ∀ a, (k1_off5 i arg6 (BitVec.ofNat 32 r.val)) a + S128x128.size a ≤ S16384x512.size a) ∧
  (∀ (r : Fin 2), ∀ a, (k1_off6 i arg6 (BitVec.ofNat 32 r.val)) a + S128x128.size a ≤ S16384x512.size a) ∧
  (∀ (r : Fin 2), ∀ a, (k1_off7 i arg6 (BitVec.ofNat 32 r.val)) a + S128x128.size a ≤ S16384x512.size a) ∧
  (∀ (r : Fin 2), ∀ a, (k1_off8 i arg6 (BitVec.ofNat 32 r.val)) a + S128x128.size a ≤ S16384x512.size a)
theorem k1_mult3_dvd : ∀ (i : grid1.Coords) (arg6 : BitVec 32) (k1_hw1 : k1_chk1 i arg6), 128 ∣ (k1_mult3 i arg6).toNat := fun i arg6 k1_hw1 => k1_hw1.1
theorem k1_mult4_dvd : ∀ (i : grid1.Coords) (arg6 : BitVec 32) (k1_hw1 : k1_chk1 i arg6), 128 ∣ (k1_mult4 i arg6).toNat := fun i arg6 k1_hw1 => k1_hw1.2.1
theorem k1_off5_inb : ∀ (i : grid1.Coords) (arg6 : BitVec 32) (k1_hw1 : k1_chk1 i arg6), ∀ (r : Fin 2), ∀ a, (k1_off5 i arg6 (BitVec.ofNat 32 r.val)) a + S128x128.size a ≤ S16384x512.size a := fun i arg6 k1_hw1 r => k1_hw1.2.2.1 r
theorem k1_off6_inb : ∀ (i : grid1.Coords) (arg6 : BitVec 32) (k1_hw1 : k1_chk1 i arg6), ∀ (r : Fin 2), ∀ a, (k1_off6 i arg6 (BitVec.ofNat 32 r.val)) a + S128x128.size a ≤ S16384x512.size a := fun i arg6 k1_hw1 r => k1_hw1.2.2.2.1 r
theorem k1_off7_inb : ∀ (i : grid1.Coords) (arg6 : BitVec 32) (k1_hw1 : k1_chk1 i arg6), ∀ (r : Fin 2), ∀ a, (k1_off7 i arg6 (BitVec.ofNat 32 r.val)) a + S128x128.size a ≤ S16384x512.size a := fun i arg6 k1_hw1 r => k1_hw1.2.2.2.2.1 r
theorem k1_off8_inb : ∀ (i : grid1.Coords) (arg6 : BitVec 32) (k1_hw1 : k1_chk1 i arg6), ∀ (r : Fin 2), ∀ a, (k1_off8 i arg6 (BitVec.ofNat 32 r.val)) a + S128x128.size a ≤ S16384x512.size a := fun i arg6 k1_hw1 r => k1_hw1.2.2.2.2.2 r

def cc1_transform_0 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_1 (i : grid1.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc1_transform_2 (i : grid1.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "skip" => some ⊥
  | _ => none
-- ==== ReferenceIdeal.lean ====
abbrev S1x16384x1024 : Shape := ⟨3, ![1, 16384, 1024]⟩
abbrev S1024 : Shape := ⟨1, ![1024]⟩
abbrev S1024x8208 : Shape := ⟨2, ![1024, 8208]⟩
abbrev S128 : Shape := ⟨1, ![128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8208 : Shape := ⟨2, ![16384, 8208]⟩
abbrev S16384x512 : Shape := ⟨2, ![16384, 512]⟩
abbrev S16384x8 : Shape := ⟨2, ![16384, 8]⟩
abbrev S16384x1536 : Shape := ⟨2, ![16384, 1536]⟩
abbrev S16384x4 : Shape := ⟨2, ![16384, 4]⟩
abbrev S16384x3072 : Shape := ⟨2, ![16384, 3072]⟩
abbrev S16384x4x128 : Shape := ⟨3, ![16384, 4, 128]⟩
abbrev S16384x4x1 : Shape := ⟨3, ![16384, 4, 1]⟩
abbrev S1x1x128 : Shape := ⟨3, ![1, 1, 128]⟩
abbrev S4x16384x16384 : Shape := ⟨3, ![4, 16384, 16384]⟩
abbrev S1x16384 : Shape := ⟨2, ![1, 16384]⟩
abbrev S16384x16384 : Shape := ⟨2, ![16384, 16384]⟩
abbrev S4x128x16384 : Shape := ⟨3, ![4, 128, 16384]⟩

abbrev nBuf : Space → Nat
  | .hbm => 130
  | .vmem => 0
  | .smem => 0
  | _ => 0

abbrev hbmTy0_0 (i : Nat) : BufTy := match i % 128 with
  | 0 => ⟨S1x16384x1024, .f32⟩
  | 1 => ⟨S1024, .f32⟩
  | 2 => ⟨S1024, .f32⟩
  | 3 => ⟨S1024, .f32⟩
  | 4 => ⟨S1024x8208, .f32⟩
  | 5 => ⟨S128, .f32⟩
  | 6 => ⟨S128, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S_, .f32⟩
  | 25 => ⟨S1024, .f32⟩
  | 26 => ⟨S1024, .f32⟩
  | 27 => ⟨S1x1024, .f32⟩
  | 28 => ⟨S16384x1024, .f32⟩
  | 29 => ⟨S16384x1024, .f32⟩
  | 30 => ⟨S1x1024, .f32⟩
  | 31 => ⟨S16384x1024, .f32⟩
  | 32 => ⟨S16384x1024, .f32⟩
  | 33 => ⟨S16384x8208, .f32⟩
  | 34 => ⟨S16384x512, .f32⟩
  | 35 => ⟨S16384x1024, .f32⟩
  | 36 => ⟨S16384x8, .f32⟩
  | 37 => ⟨S16384x1536, .f32⟩
  | 38 => ⟨S16384x1536, .f32⟩
  | 39 => ⟨S16384x4, .f32⟩
  | 40 => ⟨S16384x4, .f32⟩
  | 41 => ⟨S16384x512, .f32⟩
  | 42 => ⟨S16384x3072, .f32⟩
  | 43 => ⟨S16384x512, .f32⟩
  | 44 => ⟨S16384x512, .f32⟩
  | 45 => ⟨S16384x512, .f32⟩
  | 46 => ⟨S16384x4x128, .f32⟩
  | 47 => ⟨S16384x4x128, .f32⟩
  | 48 => ⟨S16384x4x128, .f32⟩
  | 49 => ⟨S16384x4x128, .f32⟩
  | 50 => ⟨S_, .f32⟩
  | 51 => ⟨S16384x4, .f32⟩
  | 52 => ⟨S16384x4x1, .f32⟩
  | 53 => ⟨S_, .f32⟩
  | 54 => ⟨S16384x4x1, .f32⟩
  | 55 => ⟨S16384x4x1, .f32⟩
  | 56 => ⟨S_, .f32⟩
  | 57 => ⟨S16384x4x1, .f32⟩
  | 58 => ⟨S16384x4x1, .f32⟩
  | 59 => ⟨S16384x4x1, .f32⟩
  | 60 => ⟨S16384x4x128, .f32⟩
  | 61 => ⟨S16384x4x128, .f32⟩
  | 62 => ⟨S1x1x128, .f32⟩
  | 63 => ⟨S16384x4x128, .f32⟩
  | 64 => ⟨S16384x4x128, .f32⟩
  | 65 => ⟨S16384x4x128, .f32⟩
  | 66 => ⟨S_, .f32⟩
  | 67 => ⟨S16384x4, .f32⟩
  | 68 => ⟨S16384x4x1, .f32⟩
  | 69 => ⟨S_, .f32⟩
  | 70 => ⟨S16384x4x1, .f32⟩
  | 71 => ⟨S16384x4x1, .f32⟩
  | 72 => ⟨S_, .f32⟩
  | 73 => ⟨S16384x4x1, .f32⟩
  | 74 => ⟨S16384x4x1, .f32⟩
  | 75 => ⟨S16384x4x1, .f32⟩
  | 76 => ⟨S16384x4x128, .f32⟩
  | 77 => ⟨S16384x4x128, .f32⟩
  | 78 => ⟨S1x1x128, .f32⟩
  | 79 => ⟨S16384x4x128, .f32⟩
  | 80 => ⟨S16384x4x128, .f32⟩
  | 81 => ⟨S_, .f32⟩
  | 82 => ⟨S16384x4x128, .f32⟩
  | 83 => ⟨S16384x4x128, .f32⟩
  | 84 => ⟨S4x16384x16384, .f32⟩
  | 85 => ⟨S16384, .i32⟩
  | 86 => ⟨S1x16384, .i32⟩
  | 87 => ⟨S16384x1, .i32⟩
  | 88 => ⟨S16384x16384, .i32⟩
  | 89 => ⟨S16384x16384, .i32⟩
  | 90 => ⟨S16384x16384, .i1⟩
  | 91 => ⟨S4x16384x16384, .f32⟩
  | 92 => ⟨S_, .f32⟩
  | 93 => ⟨S4x16384x16384, .f32⟩
  | 94 => ⟨S4x16384x16384, .f32⟩
  | 95 => ⟨S4x16384x16384, .f32⟩
  | 96 => ⟨S4x16384x16384, .f32⟩
  | 97 => ⟨S4x16384x16384, .i1⟩
  | 98 => ⟨S4x16384x16384, .f32⟩
  | 99 => ⟨S4x16384x16384, .f32⟩
  | 100 => ⟨S4x16384x16384, .f32⟩
  | 101 => ⟨S4x16384x16384, .f32⟩
  | 102 => ⟨S4x16384x16384, .f32⟩
  | 103 => ⟨S4x16384x16384, .f32⟩
  | 104 => ⟨S4x16384x16384, .f32⟩
  | 105 => ⟨S4x16384x16384, .f32⟩
  | 106 => ⟨S4x16384x16384, .f32⟩
  | 107 => ⟨S4x16384x16384, .f32⟩
  | 108 => ⟨S_, .f32⟩
  | 109 => ⟨S_, .f32⟩
  | 110 => ⟨S4x16384x16384, .i1⟩
  | 111 => ⟨S4x16384x16384, .f32⟩
  | 112 => ⟨S4x16384x16384, .f32⟩
  | 113 => ⟨S16384x1, .i32⟩
  | 114 => ⟨S1x16384, .i32⟩
  | 115 => ⟨S16384x16384, .i32⟩
  | 116 => ⟨S16384x16384, .i32⟩
  | 117 => ⟨S16384x16384, .i1⟩
  | 118 => ⟨S16384x16384, .f32⟩
  | 119 => ⟨S4x16384x16384, .f32⟩
  | 120 => ⟨S4x16384x16384, .f32⟩
  | 121 => ⟨S4x16384x16384, .f32⟩
  | 122 => ⟨S_, .f32⟩
  | 123 => ⟨S_, .f32⟩
  | 124 => ⟨S4x16384x16384, .i1⟩
  | 125 => ⟨S4x16384x16384, .f32⟩
  | 126 => ⟨S4x16384x16384, .f32⟩
  | 127 => ⟨S4x128x16384, .f32⟩
  | _ => ⟨S1x16384x1024, .f32⟩

abbrev hbmTy0_1 (i : Nat) : BufTy := match i % 128 with
  | 0 => ⟨S16384x4x128, .f32⟩
  | 1 => ⟨S16384x512, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call0_v0 : Ref sig .tc := ⟨.hbm, 91, rfl⟩
abbrev main_call0_call0_cst : Ref sig .tc := ⟨.hbm, 92, rfl⟩
abbrev main_call0_call0_v0 : Ref sig .tc := ⟨.hbm, 93, rfl⟩
abbrev main_call0_call0_v1 : Ref sig .tc := ⟨.hbm, 94, rfl⟩
abbrev main_call0_call0_v2 : Ref sig .tc := ⟨.hbm, 95, rfl⟩
abbrev main_call0_call0_v3 : Ref sig .tc := ⟨.hbm, 96, rfl⟩
abbrev main_call0_call0_v4 : Ref sig .tc := ⟨.hbm, 97, rfl⟩
abbrev main_call0_call0_v5 : Ref sig .tc := ⟨.hbm, 98, rfl⟩
abbrev main_call0_call0_v6 : Ref sig .tc := ⟨.hbm, 99, rfl⟩
abbrev main_call0_call0_v7 : Ref sig .tc := ⟨.hbm, 100, rfl⟩
abbrev main_call0_call0_v8 : Ref sig .tc := ⟨.hbm, 101, rfl⟩
abbrev main_call0_call0_v9 : Ref sig .tc := ⟨.hbm, 102, rfl⟩
abbrev main_call0_call0_v10 : Ref sig .tc := ⟨.hbm, 103, rfl⟩
abbrev main_call0_call0_v11 : Ref sig .tc := ⟨.hbm, 104, rfl⟩
abbrev main_call0_v1 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_11 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Merge.lean ====
abbrev S16384x512 : Shape := ⟨2, ![16384, 512]⟩
abbrev S16384x3072 : Shape := ⟨2, ![16384, 3072]⟩
abbrev S1x16384x1024 : Shape := ⟨3, ![1, 16384, 1024]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384x5120 : Shape := ⟨2, ![16384, 5120]⟩
abbrev S16384x8192 : Shape := ⟨2, ![16384, 8192]⟩
abbrev S1024x92 : Shape := ⟨2, ![1024, 92]⟩
abbrev S1024x128 : Shape := ⟨2, ![1024, 128]⟩
abbrev S1x92 : Shape := ⟨2, ![1, 92]⟩
abbrev S92 : Shape := ⟨1, ![92]⟩
abbrev S128 : Shape := ⟨1, ![128]⟩
abbrev S16384x1024 : Shape := ⟨2, ![16384, 1024]⟩
abbrev S1x1024 : Shape := ⟨2, ![1, 1024]⟩
abbrev S1x128 : Shape := ⟨2, ![1, 128]⟩
abbrev S131072x128 : Shape := ⟨2, ![131072, 128]⟩
abbrev S16384x128 : Shape := ⟨2, ![16384, 128]⟩
abbrev S8x128 : Shape := ⟨2, ![8, 128]⟩
abbrev S512x512 : Shape := ⟨2, ![512, 512]⟩
abbrev S512x3072 : Shape := ⟨2, ![512, 3072]⟩
abbrev S512x1024 : Shape := ⟨2, ![512, 1024]⟩
abbrev S4096x128 : Shape := ⟨2, ![4096, 128]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩

abbrev nBuf : Space → Nat
  | .hbm => 39
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x3072, .f32⟩
  | .hbm, ⟨4, _⟩ => ⟨S1x16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16384x3072, .bf16⟩
  | .hbm, ⟨16, _⟩ => ⟨S_, .bf16⟩
  | .hbm, ⟨17, _⟩ => ⟨S16384x5120, .bf16⟩
  | .hbm, ⟨18, _⟩ => ⟨S16384x8192, .bf16⟩
  | .hbm, ⟨19, _⟩ => ⟨S_, .f32⟩
  | .hbm, ⟨20, _⟩ => ⟨S1024x92, .f32⟩
  | .hbm, ⟨21, _⟩ => ⟨S1024x128, .f32⟩
  | .hbm, ⟨22, _⟩ => ⟨S1x92, .f32⟩
  | .hbm, ⟨23, _⟩ => ⟨S92, .f32⟩
  | .hbm, ⟨24, _⟩ => ⟨S128, .f32⟩
  | .hbm, ⟨25, _⟩ => ⟨S16384x1024, .f32⟩
  | .hbm, ⟨26, _⟩ => ⟨S3x512x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x128, .f32⟩
  | .hbm, ⟨33, _⟩ => ⟨S16384x1024, .f32⟩
  | .hbm, ⟨34, _⟩ => ⟨S131072x128, .f32⟩
  | .hbm, ⟨35, _⟩ => ⟨S16384x128, .i32⟩
  | .hbm, ⟨36, _⟩ => ⟨S16384x128, .f32⟩
  | .hbm, ⟨37, _⟩ => ⟨S8x128, .f32⟩
  | .hbm, ⟨38, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S512x1024, .f32⟩
  | .local _ .vmem, ⟨19, _⟩ => ⟨S512x1024, .f32⟩
  | .local _ .vmem, ⟨20, _⟩ => ⟨S4096x128, .f32⟩
  | .local _ .vmem, ⟨21, _⟩ => ⟨S4096x128, .f32⟩
  | .local _ .vmem, ⟨22, _⟩ => ⟨S512x128, .i32⟩
  | .local _ .vmem, ⟨23, _⟩ => ⟨S512x128, .i32⟩
  | .local _ .vmem, ⟨24, _⟩ => ⟨S512x128, .f32⟩
  | .local _ .vmem, ⟨25, _⟩ => ⟨S512x128, .f32⟩
  | .local _ .vmem, ⟨26, _⟩ => ⟨S8x128, .f32⟩
  | .local _ .vmem, ⟨27, _⟩ => ⟨S1x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeReferenceIdeal.lean ====
abbrev S16384x512 : Shape := ⟨2, ![16384, 512]⟩
abbrev S16384x3072 : Shape := ⟨2, ![16384, 3072]⟩
abbrev S1x16384x1024 : Shape := ⟨3, ![1, 16384, 1024]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384x3x1024 : Shape := ⟨3, ![16384, 3, 1024]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x1024 : Shape := ⟨2, ![16384, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x3072, .f32⟩
  | .hbm, ⟨4, _⟩ => ⟨S1x16384x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16384x3072, .f32⟩
  | .hbm, ⟨16, _⟩ => ⟨S16384x3072, .f32⟩
  | .hbm, ⟨17, _⟩ => ⟨S_, .f32⟩
  | .hbm, ⟨18, _⟩ => ⟨S16384x3072, .f32⟩
  | .hbm, ⟨19, _⟩ => ⟨S16384x3072, .f32⟩
  | .hbm, ⟨20, _⟩ => ⟨S_, .f32⟩
  | .hbm, ⟨21, _⟩ => ⟨S16384x3072, .f32⟩
  | .hbm, ⟨22, _⟩ => ⟨S16384x3072, .f32⟩
  | .hbm, ⟨23, _⟩ => ⟨S16384x3x1024, .f32⟩
  | .hbm, ⟨24, _⟩ => ⟨S16384x1x512, .f32⟩
  | .hbm, ⟨25, _⟩ => ⟨S16384x1x512, .f32⟩
  | .hbm, ⟨26, _⟩ => ⟨S16384x1x512, .f32⟩
  | .hbm, ⟨27, _⟩ => ⟨S16384x3x512, .f32⟩
  | .hbm, ⟨28, _⟩ => ⟨S3x1024x16384, .f32⟩
  | .hbm, ⟨29, _⟩ => ⟨S16384x3x1024, .f32⟩
  | .hbm, ⟨30, _⟩ => ⟨S16384x3x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Proof.Ideal.Trip.lean ====
/-
  One trip of the attention's loop, and the block that is computed ahead of the loop, each run once at symbolic
  operands.  What a run leaves in the output block and in the eight running sums are terms over the contents it
  started from; they are found by the run and kept as the first component of a subtype.
-/
module

public import proofs.«01_k».proof.KernelIdeal
public import proofs.«01_k».proof.Proof.Gen.KernelIdeal
public import proofs.«01_k».proof.Proof.Gen.KernelIdeal.Skeleton
public import Idealize.ShloMosaic.Lib.Pipeline.Sound
public import Idealize.ShloMosaic.Lib.Tactic

@[expose] public section

set_option maxRecDepth 16384

noncomputable section

namespace Cert.KernelIdeal.Stick

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the rounds library's, for the pipeline's cells. -/
abbrev UR (nD : Nat) (τ : Topo) : Type := URounds (GSem nD τ sig) Unit

local notation "𝕄" => MT nD τ sig Unit (Elt F) ℕ (UR nD τ) ℕ

/-- The contents of the buffer behind a memref on core `c`, -/
abbrev Bf (c : Dev nD) {sp : Space} {S : Shape} {e : EltTy} (M : Memref sig .tc sp S e) : Type :=
  Buf (Elt F) (M.view.loc (c : Thread nD τ))
/-- and that buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The eight query tiles. -/
abbrev Tiles (F : FTy → Type) : Type := Fin 8 → Vec F S128x128 .bf16

/-- The loop goes on at offset `j`: the offset is at most that of the last key block of the lower query block, and the
    flag the trip before left is up. -/
abbrev goesOn (i : grid1.Coords) (j al : BitVec 32) : Prop :=
  Scalar.andi (Scalar.cmpi .sle j (Scalar.subi (Scalar.addi (Scalar.muli (BitVec.ofNat 32 (i 0).val) 2#32) 2#32) 1#32))
    (Scalar.cmpi .sgt al 0#32) = 1#1

/-- One trip at offset `j`: what it leaves in the output block, in the running sums, and the flag it passes on, with the
    run that says so up to the call of the next trip. -/
def trip (c : Dev nD) (i : grid1.Coords)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (q : Tiles F) (suf : FVec F S128x128 .bf16) (j : BitVec 32) (hj : k1_chk1 i j)
    (f2 : Bf (F := F) c M2) (f3 : Bf (F := F) c M3) (f4 : Bf (F := F) c M4) (f5 : Bf (F := F) c M5) :
    { W : Bf (F := F) c M4 × Bf (F := F) c M5 × BitVec 32 × BitVec 32 //
      ∀ (al : BitVec 32) (_ : goesOn i j al) (bd : Option ℕ) (E : Set ℕ) (Q : BitVec 32 × BitVec 32 → sProp 𝕄),
        iprop(pt c M2 f2 ∗ pt c M3 f3 ∗ pt c M4 f4 ∗ pt c M5 f5
          ∗ (iprop(pt c M2 f2 ∗ pt c M3 f3 ∗ pt c M4 W.1 ∗ pt c M5 W.2.1) -∗
              wp frame (wpE (defs₀ (F := F)) Variants.nat c bd) E
                (.op (.call (2 : (Λ₀ F).Label) ⟨i, M2, h2, M3, h3, M5, h5, q 0, q 1, q 2, q 3, q 4, q 5, q 6, q 7, suf, M4, h4,
                  W.2.2.1, W.2.2.2⟩) .ret) Q))
        ⊢ wp frame (wpE (defs₀ (F := F)) Variants.nat c bd) E
            (cc1_while1 i M2 h2 M3 h3 M5 h5 (q 0) (q 1) (q 2) (q 3) (q 4) (q 5) (q 6) (q 7) suf M4 h4 j al) Q } := by
  refine ⟨⟨?_, ?_, ?_, ?_⟩, fun al hal bd E Q => ?run⟩
  case run =>
    simp only [cc1_while1_eq_skeleton]; unfold cc1_while1_skel
    simp only [show (Scalar.andi (Scalar.cmpi .sle j (Scalar.subi (Scalar.addi (Scalar.muli (BitVec.ofNat 32 (i 0).val) 2#32) 2#32) 1#32))
      (Scalar.cmpi .sgt al 0#32) = 1#1) = True from eq_true hal, if_true]
    iintro ⟨H2, H3, H4, H5, Hk⟩
    sl_exec_parts
    iapply Hk
    isplitl [H2]; · iexact H2
    isplitl [H3]; · iexact H3
    isplitl [H4]; · iexact H4
    iexact H5

/-- Tile `n` of the eight: query block `n / 4` of the two, head `n % 4`. -/
abbrev tileOff (n : Fin 8) : Fin 2 → Nat := ![128 * (n.val / 4), 128 * (n.val % 4)]

theorem tileOff_inb (n : Fin 8) : ∀ a, tileOff n a + S128x128.size a ≤ S256x512.size a := by
  revert n; decide

/-- The query tiles read out of the query block's buffer. -/
def qTiles {c : Dev nD} (M1 : Memref sig .tc .vmem S256x512 .bf16) (f1 : Bf (F := F) c M1) : Tiles F := fun n =>
  M1.view.readAt (Elt F) (Rect.unit (s := S256x512) (tileOff n) S128x128.size (tileOff_inb n)).toLoadRect f1

/-- The block ahead of the loop: what it leaves in the output block, in the running sums, and the flag it starts the loop
    with, with the run that says so up to the call of the first trip. -/
def ahead (c : Dev nD) (i : grid1.Coords)
    (M1 : Memref sig .tc .vmem S256x512 .bf16) (h1 : M1.IsWhole)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (f1 : Bf (F := F) c M1) (f2 : Bf (F := F) c M2) (f3 : Bf (F := F) c M3) (f4 : Bf (F := F) c M4) (f5 : Bf (F := F) c M5) :
    { W : Bf (F := F) c M4 × Bf (F := F) c M5 × BitVec 32 × FVec F S128x128 .bf16 × (Vec F S128x128 .bf16 × Vec F S128x128 .bf16 × Vec F S128x128 .bf16 × Vec F S128x128 .bf16) × (Vec F S128x128 .bf16 × Vec F S128x128 .bf16 × Vec F S128x128 .bf16 × Vec F S128x128 .bf16) //
      ∀ (bd : Option ℕ) (E : Set ℕ) (Q : PUnit → sProp 𝕄),
        iprop(pt c M1 f1 ∗ pt c M2 f2 ∗ pt c M3 f3 ∗ pt c M4 f4 ∗ pt c M5 f5
          ∗ (iprop(pt c M1 f1 ∗ pt c M2 f2 ∗ pt c M3 f3 ∗ pt c M4 W.1 ∗ pt c M5 W.2.1) -∗
              wp frame (wpE (defs₀ (F := F)) Variants.nat c bd) E
                (.op (.call (2 : (Λ₀ F).Label) ⟨i, M2, h2, M3, h3, M5, h5, W.2.2.2.2.1.1, W.2.2.2.2.1.2.1, W.2.2.2.2.1.2.2.1, W.2.2.2.2.1.2.2.2,
                  W.2.2.2.2.2.1, W.2.2.2.2.2.2.1, W.2.2.2.2.2.2.2.1, W.2.2.2.2.2.2.2.2, W.2.2.2.1, M4, h4,
                  1#32, W.2.2.1⟩) fun _ => .ret ⟨⟩) Q))
        ⊢ wp frame (wpE (defs₀ (F := F)) Variants.nat c bd) E
            (cc1_stick_breaking i M1 h1 M2 h2 M3 h3 M4 h4 M5 h5) Q } := by
  refine ⟨⟨?_, ?_, ?_, ?_, ⟨?_, ?_, ?_, ?_⟩, ⟨?_, ?_, ?_, ?_⟩⟩, fun bd E Q => ?run⟩
  case run =>
    simp only [cc1_stick_breaking_eq_skeleton]; unfold cc1_stick_breaking_skel
    iintro ⟨H1, H2, H3, H4, H5, Hk⟩
    sl_exec_parts
    iapply Hk
    isplitl [H1]; · iexact H1
    isplitl [H2]; · iexact H2
    isplitl [H3]; · iexact H3
    isplitl [H4]; · iexact H4
    iexact H5

end Cert.KernelIdeal.Stick

end
-- ==== Proof.Ideal.Tile.lean ====
/-
  The arithmetic of one tile of the attention: a query tile against a key tile and a value tile, over any float
  operations.  All eight tiles of a block, ahead of the loop and in it, are instances of these.
-/
module

public import proofs.«01_k».proof.Proof.Ideal.Trip
public import Idealize.ShloMosaic.Lib.Pipeline.FrameBody
public import Idealize.ShloMosaic.Lib.Writes

@[expose] public section

set_option maxRecDepth 16384

noncomputable section

namespace Cert.KernelIdeal.Stick

open Cert.KernelIdeal Cert.KernelIdeal.Gen
open Idealize.ShloMosaic
open Idealize.ShloMosaic.TcCoe

variable {F : FTy → Type} [FloatOps F] [Named F]

/-- A 128 × 128 tile and a column of 128 row sums. -/
abbrev Tl (F : FTy → Type) : Type := FVec F S128x128 .f32
abbrev Cl (F : FTy → Type) : Type := FVec F S128x1 .f32

/-- The zero tile and the zero column. -/
def zeroT : Tl F := broadcast S128x128 (Scalar.ofBits .f32 0x00000000#32)
def zeroC : Cl F := broadcast S128x1 (Scalar.ofBits .f32 0x00000000#32)

/-- The scores of a query tile against a key tile. -/
def scores (q k : Vec F S128x128 .bf16) : Tl F :=
  matmul dot_S128x128_S128x128_S128x128_1_1_0_0_n_n none q k (constant S128x128 .f32 0x00000000#32)

/-- `log (1 + exp z)`, from the parts that never overflow. -/
def softplus (z : Tl F) : Tl F :=
  addf (maximumf z zeroT) (log (addf (broadcast S128x128 (Scalar.ofBits .f32 0x3F800000#32)) (exp (subf zeroT (absf z)))))

/-- The log of what a key leaves of the stick. -/
def keep (z : Tl F) : Tl F := subf zeroT (softplus z)

/-- The positions of a diagonal tile whose key comes before the query, -/
def before : IVec S128x128 1 := cmpi .slt (iota .tc S128x128 32 [1] iota_S128x128_d1_w32) (iota .tc S128x128 32 [0] iota_S128x128_d0_w32)
/-- and the logs there, zero elsewhere. -/
def keepD (z : Tl F) : Tl F := select before (keep z) zeroT

/-- The part of a tile kept in half the width and the part that is left. -/
def hi (x : Tl F) : FVec F S128x128 .bf16 := truncf .bf16 x bitsLt_bf16_f32
def lo (x : Tl F) : FVec F S128x128 .bf16 := truncf .bf16 (subf x (extf .f32 (hi x) bitsLt_bf16_f32)) bitsLt_bf16_f32

/-- The product of a tile with a tile of half the width, from zero. -/
def times (x y : FVec F S128x128 .bf16) : Tl F :=
  matmul dot_S128x128_S128x128_S128x128_1_0_0_1_n_n none x y (constant S128x128 .f32 0x00000000#32)

/-- The log of what the later keys left: those of the tile by the product with `suf`, those of later tiles in `acc`. -/
def later (suf : FVec F S128x128 .bf16) (x : Tl F) (acc : Cl F) : Tl F :=
  addf (addf (times (hi x) suf) (times (lo x) suf)) (broadcastTo S128x128 acc broadcasts_S128x1_S128x128)

/-- The weights. -/
def weight (z a : Tl F) : Tl F := exp (addf (subf z (softplus z)) a)

/-- The row sums of a tile. -/
def rowSum (x : Tl F) : Cl F :=
  shapeCast S128x1 (multiReduction .add [1] S128 x 0x00000000#32 reduces_S128x128_S128 (.inl rfl) rfl) shapeCasts_S128_S128x1

/-- One when query block `2 i + r` has a key block `j` before it, else zero. -/
def valid (i : grid1.Coords) (j r : BitVec 32) : F .f32 :=
  Scalar.select (Scalar.cmpi .sge (Scalar.subi (Scalar.addi (Scalar.muli (BitVec.ofNat 32 (i 0).val) 2#32) r) j) 0#32)
    (Scalar.ofBits .f32 0x3F800000#32) (Scalar.ofBits .f32 0x00000000#32)

/-- A tile of the diagonal block: the output and the row sums. -/
def diagOut (suf : FVec F S128x128 .bf16) (q k v : Vec F S128x128 .bf16) : Tl F :=
  times (truncf .bf16 (select before (weight (scores q k) (later suf (keepD (scores q k)) zeroC)) zeroT) bitsLt_bf16_f32) v
def diagSum (q k : Vec F S128x128 .bf16) : Cl F := rowSum (keepD (scores q k))

/-- A tile of an earlier block: the output and the row sums after it, from those before it. -/
def tripOut (suf : FVec F S128x128 .bf16) (ok : F .f32) (q k v : Vec F S128x128 .bf16) (acc : Cl F) (old : Tl F) : Tl F :=
  addf old (mulf (times (truncf .bf16 (weight (scores q k) (later suf (keep (scores q k)) acc)) bitsLt_bf16_f32) v)
    (broadcast S128x128 ok))
def tripSum (ok : F .f32) (q k : Vec F S128x128 .bf16) (acc : Cl F) : Cl F :=
  addf acc (mulf (rowSum (keep (scores q k))) (broadcast S128x1 ok))

/-- The flag: some running sum is above the bound below which nothing is left. -/
def flag (s : Fin 8 → Cl F) : BitVec 32 :=
  Scalar.extui (Scalar.cmpf .ogt
    (extractAt ![0, 0, 0] (shapeCast S1x1x1 (multiReduction .maximumf [1, 2] S1
      (shapeCast S1x128x1 (maximumf (maximumf (maximumf (maximumf (maximumf (maximumf (maximumf
        (s 0) (s 1)) (s 2)) (s 3)) (s 4)) (s 5)) (s 6)) (s 7)) shapeCasts_S128x1_S1x128x1)
      0xFF800000#32 reduces_S1x128x1_S1 (.inl rfl) rfl) shapeCasts_S1_S1x1x1) inpos_S1x1x1_p0_0_0)
    (Named.named κ "skip" 0xC2DC0000#32))

/-- Where key tile `n` of trip `j` starts. -/
def keyOff (i : grid1.Coords) (j : BitVec 32) : Fin 8 → Fin 2 → Nat
  | 0 => k1_off5 i j 0#32 | 1 => k1_off6 i j 0#32 | 2 => k1_off7 i j 0#32 | 3 => k1_off8 i j 0#32
  | 4 => k1_off5 i j 1#32 | 5 => k1_off6 i j 1#32 | 6 => k1_off7 i j 1#32 | 7 => k1_off8 i j 1#32

theorem keyOff_inb {i : grid1.Coords} {j : BitVec 32} (h : k1_chk1 i j) (n : Fin 8) :
    ∀ a, keyOff i j n a + S128x128.size a ≤ S16384x512.size a := by
  match n with
  | 0 => exact h.2.2.1 0 | 1 => exact h.2.2.2.1 0 | 2 => exact h.2.2.2.2.1 0 | 3 => exact h.2.2.2.2.2 0
  | 4 => exact h.2.2.1 1 | 5 => exact h.2.2.2.1 1 | 6 => exact h.2.2.2.2.1 1 | 7 => exact h.2.2.2.2.2 1

/-- Where key tile `n` of the diagonal block starts. -/
def diagOff (i : grid1.Coords) : Fin 8 → Fin 2 → Nat
  | 0 => k1_off1 i 0#32 | 1 => k1_off2 i 0#32 | 2 => k1_off3 i 0#32 | 3 => k1_off4 i 0#32
  | 4 => k1_off1 i 1#32 | 5 => k1_off2 i 1#32 | 6 => k1_off3 i 1#32 | 7 => k1_off4 i 1#32

theorem diagOff_eq (i : grid1.Coords) (n : Fin 8) :
    diagOff i n = ![256 * (i 0).val + 128 * (n.val / 4), 128 * (n.val % 4)] := by
  match n with
  | 0 => exact k1_off1_eq i 0 | 1 => exact k1_off2_eq i 0 | 2 => exact k1_off3_eq i 0 | 3 => exact k1_off4_eq i 0
  | 4 => exact k1_off1_eq i 1 | 5 => exact k1_off2_eq i 1 | 6 => exact k1_off3_eq i 1 | 7 => exact k1_off4_eq i 1

theorem diagOff_inb (i : grid1.Coords) (n : Fin 8) : ∀ a, diagOff i n a + S128x128.size a ≤ S16384x512.size a := by
  match n with
  | 0 => exact k1_off1_inb i 0 | 1 => exact k1_off2_inb i 0 | 2 => exact k1_off3_inb i 0 | 3 => exact k1_off4_inb i 0
  | 4 => exact k1_off1_inb i 1 | 5 => exact k1_off2_inb i 1 | 6 => exact k1_off3_inb i 1 | 7 => exact k1_off4_inb i 1

/-- A tile of a keys' or values' array. -/
abbrev keyTile (X : Vec F S16384x512 .bf16) (off : Fin 2 → Nat) (h : ∀ a, off a + S128x128.size a ≤ S16384x512.size a) :
    Vec F S128x128 .bf16 :=
  shapeCast S128x128 (View.ld X (Rect.unit (s := S16384x512) off S128x128.size h)) shapeCasts_S128x128_S128x128

/-- Tile `n` of the query block, of the output block, and column `n` of the running sums. -/
abbrev qTile (X : Vec F S256x512 .bf16) (n : Fin 8) : Vec F S128x128 .bf16 :=
  shapeCast S128x128 (View.ld X (Rect.unit (s := S256x512) (tileOff n) S128x128.size (tileOff_inb n))) shapeCasts_S128x128_S128x128
abbrev outTile (X : Vec F S256x512 .f32) (n : Fin 8) : Tl F :=
  shapeCast S128x128 (View.ld X (Rect.unit (s := S256x512) (tileOff n) S128x128.size (tileOff_inb n))) shapeCasts_S128x128_S128x128
theorem sumOff_inb (n : Fin 8) : ∀ a, (![n.val, 0, 0] : Fin 3 → Nat) a + S1x128x1.size a ≤ S8x128x1.size a := by
  revert n; decide
abbrev sumTile (X : Vec F S8x128x1 .f32) (n : Fin 8) : Cl F :=
  shapeCast S128x1 (View.ld X (Rect.unit (s := S8x128x1) ![n.val, 0, 0] S1x128x1.size (sumOff_inb n))) shapeCasts_S1x128x1_S128x1

end Cert.KernelIdeal.Stick

end
-- ==== Proof.Ideal.Closed.lean ====
/-
  What one trip, and the block ahead of the loop, leave in the output block and in the running sums, written with the
  arithmetic of one tile.
-/
module

public import proofs.«01_k».proof.Proof.Ideal.Tile

@[expose] public section

set_option maxRecDepth 16384

noncomputable section

namespace Cert.KernelIdeal.Stick

open Cert.KernelIdeal Cert.KernelIdeal.Gen
open Idealize.ShloMosaic
open Idealize.ShloMosaic.TcCoe

variable {F : FTy → Type} [FloatOps F] [Named F]

/-- The tile of the output block that holds a place, and the place in that tile. -/
def tileOf (y : S256x512.Idx) : Fin 8 := ⟨(y 0).val / 128 * 4 + (y 1).val / 128, by
  have h0 : (y 0).val < 256 := (y 0).isLt
  have h1 : (y 1).val < 512 := (y 1).isLt
  omega⟩
def inTile (y : S256x512.Idx) : S128x128.Idx :=
  fun a => match a with
    | 0 => ⟨(y 0).val % 128, Nat.mod_lt _ (by decide)⟩
    | 1 => ⟨(y 1).val % 128, Nat.mod_lt _ (by decide)⟩

/-- The output block from its eight tiles, and the running sums from their eight columns. -/
def ofTiles (T : Fin 8 → Tl F) : Vec F S256x512 .f32 := fun y => T (tileOf y) (inTile y)
def ofCols (C : Fin 8 → Cl F) : Vec F S8x128x1 .f32 := fun y =>
  shapeCast S1x128x1 (C ⟨(y 0).val, (y 0).isLt⟩) shapeCasts_S128x1_S1x128x1 (fun a => match a with
    | 0 => ⟨0, by decide⟩ | 1 => ⟨(y 1).val, (y 1).isLt⟩ | 2 => ⟨(y 2).val, (y 2).isLt⟩)

theorem tileOf_emb (n : Fin 8) (x : S128x128.Idx) :
    tileOf ((Rect.unit (s := S256x512) (tileOff n) S128x128.size (tileOff_inb n)).emb x) = n := by
  have h0 : (x 0).val < 128 := (x 0).isLt
  have h1 : (x 1).val < 128 := (x 1).isLt
  apply Fin.ext
  show (128 * (n.val / 4) + 1 * (x 0).val) / 128 * 4 + (128 * (n.val % 4) + 1 * (x 1).val) / 128 = n.val
  omega

theorem inTile_emb (n : Fin 8) (x : S128x128.Idx) :
    inTile ((Rect.unit (s := S256x512) (tileOff n) S128x128.size (tileOff_inb n)).emb x) = x := by
  have h0 : (x 0).val < 128 := (x 0).isLt
  have h1 : (x 1).val < 128 := (x 1).isLt
  funext a
  match a with
  | 0 => apply Fin.ext; show (128 * (n.val / 4) + 1 * (x 0).val) % 128 = (x 0).val; omega
  | 1 => apply Fin.ext; show (128 * (n.val % 4) + 1 * (x 1).val) % 128 = (x 1).val; omega

theorem ofTiles_emb (T : Fin 8 → Tl F) (n : Fin 8) (x : S128x128.Idx) :
    ofTiles T ((Rect.unit (s := S256x512) (tileOff n) S128x128.size (tileOff_inb n)).emb x) = T n x := by
  rw [ofTiles, tileOf_emb, inTile_emb]

theorem ofCols_emb (C : Fin 8 → Cl F) (n : Fin 8) (x : S1x128x1.Idx) :
    ofCols C ((Rect.unit (s := S8x128x1) ![n.val, 0, 0] S1x128x1.size (sumOff_inb n)).emb x)
      = shapeCast S1x128x1 (C n) shapeCasts_S128x1_S1x128x1 x := by
  have h0 : (x 0).val < 1 := (x 0).isLt
  have hn : ∀ m : Fin 8, m.val = n.val + 1 * (x 0).val → m = n := fun m h => Fin.ext (by omega)
  have hx : (fun a => match a with
    | 0 => (⟨0, by decide⟩ : Fin 1) | 1 => ⟨0 + 1 * (x 1).val, by have := (x 1).isLt; omega⟩ | 2 => ⟨0 + 1 * (x 2).val, by have := (x 2).isLt; omega⟩ : S1x128x1.Idx) = x := by
    funext a
    match a with
    | 0 => exact Fin.ext (by show 0 = (x 0).val; omega)
    | 1 => exact Fin.ext (by show 0 + 1 * (x 1).val = (x 1).val; omega)
    | 2 => exact Fin.ext (by show 0 + 1 * (x 2).val = (x 2).val; omega)
  exact (congrArg (fun m => shapeCast S1x128x1 (C m) shapeCasts_S128x1_S1x128x1 _) (hn _ rfl)).trans
    (congrArg (shapeCast S1x128x1 (C n) shapeCasts_S128x1_S1x128x1) hx)

/-- The tiles and columns of the block ahead of the loop. -/
def aheadT (i : grid1.Coords) (X1 : Vec F S256x512 .bf16) (X2 X3 : Vec F S16384x512 .bf16) (n : Fin 8) : Tl F :=
  diagOut k1_pay8 (qTile X1 n) (keyTile X2 (diagOff i n) (diagOff_inb i n)) (keyTile X3 (diagOff i n) (diagOff_inb i n))
def aheadC (i : grid1.Coords) (X1 : Vec F S256x512 .bf16) (X2 : Vec F S16384x512 .bf16) (n : Fin 8) : Cl F :=
  diagSum (qTile X1 n) (keyTile X2 (diagOff i n) (diagOff_inb i n))

/-- The tiles and columns after a trip. -/
def tripT (i : grid1.Coords) (q : Tiles F) (suf : FVec F S128x128 .bf16) (j : BitVec 32) (hj : k1_chk1 i j)
    (X2 X3 : Vec F S16384x512 .bf16) (X4 : Vec F S256x512 .f32) (X5 : Vec F S8x128x1 .f32) (n : Fin 8) : Tl F :=
  tripOut suf (valid i j (BitVec.ofNat 32 (n.val / 4))) (q n) (keyTile X2 (keyOff i j n) (keyOff_inb hj n))
    (keyTile X3 (keyOff i j n) (keyOff_inb hj n)) (sumTile X5 n) (outTile X4 n)
def tripC (i : grid1.Coords) (q : Tiles F) (j : BitVec 32) (hj : k1_chk1 i j)
    (X2 : Vec F S16384x512 .bf16) (X5 : Vec F S8x128x1 .f32) (n : Fin 8) : Cl F :=
  tripSum (valid i j (BitVec.ofNat 32 (n.val / 4))) (q n) (keyTile X2 (keyOff i j n) (keyOff_inb hj n)) (sumTile X5 n)

section
variable (c : Dev nD) (i : grid1.Coords)
    (M1 : Memref sig .tc .vmem S256x512 .bf16) (h1 : M1.IsWhole)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (q : Tiles F) (suf : FVec F S128x128 .bf16) (j : BitVec 32) (hj : k1_chk1 i j)
    (f1 : Bf (F := F) c M1) (f2 : Bf (F := F) c M2) (f3 : Bf (F := F) c M3) (f4 : Bf (F := F) c M4) (f5 : Bf (F := F) c M5)

/-- The stores of the eight tiles, the last one first, and of the eight columns. -/
def tilePieces (T : Fin 8 → Tl F) : List (View.Piece (Elt F) S256x512 .f32) :=
  [7, 6, 5, 4, 3, 2, 1, 0].map fun n : Fin 8 => ⟨Rect.unit (s := S256x512) (tileOff n) S128x128.size (tileOff_inb n), T n⟩
def colPieces (C : Fin 8 → Cl F) : List (View.Piece (Elt F) S8x128x1 .f32) :=
  [7, 6, 5, 4, 3, 2, 1, 0].map fun n : Fin 8 => ⟨Rect.unit (s := S8x128x1) ![n.val, 0, 0] S1x128x1.size (sumOff_inb n),
    shapeCast S1x128x1 (C n) shapeCasts_S128x1_S1x128x1⟩

theorem mem_all (n : Fin 8) : n ∈ ([7, 6, 5, 4, 3, 2, 1, 0] : List (Fin 8)) := by revert n; decide

include f4 in
theorem read_tilePieces (T : Fin 8 → Tl F) : M4.view.read (Elt F) (M4.view.writes (Elt F) f4 (tilePieces T)) = ofTiles T := by
  funext y
  refine View.read_writes_apply_of_pieces M4.view _ (ofTiles T) (tilePieces T) ?_ y ?_
  · intro p hp x
    obtain ⟨n, -, rfl⟩ := List.mem_map.mp hp
    exact (ofTiles_emb T n x).symm
  · refine ⟨_, List.mem_map.mpr ⟨tileOf y, mem_all _, rfl⟩, ?_⟩
    have h0 : (y 0).val < 256 := (y 0).isLt
    have h1 : (y 1).val < 512 := (y 1).isLt
    refine (Rect.mem_set_unit (inb := tileOff_inb (tileOf y))).mpr fun a => ?_
    match a with
    | 0 =>
      show 128 * (((y 0).val / 128 * 4 + (y 1).val / 128) / 4) ≤ (y 0).val
        ∧ (y 0).val < 128 * (((y 0).val / 128 * 4 + (y 1).val / 128) / 4) + 128
      omega
    | 1 =>
      show 128 * (((y 0).val / 128 * 4 + (y 1).val / 128) % 4) ≤ (y 1).val
        ∧ (y 1).val < 128 * (((y 0).val / 128 * 4 + (y 1).val / 128) % 4) + 128
      omega

theorem read_colPieces (C : Fin 8 → Cl F) : M5.view.read (Elt F) (M5.view.writes (Elt F) f5 (colPieces C)) = ofCols C := by
  funext y
  refine View.read_writes_apply_of_pieces M5.view _ (ofCols C) (colPieces C) ?_ y ?_
  · intro p hp x
    obtain ⟨n, -, rfl⟩ := List.mem_map.mp hp
    exact (ofCols_emb C n x).symm
  · have h0 : (y 0).val < 8 := (y 0).isLt
    have h1 : (y 1).val < 128 := (y 1).isLt
    have h2 : (y 2).val < 1 := (y 2).isLt
    refine ⟨_, List.mem_map.mpr ⟨⟨(y 0).val, h0⟩, mem_all _, rfl⟩, ?_⟩
    refine (Rect.mem_set_unit (inb := sumOff_inb ⟨(y 0).val, h0⟩)).mpr fun a => ?_
    match a with
    | 0 => exact ⟨Nat.le_refl _, Nat.lt_succ_self _⟩
    | 1 => exact ⟨Nat.zero_le _, by show (y 1).val < 0 + 128; omega⟩
    | 2 => exact ⟨Nat.zero_le _, by show (y 2).val < 0 + 1; omega⟩

theorem trip_out : (trip c i M2 h2 M3 h3 M4 h4 M5 h5 q suf j hj f2 f3 f4 f5).1.1
    = M4.view.writes (Elt F) f4 (tilePieces (tripT i q suf j hj (M2.view.read (Elt F) f2) (M3.view.read (Elt F) f3)
        (M4.view.read (Elt F) f4) (M5.view.read (Elt F) f5))) := rfl

theorem trip_sum : (trip c i M2 h2 M3 h3 M4 h4 M5 h5 q suf j hj f2 f3 f4 f5).1.2.1
    = M5.view.writes (Elt F) f5 (colPieces (tripC i q j hj (M2.view.read (Elt F) f2) (M5.view.read (Elt F) f5))) := rfl

theorem trip_next : (trip c i M2 h2 M3 h3 M4 h4 M5 h5 q suf j hj f2 f3 f4 f5).1.2.2.1 = Scalar.addi j 1#32 := rfl

theorem trip_flag : (trip c i M2 h2 M3 h3 M4 h4 M5 h5 q suf j hj f2 f3 f4 f5).1.2.2.2
    = flag (tripC i q j hj (M2.view.read (Elt F) f2) (M5.view.read (Elt F) f5)) := rfl

theorem ahead_out : (ahead c i M1 h1 M2 h2 M3 h3 M4 h4 M5 h5 f1 f2 f3 f4 f5).1.1
    = M4.view.writes (Elt F) f4 (tilePieces (aheadT i (M1.view.read (Elt F) f1) (M2.view.read (Elt F) f2) (M3.view.read (Elt F) f3))) := rfl

theorem ahead_sum : (ahead c i M1 h1 M2 h2 M3 h3 M4 h4 M5 h5 f1 f2 f3 f4 f5).1.2.1
    = M5.view.writes (Elt F) f5 (colPieces (aheadC i (M1.view.read (Elt F) f1) (M2.view.read (Elt F) f2))) := rfl

theorem ahead_flag : (ahead c i M1 h1 M2 h2 M3 h3 M4 h4 M5 h5 f1 f2 f3 f4 f5).1.2.2.1
    = flag (aheadC i (M1.view.read (Elt F) f1) (M2.view.read (Elt F) f2)) := rfl

theorem ahead_suf : (ahead c i M1 h1 M2 h2 M3 h3 M4 h4 M5 h5 f1 f2 f3 f4 f5).1.2.2.2.1 = k1_pay8 := rfl

theorem ahead_q : (ahead c i M1 h1 M2 h2 M3 h3 M4 h4 M5 h5 f1 f2 f3 f4 f5).1.2.2.2.2
    = ((qTile (M1.view.read (Elt F) f1) 0, qTile (M1.view.read (Elt F) f1) 1, qTile (M1.view.read (Elt F) f1) 2, qTile (M1.view.read (Elt F) f1) 3),
       (qTile (M1.view.read (Elt F) f1) 4, qTile (M1.view.read (Elt F) f1) 5, qTile (M1.view.read (Elt F) f1) 6, qTile (M1.view.read (Elt F) f1) 7)) := rfl

end

end Cert.KernelIdeal.Stick

end
-- ==== Proof.Ideal.Loop.lean ====
/-
  The loop of the attention: where the key tiles of a trip lie, what all the trips left to go leave, and the run of the
  loop from any offset.
-/
module

public import proofs.«01_k».proof.Proof.Ideal.Closed

@[expose] public section

set_option maxRecDepth 16384

noncomputable section

namespace Cert.KernelIdeal.Stick

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-! ### Where the key tiles lie -/

/-- The first row of key block `2 a + b - j`, which is block 0 where there is none, as the kernel computes it. -/
def keyRow (a b j : Nat) : BitVec 32 :=
  Scalar.muli (Scalar.maxsi (Scalar.subi (Scalar.addi (Scalar.muli (BitVec.ofNat 32 a) 2#32) (BitVec.ofNat 32 b)) (BitVec.ofNat 32 j)) 0#32) 128#32

theorem keyRow_toNat' : ∀ (a : Fin 64) (b : Fin 2) (j : Fin 130), (keyRow a b j).toNat = 128 * (2 * a.val + b.val - j.val) := by
  decide +kernel

theorem keyRow_toNat (i : grid1.Coords) (b : Fin 2) {j : Nat} (hj : j < 130) :
    (keyRow (i 0).val b.val j).toNat = 128 * (2 * (i 0).val + b.val - j) := keyRow_toNat' (i 0) b ⟨j, hj⟩

theorem keyOff_eq (i : grid1.Coords) {j : Nat} (hj : j < 130) (n : Fin 8) :
    keyOff i (BitVec.ofNat 32 j) n = ![128 * (2 * (i 0).val + n.val / 4 - j), 128 * (n.val % 4)] := by
  have h0 := keyRow_toNat i 0 hj
  have h1 := keyRow_toNat i 1 hj
  match n with
  | 0 => exact congrArg (fun m => ![m, 0]) h0 | 1 => exact congrArg (fun m => ![m, 128]) h0
  | 2 => exact congrArg (fun m => ![m, 256]) h0 | 3 => exact congrArg (fun m => ![m, 384]) h0
  | 4 => exact congrArg (fun m => ![m, 0]) h1 | 5 => exact congrArg (fun m => ![m, 128]) h1
  | 6 => exact congrArg (fun m => ![m, 256]) h1 | 7 => exact congrArg (fun m => ![m, 384]) h1

/-- What a trip asks of its offset holds of every offset up to 129. -/
theorem chk (i : grid1.Coords) {j : Nat} (hj : j < 130) : k1_chk1 i (BitVec.ofNat 32 j) := by
  have hi : (i 0).val < 64 := (i 0).isLt
  have h0 := keyRow_toNat i 0 hj
  have h1 := keyRow_toNat i 1 hj
  have hb : ∀ n : Fin 8, ∀ a, keyOff i (BitVec.ofNat 32 j) n a + S128x128.size a ≤ S16384x512.size a := fun n a => by
    rw [keyOff_eq i hj n]
    match a with
    | 0 => show 128 * (2 * (i 0).val + n.val / 4 - j) + 128 ≤ 16384; omega
    | 1 => show 128 * (n.val % 4) + 128 ≤ 512; omega
  refine ⟨⟨_, h0⟩, ⟨_, h1⟩, fun r => ?_, fun r => ?_, fun r => ?_, fun r => ?_⟩ <;> match r with
    | 0 => first | exact hb 0 | exact hb 1 | exact hb 2 | exact hb 3
    | 1 => first | exact hb 4 | exact hb 5 | exact hb 6 | exact hb 7

/-! ### The trips left to go -/

/-- The output tiles, the running sums and the flag between two trips. -/
structure Mid (F : FTy → Type) where
  T : Fin 8 → Tl F
  C : Fin 8 → Cl F
  al : BitVec 32

/-- One trip, -/
def next (i : grid1.Coords) (q : Tiles F) (suf : FVec F S128x128 .bf16) (X2 X3 : Vec F S16384x512 .bf16) (j : Nat) (hj : j < 130)
    (s : Mid F) : Mid F where
  T := tripT i q suf (BitVec.ofNat 32 j) (chk i hj) X2 X3 (ofTiles s.T) (ofCols s.C)
  C := tripC i q (BitVec.ofNat 32 j) (chk i hj) X2 (ofCols s.C)
  al := flag (tripC i q (BitVec.ofNat 32 j) (chk i hj) X2 (ofCols s.C))

/-- and the trips from offset `j` on, at most `k` of them. -/
def rest (i : grid1.Coords) (q : Tiles F) (suf : FVec F S128x128 .bf16) (X2 X3 : Vec F S16384x512 .bf16) :
    (k j : Nat) → j + k ≤ 130 → Mid F → Mid F
  | 0, _, _, s => s
  | k + 1, j, h, s =>
    if goesOn i (BitVec.ofNat 32 j) s.al then
      rest i q suf X2 X3 k (j + 1) (by omega) (next i q suf X2 X3 j (by omega) s)
    else s

/-- What is left when the loop is over: the output block and the running sums of `rest`. -/
def loop (i : grid1.Coords) (X1 : Vec F S256x512 .bf16) (X2 X3 : Vec F S16384x512 .bf16) : Mid F :=
  rest i (qTile X1) k1_pay8 X2 X3 (2 * (i 0).val + 1) 1 (by have : (i 0).val < 64 := (i 0).isLt; omega)
    ⟨aheadT i X1 X2 X3, aheadC i X1 X2, flag (aheadC i X1 X2)⟩

/-- Past the last offset the loop does not go on. -/
theorem goesOn_le : ∀ (a : Fin 64) (j : Fin 130),
    Scalar.cmpi .sle (BitVec.ofNat 32 j.val) (Scalar.subi (Scalar.addi (Scalar.muli (BitVec.ofNat 32 a.val) 2#32) 2#32) 1#32)
      = (if j.val ≤ 2 * a.val + 1 then 1#1 else 0#1) := by
  decide +kernel

theorem not_goesOn (i : grid1.Coords) {j : Nat} (h : 2 * (i 0).val + 1 < j) (hj : j < 130) (al : BitVec 32) :
    ¬ goesOn i (BitVec.ofNat 32 j) al := by
  rw [goesOn, goesOn_le (i 0) ⟨j, hj⟩, if_neg (Nat.not_le.mpr h)]
  show ¬ (0#1 &&& _ = 1#1)
  rw [BitVec.zero_and]
  decide

section
variable (c : Dev nD) (i : grid1.Coords)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (q : Tiles F) (suf : FVec F S128x128 .bf16) (f2 : Bf (F := F) c M2) (f3 : Bf (F := F) c M3)

/-- The loop entered at offset `j` with `k` offsets to go takes the buffers at the tiles and columns of `s` to those of
    `rest`. -/
def loopSpec (k j : Nat) (h : j + k ≤ 130) (s : Mid F) : sWPT 𝕄 (BitVec 32 × BitVec 32) := do
  sWPT.consume iprop(∃ f4 : Bf (F := F) c M4, ∃ f5 : Bf (F := F) c M5,
    ⌜M4.view.read (Elt F) f4 = ofTiles s.T ∧ M5.view.read (Elt F) f5 = ofCols s.C⌝
      ∗ pt c M2 f2 ∗ pt c M3 f3 ∗ pt c M4 f4 ∗ pt c M5 f5)
  let r ← sWPT.arbitrary
  sWPT.produce iprop(∃ f4 : Bf (F := F) c M4, ∃ f5 : Bf (F := F) c M5,
    ⌜M4.view.read (Elt F) f4 = ofTiles (rest i q suf (M2.view.read (Elt F) f2) (M3.view.read (Elt F) f3) k j h s).T⌝
      ∗ pt c M2 f2 ∗ pt c M3 f3 ∗ pt c M4 f4 ∗ pt c M5 f5)
  pure r

theorem loopSpec_apply (k j : Nat) (h : j + k ≤ 130) (s : Mid F) (K : BitVec 32 × BitVec 32 → sProp 𝕄) :
    loopSpec c i M2 M3 M4 M5 q suf f2 f3 k j h s K
    = iprop((∃ f4 : Bf (F := F) c M4, ∃ f5 : Bf (F := F) c M5,
    ⌜M4.view.read (Elt F) f4 = ofTiles s.T ∧ M5.view.read (Elt F) f5 = ofCols s.C⌝
      ∗ pt c M2 f2 ∗ pt c M3 f3 ∗ pt c M4 f4 ∗ pt c M5 f5) ∗ ∀ r, (iprop(∃ f4 : Bf (F := F) c M4, ∃ f5 : Bf (F := F) c M5,
    ⌜M4.view.read (Elt F) f4 = ofTiles (rest i q suf (M2.view.read (Elt F) f2) (M3.view.read (Elt F) f3) k j h s).T⌝
      ∗ pt c M2 f2 ∗ pt c M3 f3 ∗ pt c M4 f4 ∗ pt c M5 f5) -∗ K r)) := rfl

theorem loop_le (k : Nat) : ∀ (j : Nat) (h : j + k ≤ 130) (_ : j + k = 2 * (i 0).val + 2) (s : Mid F) (E : Set ℕ),
    loopSpec c i M2 M3 M4 M5 q suf f2 f3 k j h s
      ≤ wp frame (wpE (defs₀ (F := F)) Variants.nat (c : Thread nD τ) (some k)) E
          (cc1_while1 (F := F) i M2 h2 M3 h3 M5 h5 (q 0) (q 1) (q 2) (q 3) (q 4) (q 5) (q 6) (q 7) suf M4 h4 (BitVec.ofNat 32 j) s.al) := by
  induction k with
  | zero =>
    intro j h hk s E K
    have hi : (i 0).val < 64 := (i 0).isLt
    rw [loopSpec_apply]
    show _ ⊢ wp frame (wpE (defs₀ (F := F)) Variants.nat (c : Thread nD τ) _) E _ K
    have hno := not_goesOn i (j := j) (by omega) (by omega) s.al
    simp only [cc1_while1_eq_skeleton]; unfold cc1_while1_skel
    simp only [show (Scalar.andi (Scalar.cmpi .sle (BitVec.ofNat 32 j) (Scalar.subi (Scalar.addi (Scalar.muli (BitVec.ofNat 32 (i 0).val) 2#32) 2#32) 1#32))
      (Scalar.cmpi .sgt s.al 0#32) = 1#1) = False from eq_false hno, if_false]
    iintro ⟨⟨%f4, %f5, %hr, H2, H3, H4, H5⟩, Hk⟩
    rw [show (Pure.pure (BitVec.ofNat 32 j, s.al) : Prog (TpuEff nD τ sig (Elt F) (Λ₀ F) .tc) (BitVec 32 × BitVec 32)) = .ret (BitVec.ofNat 32 j, s.al) from rfl, wp_ret]; imodintro; iapply Hk
    iexists f4; iexists f5
    isplitr
    · ipureintro; exact hr.1
    isplitl [H2]; · iexact H2
    isplitl [H3]; · iexact H3
    isplitl [H4]; · iexact H4
    iexact H5
  | succ k ih =>
    intro j h hk s E K
    have hi : (i 0).val < 64 := (i 0).isLt
    rw [loopSpec_apply]
    show _ ⊢ wp frame (wpE (defs₀ (F := F)) Variants.nat (c : Thread nD τ) _) E _ K
    by_cases hgo : goesOn i (BitVec.ofNat 32 j) s.al
    · iintro ⟨⟨%f4, %f5, %hr, H2, H3, H4, H5⟩, Hk⟩
      iapply (trip c i M2 h2 M3 h3 M4 h4 M5 h5 q suf (BitVec.ofNat 32 j) (chk i (by omega)) f2 f3 f4 f5).2 s.al hgo
      isplitl [H2]; · iexact H2
      isplitl [H3]; · iexact H3
      isplitl [H4]; · iexact H4
      isplitl [H5]; · iexact H5
      iintro ⟨H2, H3, H4, H5⟩
      rw [trip_next, trip_flag, trip_out, trip_sum, hr.1, hr.2,
        show Scalar.addi (BitVec.ofNat 32 j) 1#32 = BitVec.ofNat 32 (j + 1) from (BitVec.ofNat_add j 1).symm]
      iapply (wp_call_spec Variants.nat (c : Thread nD τ) (some (k + 1)) E
        (loopSpec c i M2 M3 M4 M5 q suf f2 f3 k (j + 1) (by omega)
          (next i q suf (M2.view.read (Elt F) f2) (M3.view.read (Elt F) f3) j (by omega) s))
        k (fun u hu => by cases hu; exact Nat.lt_succ_self k) (ih (j + 1) (by omega) (by omega) _ E))
      rw [loopSpec_apply]
      isplitr [Hk]
      · iexists _; iexists _
        isplitr
        swap
        · isplitl [H2]; · iexact H2
          isplitl [H3]; · iexact H3
          isplitl [H4]; · iexact H4
          iexact H5
        · ipureintro
          exact ⟨read_tilePieces c M4 f4 _, read_colPieces c M5 f5 _⟩
      · iintro %r H
        rw [wp_ret]; imodintro; iapply Hk
        rw [rest, if_pos hgo]
        iexact H
    · simp only [cc1_while1_eq_skeleton]; unfold cc1_while1_skel
      simp only [show (Scalar.andi (Scalar.cmpi .sle (BitVec.ofNat 32 j) (Scalar.subi (Scalar.addi (Scalar.muli (BitVec.ofNat 32 (i 0).val) 2#32) 2#32) 1#32))
        (Scalar.cmpi .sgt s.al 0#32) = 1#1) = False from eq_false hgo, if_false]
      iintro ⟨⟨%f4, %f5, %hr, H2, H3, H4, H5⟩, Hk⟩
      rw [show (Pure.pure (BitVec.ofNat 32 j, s.al) : Prog (TpuEff nD τ sig (Elt F) (Λ₀ F) .tc) (BitVec 32 × BitVec 32)) = .ret (BitVec.ofNat 32 j, s.al) from rfl, wp_ret]; imodintro; iapply Hk
      iexists f4; iexists f5
      rw [rest, if_neg hgo]
      isplitr
      · ipureintro; exact hr.1
      isplitl [H2]; · iexact H2
      isplitl [H3]; · iexact H3
      isplitl [H4]; · iexact H4
      iexact H5

end

end Cert.KernelIdeal.Stick

end
-- ==== Proof.Ideal.Body.lean ====
/-
  One point of the grid: the block ahead of the loop and the loop run one after the other, the proof data the pipeline is
  run at, and the body's obligation.
-/
module

public import proofs.«01_k».proof.Proof.Ideal.Loop
public import proofs.«01_k».proof.Proof.Gen.KernelIdeal.Launch
public import proofs.«01_k».proof.Proof.Gen.KernelIdeal.Points
public import Idealize.ShloMosaic.Lib.Pipeline.Frame

@[expose] public section

set_option maxRecDepth 16384

noncomputable section

namespace Cert.KernelIdeal.Stick

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR nD τ) ℕ

section
variable (c : Dev nD) (i : grid1.Coords)
    (M1 : Memref sig .tc .vmem S256x512 .bf16) (h1 : M1.IsWhole)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (f1 : Bf (F := F) c M1) (f2 : Bf (F := F) c M2) (f3 : Bf (F := F) c M3)

set_option maxHeartbeats 4000000 in
/-- The body leaves the inputs as they were and the output block at the tiles of the loop. -/
theorem kernel_run (E : Set ℕ) (Q : PUnit → sProp 𝕄) :
    iprop(pt c M1 f1 ∗ pt c M2 f2 ∗ pt c M3 f3 ∗ (∃ f4, pt c M4 f4) ∗ (∃ f5, pt c M5 f5)
      ∗ (iprop(pt c M1 f1 ∗ pt c M2 f2 ∗ pt c M3 f3
          ∗ (∃ f4, ⌜M4.view.read (Elt F) f4 = ofTiles (loop i (M1.view.read (Elt F) f1) (M2.view.read (Elt F) f2) (M3.view.read (Elt F) f3)).T⌝ ∗ pt c M4 f4)
          ∗ (∃ f5, pt c M5 f5)) -∗ Q ⟨⟩))
    ⊢ wp frame (wpE (defs₀ (F := F)) Variants.nat c none) E (cc1_stick_breaking i M1 h1 M2 h2 M3 h3 M4 h4 M5 h5) Q := by
  have hi : (i 0).val < 64 := (i 0).isLt
  iintro ⟨H1, H2, H3, ⟨%f4, H4⟩, ⟨%f5, H5⟩, Hk⟩
  iapply (ahead c i M1 h1 M2 h2 M3 h3 M4 h4 M5 h5 f1 f2 f3 f4 f5).2
  isplitl [H1]; · iexact H1
  isplitl [H2]; · iexact H2
  isplitl [H3]; · iexact H3
  isplitl [H4]; · iexact H4
  isplitl [H5]; · iexact H5
  iintro ⟨H1, H2, H3, H4, H5⟩
  rw [ahead_flag, ahead_suf, ahead_out, ahead_sum, ahead_q]
  iapply (wp_call_spec Variants.nat (c : Thread nD τ) none E
    (loopSpec c i M2 M3 M4 M5 (qTile (M1.view.read (Elt F) f1)) k1_pay8 f2 f3 (2 * (i 0).val + 1) 1 (by omega)
      ⟨aheadT i (M1.view.read (Elt F) f1) (M2.view.read (Elt F) f2) (M3.view.read (Elt F) f3),
       aheadC i (M1.view.read (Elt F) f1) (M2.view.read (Elt F) f2),
       flag (aheadC i (M1.view.read (Elt F) f1) (M2.view.read (Elt F) f2))⟩)
    (2 * (i 0).val + 1) (fun u hu => nomatch hu)
    (loop_le c i M2 h2 M3 h3 M4 h4 M5 h5 (qTile (M1.view.read (Elt F) f1)) k1_pay8 f2 f3 (2 * (i 0).val + 1) 1 (by omega) (by omega) _ E))
  rw [loopSpec_apply]
  isplitl [H2 H3 H4 H5]
  · iexists _; iexists _
    isplitr
    swap
    · isplitl [H2]; · iexact H2
      isplitl [H3]; · iexact H3
      isplitl [H4]; · iexact H4
      iexact H5
    · ipureintro
      exact ⟨read_tilePieces c M4 f4 _, read_colPieces c M5 f5 _⟩
  · iintro %r ⟨%g4, %g5, %hr, H2, H3, H4, H5⟩
    rw [wp_ret]; imodintro; iapply Hk
    isplitl [H1]; · iexact H1
    isplitl [H2]; · iexact H2
    isplitl [H3]; · iexact H3
    isplitl [H4]
    · iexists g4
      isplitr
      · ipureintro; exact hr
      iexact H4
    · iexists g5; iexact H5

end

/-! ### The proof data -/

variable (V : Dev nD → Valuation τ sig (Elt F))

/-- What the windows' arrays hold where the region begins, -/
abbrev arr0 (c : Dev nD) (w : Fin 4) : Buf (Elt F) (((cfg1 (F := F)).win w).arr.view.loc (c : Thread nD τ)) :=
  V c (Proc.devRef .tc (Pipeline.arrRef spec1 w))

/-- a point's block of each input, -/
def qBlk (c : Dev nD) (t : Fin (cfg1 (F := F)).N) : Vec F S256x512 .bf16 := ((cfg1 (F := F)).win 0).blk t |>.view.read (Elt F) (arr0 V c 0)
def kBlk (c : Dev nD) (t : Fin (cfg1 (F := F)).N) : Vec F S16384x512 .bf16 := ((cfg1 (F := F)).win 1).blk t |>.view.read (Elt F) (arr0 V c 1)
def vBlk (c : Dev nD) (t : Fin (cfg1 (F := F)).N) : Vec F S16384x512 .bf16 := ((cfg1 (F := F)).win 2).blk t |>.view.read (Elt F) (arr0 V c 2)
/-- and the block of the result the body computes from them. -/
def oBlk (c : Dev nD) (t : Fin (cfg1 (F := F)).N) : Vec F S256x512 .f32 :=
  ofTiles (loop (grid1.coords t) (qBlk V c t) (kBlk V c t) (vBlk V c t)).T

/-- The proof data: the inputs stay as fetched, the output is the computed block, and between points nothing is kept. -/
def dat (c : Dev nD) : Dat τ (Elt F) Unit ℕ (UR nD τ) ℕ (cfg1 (F := F)) c where
  A := arr0 V c
  after := fun w t => match w with
    | 0 => qBlk V c t
    | 1 => kBlk V c t
    | 2 => vBlk V c t
    | 3 => oBlk V c t
  Φ := fun _ => Pipeline.scopedRest spec1 c
  q := fun w => Pipeline.shareOf spec1 w
  owed := fun _ => 0

theorem found0 (c : Dev nD) (t : Fin (cfg1 (F := F)).N) (d) : (dat V c).before (0 : Fin 4) t d = qBlk V c t :=
  Dat.before_in_eq_fetched (dat V c) (0 : Fin 4) rfl (fun _ => rfl) (fun _ _ _ => rfl) (fun _ => rfl) t d
theorem found1 (c : Dev nD) (t : Fin (cfg1 (F := F)).N) (d) : (dat V c).before (1 : Fin 4) t d = kBlk V c t :=
  Dat.before_in_eq_fetched (dat V c) (1 : Fin 4) rfl (fun _ => rfl) (fun _ _ _ => rfl) (fun _ => rfl) t d
theorem found2 (c : Dev nD) (t : Fin (cfg1 (F := F)).N) (d) : (dat V c).before (2 : Fin 4) t d = vBlk V c t :=
  Dat.before_in_eq_fetched (dat V c) (2 : Fin 4) rfl (fun _ => rfl) (fun _ _ _ => rfl) (fun _ => rfl) t d

/-- A whole memref owned at contents `X` is its buffer held whole at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- One point, with the memrefs and the blocks found named: `O` and `R` are what else is held. -/
theorem body_at (c : Dev nD) (i : grid1.Coords)
    (M1 : Memref sig .tc .vmem S256x512 .bf16) (h1 : M1.IsWhole)
    (M2 : Memref sig .tc .vmem S16384x512 .bf16) (h2 : M2.IsWhole) (M3 : Memref sig .tc .vmem S16384x512 .bf16) (h3 : M3.IsWhole)
    (M4 : Memref sig .tc .vmem S256x512 .f32) (h4 : M4.IsWhole) (M5 : Memref sig .tc .vmem S8x128x1 .f32) (h5 : M5.IsWhole)
    (X1 : Vec F S256x512 .bf16) (X2 X3 : Vec F S16384x512 .bf16) {D1 D2 D3 D4 : Type} (X4 : D4 → Vec F S256x512 .f32)
    (R O : sProp 𝕄) :
    iprop(((∃ f, pt c M5 f) ∗ R) ∗ O
      ∗ (∃ _ : D1, owns (c : Thread nD τ) M1 fullShare X1) ∗ (∃ _ : D2, owns (c : Thread nD τ) M2 fullShare X2)
      ∗ (∃ _ : D3, owns (c : Thread nD τ) M3 fullShare X3) ∗ (∃ d : D4, owns (c : Thread nD τ) M4 fullShare (X4 d)))
    ⊢ wp frame (wpE (defs₀ (F := F)) Variants.nat c none) Set.univ (cc1_stick_breaking i M1 h1 M2 h2 M3 h3 M4 h4 M5 h5) fun _ =>
      iprop(((∃ f, pt c M5 f) ∗ R) ∗ O
      ∗ owns (c : Thread nD τ) M1 fullShare X1 ∗ owns (c : Thread nD τ) M2 fullShare X2
      ∗ owns (c : Thread nD τ) M3 fullShare X3 ∗ owns (c : Thread nD τ) M4 fullShare (ofTiles (loop i X1 X2 X3).T)) := by
  simp only [owns_pt c M1 h1, owns_pt c M2 h2, owns_pt c M3 h3, owns_pt c M4 h4]
  iintro ⟨⟨⟨%f5, H5⟩, Hr⟩, Ho, ⟨%d0, %f1, %e1, H1⟩, ⟨%d1, %f2, %e2, H2⟩, ⟨%d2, %f3, %e3, H3⟩, ⟨%d3, %f4, %e4, H4⟩⟩
  iapply (kernel_run c i M1 h1 M2 h2 M3 h3 M4 h4 M5 h5 f1 f2 f3)
  isplitl [H1]; · iexact H1
  isplitl [H2]; · iexact H2
  isplitl [H3]; · iexact H3
  isplitl [H4]; · iexists f4; iexact H4
  isplitl [H5]; · iexists f5; iexact H5
  iintro ⟨H1, H2, H3, ⟨%g4, %hg, H4⟩, ⟨%g5, H5⟩⟩
  isplitl [H5 Hr]
  · isplitl [H5]
    · iexists g5; iexact H5
    iexact Hr
  isplitl [Ho]; · iexact Ho
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  · iexists g4; isplitr
    · ipureintro
      rw [hg, e1, e2, e3]
    iexact H4

/-- The scratch, listed last among the region's buffers, taken out first; -/
theorem scratch_first (A0 A1 A2 A3 A4 A5 A6 A7 A8 A9 A10 A11 A12 A13 A14 S : sProp 𝕄) : iprop(A0 ∗ A1 ∗ A2 ∗ A3 ∗ A4 ∗ A5 ∗ A6 ∗ A7 ∗ A8 ∗ A9 ∗ A10 ∗ A11 ∗ A12 ∗ A13 ∗ A14 ∗ S) ⊢ iprop(S ∗ A0 ∗ A1 ∗ A2 ∗ A3 ∗ A4 ∗ A5 ∗ A6 ∗ A7 ∗ A8 ∗ A9 ∗ A10 ∗ A11 ∗ A12 ∗ A13 ∗ A14) := by
  iintro ⟨H0, H1, H2, H3, H4, H5, H6, H7, H8, H9, H10, H11, H12, H13, H14, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- and put back. -/
theorem scratch_last (A0 A1 A2 A3 A4 A5 A6 A7 A8 A9 A10 A11 A12 A13 A14 S : sProp 𝕄) : iprop(S ∗ A0 ∗ A1 ∗ A2 ∗ A3 ∗ A4 ∗ A5 ∗ A6 ∗ A7 ∗ A8 ∗ A9 ∗ A10 ∗ A11 ∗ A12 ∗ A13 ∗ A14) ⊢ iprop(A0 ∗ A1 ∗ A2 ∗ A3 ∗ A4 ∗ A5 ∗ A6 ∗ A7 ∗ A8 ∗ A9 ∗ A10 ∗ A11 ∗ A12 ∗ A13 ∗ A14 ∗ S) := by
  iintro ⟨HS, H0, H1, H2, H3, H4, H5, H6, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HS

/-- The body's obligation at every point. -/
theorem body_obligation (c : Dev nD) : BodyObligationLoose (dat V c) (defs₀ (F := F)) Variants.nat () Set.univ := fun t => by
  rw [bigSep_W1, bigSep_W1]
  show iprop(Pipeline.scopedRest spec1 c ∗ (dat V c).owesAt () t.castSucc
      ∗ (∃ d, owns (c : Thread nD τ) (st1_0 t) fullShare ((dat V c).before (0 : Fin 4) t d))
      ∗ (∃ d, owns (c : Thread nD τ) (st1_1 t) fullShare ((dat V c).before (1 : Fin 4) t d))
      ∗ (∃ d, owns (c : Thread nD τ) (st1_2 t) fullShare ((dat V c).before (2 : Fin 4) t d))
      ∗ (∃ d, owns (c : Thread nD τ) (st1_3 t) fullShare ((dat V c).before (3 : Fin 4) t d)))
    ⊢ wp frame (wpE (defs₀ (F := F)) Variants.nat c none) Set.univ (bodyAt1 t) fun _ =>
      iprop(Pipeline.scopedRest spec1 c ∗ (dat V c).owesAt () t.succ
      ∗ owns (c : Thread nD τ) (st1_0 t) fullShare (qBlk V c t)
      ∗ owns (c : Thread nD τ) (st1_1 t) fullShare (kBlk V c t)
      ∗ owns (c : Thread nD τ) (st1_2 t) fullShare (vBlk V c t)
      ∗ owns (c : Thread nD τ) (st1_3 t) fullShare (oBlk V c t))
  simp only [found0, found1, found2]
  rw [scopedRest1_eq]
  refine (sep_mono (scratch_first _ _ _ _ _ _ _ _ _ _ _ _ _ _ _ _) .rfl).trans ((body_at c (grid1.coords t) (st1_0 t) (stage_whole1 0 _) (st1_1 t)
    (stage_whole1 1 _) (st1_2 t) (stage_whole1 2 _) (st1_3 t) (stage_whole1 3 _) (Memref.whole cc1_scratch0) (Memref.isWhole_whole _) (qBlk V c t)
    (kBlk V c t) (vBlk V c t) _ _ _).trans (wp_mono _ _ _ fun _ => sep_mono (scratch_last _ _ _ _ _ _ _ _ _ _ _ _ _ _ _ _) .rfl))

end Cert.KernelIdeal.Stick

end
-- ==== Proof.Ideal.ProjRun.lean ====
/-
  The three kinds of point of the projection, each run once at symbolic operands: the first point of a row block, the
  point of the queries' and keys' columns, and any other.
-/
module

public import proofs.«01_k».proof.Proof.Ideal.Trip
public import Idealize.ShloMosaic.Lib.Pipeline.FrameBody
public import Idealize.ShloMosaic.Lib.Writes

@[expose] public section

set_option maxRecDepth 16384

noncomputable section

namespace Cert.KernelIdeal.Proj

open Cert.KernelIdeal Cert.KernelIdeal.Gen
open Cert.KernelIdeal.Stick (Bf pt UR)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

section
variable (c : Dev nD) (i : grid0.Coords)
    (M2 : Memref sig .tc .vmem S1024x1024 .f32) (h2 : M2.IsWhole) (M3 : Memref sig .tc .vmem S1x1024 .f32) (h3 : M3.IsWhole)
    (M4 : Memref sig .tc .vmem S1x1024 .f32) (h4 : M4.IsWhole) (M5 : Memref sig .tc .vmem S1x1024 .f32) (h5 : M5.IsWhole)
    (M6 : Memref sig .tc .vmem S1024x1024 .bf16) (h6 : M6.IsWhole) (M7 : Memref sig .tc .vmem S1024x256 .bf16) (h7 : M7.IsWhole)
    (M8 : Memref sig .tc .vmem S1x1024 .f32) (h8 : M8.IsWhole) (M9 : Memref sig .tc .vmem S1x1024 .f32) (h9 : M9.IsWhole)
    (M10 : Memref sig .tc .vmem S1024x1024 .bf16) (h10 : M10.IsWhole) (M11 : Memref sig .tc .vmem S1024x256 .f32) (h11 : M11.IsWhole)
    (M12 : Memref sig .tc .vmem S1024x1024 .bf16) (h12 : M12.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12)

/-- The first point of a row block: what it leaves in the block of the result, in the narrow result and in the scratch. -/
def firstRun (c1 : k0_cond1 i = 1#1) (c2 : k0_cond2 i = 1#1) (c3 : ¬ k0_cond3 i = 1#1) :
    { W : Bf (F := F) c M10 × Bf (F := F) c M11 × Bf (F := F) c M12 //
      ∀ (E : Set ℕ) (Q : PUnit → sProp 𝕄),
        iprop(pt c M2 f2 ∗ pt c M3 f3 ∗ pt c M4 f4 ∗ pt c M5 f5 ∗ pt c M6 f6 ∗ pt c M7 f7 ∗ pt c M10 f10 ∗ pt c M11 f11 ∗ pt c M12 f12
          ∗ (iprop(pt c M2 f2 ∗ pt c M3 f3 ∗ pt c M4 f4 ∗ pt c M5 f5 ∗ pt c M6 f6 ∗ pt c M7 f7
              ∗ pt c M10 W.1 ∗ pt c M11 W.2.1 ∗ pt c M12 W.2.2) -∗ Q ⟨⟩))
        ⊢ wp frame (wpE (defs₀ (F := F)) Variants.nat c none) E
            (cc0_inproj i M2 h2 M3 h3 M4 h4 M5 h5 M6 h6 M7 h7 M8 h8 M9 h9 M10 h10 M11 h11 M12 h12) Q } := by
  refine ⟨⟨?_, ?_, ?_⟩, fun E Q => ?run⟩
  case run =>
    simp only [cc0_inproj_eq_skeleton]; unfold cc0_inproj_skel
    iintro ⟨H2, H3, H4, H5, H6, H7, H10, H11, H12, Hk⟩
    sl_exec_parts
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    iexact H12

/-- A later point that is not the queries' and keys': what it leaves in the block of the result. -/
def plainRun (c1 : ¬ k0_cond1 i = 1#1) (c2 : k0_cond2 i = 1#1) (c3 : ¬ k0_cond3 i = 1#1) :
    { W : Bf (F := F) c M10 //
      ∀ (E : Set ℕ) (Q : PUnit → sProp 𝕄),
        iprop(pt c M6 f6 ∗ pt c M10 f10 ∗ pt c M12 f12
          ∗ (iprop(pt c M6 f6 ∗ pt c M10 W ∗ pt c M12 f12) -∗ Q ⟨⟩))
        ⊢ wp frame (wpE (defs₀ (F := F)) Variants.nat c none) E
            (cc0_inproj i M2 h2 M3 h3 M4 h4 M5 h5 M6 h6 M7 h7 M8 h8 M9 h9 M10 h10 M11 h11 M12 h12) Q } := by
  refine ⟨?_, fun E Q => ?run⟩
  case run =>
    simp only [cc0_inproj_eq_skeleton]; unfold cc0_inproj_skel
    iintro ⟨H6, H10, H12, Hk⟩
    sl_exec_parts
    rw [wp_ret]; imodintro
    iapply Hk
    isplitl [H6]; · iexact H6
    isplitl [H10]; · iexact H10
    iexact H12

/-- The queries' and keys' point: what it leaves in the block of the result. -/
def headRun (c1 : ¬ k0_cond1 i = 1#1) (c2 : ¬ k0_cond2 i = 1#1) (c3 : k0_cond3 i = 1#1) :
    { W : Bf (F := F) c M10 //
      ∀ (E : Set ℕ) (Q : PUnit → sProp 𝕄),
        iprop(pt c M6 f6 ∗ pt c M8 f8 ∗ pt c M9 f9 ∗ pt c M10 f10 ∗ pt c M12 f12
          ∗ (iprop(pt c M6 f6 ∗ pt c M8 f8 ∗ pt c M9 f9 ∗ pt c M10 W ∗ pt c M12 f12) -∗ Q ⟨⟩))
        ⊢ wp frame (wpE (defs₀ (F := F)) Variants.nat c none) E
            (cc0_inproj i M2 h2 M3 h3 M4 h4 M5 h5 M6 h6 M7 h7 M8 h8 M9 h9 M10 h10 M11 h11 M12 h12) Q } := by
  refine ⟨?_, fun E Q => ?run⟩
  case run =>
    simp only [cc0_inproj_eq_skeleton]; unfold cc0_inproj_skel
    iintro ⟨H6, H8, H9, H10, H12, Hk⟩
    sl_exec_parts
    rw [wp_ret]; imodintro
    iapply Hk
    isplitl [H6]; · iexact H6
    isplitl [H8]; · iexact H8
    isplitl [H9]; · iexact H9
    isplitl [H10]; · iexact H10
    iexact H12

end

end Cert.KernelIdeal.Proj

end
-- ==== Proof.Ideal.ProjTile.lean ====
/-
  What each kind of point of the projection leaves, written with the arithmetic of a row block and of one head.
-/
module

public import proofs.«01_k».proof.Proof.Ideal.ProjRun
public import Idealize.ShloMosaic.Lib.Writes
public import Idealize.ShloMosaic.Lib.Pipeline.ValueKit

@[expose] public section

set_option maxRecDepth 16384

noncomputable section

namespace Cert.KernelIdeal.Proj

open Cert.KernelIdeal Cert.KernelIdeal.Gen
open Cert.KernelIdeal.Stick (Bf pt UR)
open Idealize.ShloMosaic
open Idealize.ShloMosaic.TcCoe

variable {F : FTy → Type} [FloatOps F] [Named F]

/-- The columns of head `n` of a block of a thousand columns. -/
abbrev headOff (n : Fin 8) : Fin 2 → Nat := ![0, 128 * n.val]
theorem headOff_slices (n : Fin 8) : S1024x1024.Slices (headOff n) S1024x128 := by
  match n with
  | 0 => exact slices_S1024x1024_o0_0_S1024x128 | 1 => exact slices_S1024x1024_o0_128_S1024x128
  | 2 => exact slices_S1024x1024_o0_256_S1024x128 | 3 => exact slices_S1024x1024_o0_384_S1024x128
  | 4 => exact slices_S1024x1024_o0_512_S1024x128 | 5 => exact slices_S1024x1024_o0_640_S1024x128
  | 6 => exact slices_S1024x1024_o0_768_S1024x128 | 7 => exact slices_S1024x1024_o0_896_S1024x128
theorem headOff_row (n : Fin 8) : ∀ a, headOff n a + S1x128.size a ≤ S1x1024.size a := by revert n; decide
theorem headOff_blk (n : Fin 8) : ∀ a, headOff n a + S1024x128.size a ≤ S1024x1024.size a := by revert n; decide

/-- A head of a block. -/
def headOf (P : FVec F S1024x1024 .f32) (n : Fin 8) : FVec F S1024x128 .f32 :=
  extractStridedSlice S1024x128 (headOff n) P (headOff_slices n)

/-- A head's part of a row, along the rows. -/
def rowOf (g : Vec F S1x1024 .f32) (n : Fin 8) : FVec F S1024x128 .f32 :=
  broadcastTo S1024x128 (shapeCast S1x128 (View.ld g (Rect.unit (s := S1x1024) (headOff n) S1x128.size (headOff_row n)))
    shapeCasts_S1x128_S1x128 : FVec F S1x128 .f32) broadcasts_S1x128_S1024x128

/-- One over the root mean square of each row of a head. -/
def rms (p : FVec F S1024x128 .f32) : FVec F S1024x1 .f32 :=
  rsqrt (addf (divf (shapeCast S1024x1 (multiReduction .add [1] S1024 (mulf p p) 0x00000000#32 reduces_S1024x128_S1024 (.inl rfl) rfl)
    shapeCasts_S1024_S1024x1) (broadcast S1024x1 (Scalar.ofBits .f32 0x43000000#32))) (broadcast S1024x1 (Scalar.ofBits .f32 0x358637BD#32)))

/-- A head over its root mean square, times the gains and the scales. -/
def headTile (P : FVec F S1024x1024 .f32) (g s : Vec F S1x1024 .f32) (n : Fin 8) : FVec F S1024x128 .bf16 :=
  truncf .bf16 (mulf (mulf (mulf (headOf P n) (broadcastTo S1024x128 (rms (headOf P n)) broadcasts_S1024x1_S1024x128)) (rowOf g n))
    (rowOf s n)) bitsLt_bf16_f32

/-- A block from its eight heads. -/
def ofHeads (T : Fin 8 → FVec F S1024x128 .bf16) : Vec F S1024x1024 .bf16 := fun y =>
  T ⟨(y 1).val / 128, by have h : (y 1).val < 1024 := (y 1).isLt; omega⟩ (fun a => match a with
    | 0 => ⟨(y 0).val, (y 0).isLt⟩
    | 1 => ⟨(y 1).val % 128, Nat.mod_lt _ (by decide)⟩)

theorem ofHeads_emb (T : Fin 8 → FVec F S1024x128 .bf16) (n : Fin 8) (x : S1024x128.Idx) :
    ofHeads T ((Rect.unit (s := S1024x1024) (headOff n) S1024x128.size (headOff_blk n)).emb x) = T n x := by
  have h1 : (x 1).val < 128 := (x 1).isLt
  have key : ∀ (n' : Fin 8) (x' : S1024x128.Idx), n' = n → x' = x → T n' x' = T n x := fun _ _ h h' => by rw [h, h']
  refine key _ _ (Fin.ext ?_) (funext fun a => ?_)
  · show (128 * n.val + 1 * (x 1).val) / 128 = n.val; omega
  · match a with
    | 0 => apply Fin.ext; show 0 + 1 * (x 0).val = (x 0).val; omega
    | 1 => apply Fin.ext; show (128 * n.val + 1 * (x 1).val) % 128 = (x 1).val; omega

/-- The stores of the eight heads, the last one first. -/
def headPieces (T : Fin 8 → FVec F S1024x128 .bf16) : List (View.Piece (Elt F) S1024x1024 .bf16) :=
  [7, 6, 5, 4, 3, 2, 1, 0].map fun n : Fin 8 => ⟨Rect.unit (s := S1024x1024) (headOff n) S1024x128.size (headOff_blk n), T n⟩

theorem mem_all (n : Fin 8) : n ∈ ([7, 6, 5, 4, 3, 2, 1, 0] : List (Fin 8)) := by revert n; decide

section
variable (c : Dev nD) (i : grid0.Coords)
    (M2 : Memref sig .tc .vmem S1024x1024 .f32) (h2 : M2.IsWhole) (M3 : Memref sig .tc .vmem S1x1024 .f32) (h3 : M3.IsWhole)
    (M4 : Memref sig .tc .vmem S1x1024 .f32) (h4 : M4.IsWhole) (M5 : Memref sig .tc .vmem S1x1024 .f32) (h5 : M5.IsWhole)
    (M6 : Memref sig .tc .vmem S1024x1024 .bf16) (h6 : M6.IsWhole) (M7 : Memref sig .tc .vmem S1024x256 .bf16) (h7 : M7.IsWhole)
    (M8 : Memref sig .tc .vmem S1x1024 .f32) (h8 : M8.IsWhole) (M9 : Memref sig .tc .vmem S1x1024 .f32) (h9 : M9.IsWhole)
    (M10 : Memref sig .tc .vmem S1024x1024 .bf16) (h10 : M10.IsWhole) (M11 : Memref sig .tc .vmem S1024x256 .f32) (h11 : M11.IsWhole)
    (M12 : Memref sig .tc .vmem S1024x1024 .bf16) (h12 : M12.IsWhole)
    (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9)
    (f10 : Bf (F := F) c M10) (f11 : Bf (F := F) c M11) (f12 : Bf (F := F) c M12)

theorem read_headPieces (T : Fin 8 → FVec F S1024x128 .bf16) :
    M10.view.read (Elt F) (M10.view.writes (Elt F) f10 (headPieces T)) = ofHeads T := by
  funext y
  refine View.read_writes_apply_of_pieces M10.view _ (ofHeads T) (headPieces T) ?_ y ?_
  · intro p hp x
    obtain ⟨n, -, rfl⟩ := List.mem_map.mp hp
    exact (ofHeads_emb T n x).symm
  · have h0 : (y 0).val < 1024 := (y 0).isLt
    have h1 : (y 1).val < 1024 := (y 1).isLt
    refine ⟨_, List.mem_map.mpr ⟨⟨(y 1).val / 128, by omega⟩, mem_all _, rfl⟩, ?_⟩
    refine (Rect.mem_set_unit (inb := headOff_blk _)).mpr fun a => ?_
    match a with
    | 0 => show 0 ≤ (y 0).val ∧ (y 0).val < 0 + 1024; omega
    | 1 => show 128 * ((y 1).val / 128) ≤ (y 1).val ∧ (y 1).val < 128 * ((y 1).val / 128) + 128; omega

/-- A store of the whole of a memref is read back. -/
theorem read_whole {S : Shape} {e : EltTy} (M : Memref sig .tc .vmem S e) (f : Bf (F := F) c M) (X : S.Idx → Elt F e)
    (off : Fin S.rank → Nat) (inb : ∀ a, off a + S.size a ≤ S.size a) :
    M.view.read (Elt F) (M.view.writes (Elt F) f [⟨Rect.unit (s := S) off S.size inb, X⟩]) = X := by
  have h0 : ∀ a, off a = 0 := fun a => by have := inb a; omega
  funext y
  refine View.read_writes_apply_of_pieces M.view _ X _ ?_ y ?_
  · intro p hp x
    obtain rfl := List.mem_singleton.mp hp
    exact congrArg X (funext fun a => Fin.ext (by show (x a).val = off a + 1 * (x a).val; rw [h0 a]; omega))
  · refine ⟨_, List.mem_singleton.mpr rfl, (Rect.mem_set_unit (inb := inb)).mpr fun a => ?_⟩
    have := (y a).isLt
    rw [h0 a]; omega

/-- So a load of the whole of a memref reads its contents. -/
theorem readAt_whole {S : Shape} {e : EltTy} (M : Memref sig .tc .vmem S e) (f : Bf (F := F) c M)
    (off : Fin S.rank → Nat) (inb : ∀ a, off a + S.size a ≤ S.size a) :
    View.readAt (Elt F) M.view (Rect.unit (s := S) off S.size inb).toLoadRect f = M.view.read (Elt F) f :=
  (View.readAt_eq_ld _ _ _).trans (View.ld_unit_lit inb _ fun a => by have := inb a; omega)

/-- The normalised row block the first point computes. -/
abbrev firstH : FVec F S1024x1024 .bf16 :=
  k0_pay2 (M2.view.read (Elt F) f2) (M3.view.read (Elt F) f3) (M4.view.read (Elt F) f4) (M5.view.read (Elt F) f5)

theorem first_stores : firstRun.sl.H12_1 c M2 M3 M4 M5 f2 f3 f4 f5
    = [⟨Rect.unit (s := S1024x1024) ![0, 0] S1024x1024.size inb_S1024x1024_S1024x1024_0_0, firstH c M2 M3 M4 M5 f2 f3 f4 f5⟩] := by
  unfold firstRun.sl.H12_1 firstH
  rw [readAt_whole c M2, readAt_whole c M3, readAt_whole c M4, readAt_whole c M5]

theorem first_reload : firstRun.sl.v9 c M2 M3 M4 M5 M12 f2 f3 f4 f5 = firstH c M2 M3 M4 M5 f2 f3 f4 f5 := by
  unfold firstRun.sl.v9
  rw [first_stores]
  exact View.readCov_unit_lit (S := S1024x1024) M12.view _ _ (by decide)

theorem first_out (c1 c2 c3) : M10.view.read (Elt F) (firstRun c i M2 h2 M3 h3 M4 h4 M5 h5 M6 h6 M7 h7 M8 h8 M9 h9 M10 h10 M11 h11 M12 h12
      f2 f3 f4 f5 f6 f7 f10 f11 f12 c1 c2 c3).1.1
    = k0_pay4 (firstH c M2 M3 M4 M5 f2 f3 f4 f5) (M6.view.read (Elt F) f6) := by
  unfold firstRun
  dsimp only
  rw [read_whole c M10, first_reload, readAt_whole c M6]

theorem first_narrow (c1 c2 c3) : M11.view.read (Elt F) (firstRun c i M2 h2 M3 h3 M4 h4 M5 h5 M6 h6 M7 h7 M8 h8 M9 h9 M10 h10 M11 h11 M12 h12
      f2 f3 f4 f5 f6 f7 f10 f11 f12 c1 c2 c3).1.2.1
    = k0_pay3 (M2.view.read (Elt F) f2) (M3.view.read (Elt F) f3) (M4.view.read (Elt F) f4) (M5.view.read (Elt F) f5)
        (M7.view.read (Elt F) f7) := by
  unfold firstRun
  dsimp only
  rw [read_whole c M11, readAt_whole c M2, readAt_whole c M3, readAt_whole c M4, readAt_whole c M5, readAt_whole c M7]

theorem first_scratch (c1 c2 c3) : M12.view.read (Elt F) (firstRun c i M2 h2 M3 h3 M4 h4 M5 h5 M6 h6 M7 h7 M8 h8 M9 h9 M10 h10 M11 h11 M12 h12
      f2 f3 f4 f5 f6 f7 f10 f11 f12 c1 c2 c3).1.2.2
    = firstH c M2 M3 M4 M5 f2 f3 f4 f5 := by
  unfold firstRun
  dsimp only
  rw [first_stores, read_whole c M12]

theorem plain_out (c1 c2 c3) : M10.view.read (Elt F) (plainRun c i M2 h2 M3 h3 M4 h4 M5 h5 M6 h6 M7 h7 M8 h8 M9 h9 M10 h10 M11 h11 M12 h12
      f6 f10 f12 c1 c2 c3).1
    = k0_pay4 (M12.view.read (Elt F) f12) (M6.view.read (Elt F) f6) := by
  unfold plainRun
  dsimp only
  rw [read_whole c M10, readAt_whole c M12, readAt_whole c M6]

/-- A block of the heads' product as loaded. -/
abbrev allOf (X : Vec F S1024x1024 .bf16) : Vec F S1024x1024 .bf16 :=
  View.ld X (Rect.unit (s := S1024x1024) ![0, 0] S1024x1024.size inb_S1024x1024_S1024x1024_0_0)

theorem head_stores (c1 c2 c3) : (headRun c i M2 h2 M3 h3 M4 h4 M5 h5 M6 h6 M7 h7 M8 h8 M9 h9 M10 h10 M11 h11 M12 h12
      f6 f8 f9 f10 f12 c1 c2 c3).1
    = M10.view.writes (Elt F) f10 (headPieces (headTile (k0_pay6 (allOf (M12.view.read (Elt F) f12)) (allOf (M6.view.read (Elt F) f6)))
        (M8.view.read (Elt F) f8) (M9.view.read (Elt F) f9))) := by
  unfold headRun
  dsimp only
  refine congrArg (M10.view.writes (Elt F) f10) ?_
  refine congrArg₂ List.cons ?h7 (congrArg₂ List.cons ?h6 (congrArg₂ List.cons ?h5 (congrArg₂ List.cons ?h4 (congrArg₂ List.cons ?h3
    (congrArg₂ List.cons ?h2 (congrArg₂ List.cons ?h1 (congrArg₂ List.cons ?h0 rfl)))))))
  all_goals rfl

theorem head_out (c1 c2 c3) : M10.view.read (Elt F) (headRun c i M2 h2 M3 h3 M4 h4 M5 h5 M6 h6 M7 h7 M8 h8 M9 h9 M10 h10 M11 h11 M12 h12
      f6 f8 f9 f10 f12 c1 c2 c3).1
    = ofHeads (headTile (k0_pay6 (M12.view.read (Elt F) f12) (M6.view.read (Elt F) f6)) (M8.view.read (Elt F) f8) (M9.view.read (Elt F) f9)) := by
  rw [head_stores, read_headPieces]
  unfold allOf
  rw [View.ld_unit_lit (S := S1024x1024) _ _ (by decide), View.ld_unit_lit (S := S1024x1024) _ _ (by decide)]

end

end Cert.KernelIdeal.Proj

end
-- ==== Proof.Ideal.ProjBody.lean ====
/-
  The projection's proof data and its body's obligation: between the points of a row block the scratch keeps the block's
  normalised rows.
-/
module

public import proofs.«01_k».proof.Proof.Ideal.ProjTile
public import proofs.«01_k».proof.Proof.Gen.KernelIdeal.Launch
public import proofs.«01_k».proof.Proof.Gen.KernelIdeal.Points
public import Idealize.ShloMosaic.Lib.Pipeline.Frame
public import Idealize.ShloMosaic.Lib.Pipeline.TableIdle

@[expose] public section

set_option maxRecDepth 16384

noncomputable section

namespace Cert.KernelIdeal.Proj

open Cert.KernelIdeal Cert.KernelIdeal.Gen
open Cert.KernelIdeal.Stick (Bf pt UR)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR nD τ) ℕ

/-- A whole memref owned at contents `X` is its buffer held whole at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-! ### The three kinds of point, with the contents found named -/

section
variable (c : Dev nD) (i : grid0.Coords)
    (M2 : Memref sig .tc .vmem S1024x1024 .f32) (h2 : M2.IsWhole) (M3 : Memref sig .tc .vmem S1x1024 .f32) (h3 : M3.IsWhole)
    (M4 : Memref sig .tc .vmem S1x1024 .f32) (h4 : M4.IsWhole) (M5 : Memref sig .tc .vmem S1x1024 .f32) (h5 : M5.IsWhole)
    (M6 : Memref sig .tc .vmem S1024x1024 .bf16) (h6 : M6.IsWhole) (M7 : Memref sig .tc .vmem S1024x256 .bf16) (h7 : M7.IsWhole)
    (M8 : Memref sig .tc .vmem S1x1024 .f32) (h8 : M8.IsWhole) (M9 : Memref sig .tc .vmem S1x1024 .f32) (h9 : M9.IsWhole)
    (M10 : Memref sig .tc .vmem S1024x1024 .bf16) (h10 : M10.IsWhole) (M11 : Memref sig .tc .vmem S1024x256 .f32) (h11 : M11.IsWhole)
    (M12 : Memref sig .tc .vmem S1024x1024 .bf16) (h12 : M12.IsWhole)
    (X2 : Vec F S1024x1024 .f32) (X3 X4 X5 : Vec F S1x1024 .f32) (X6 : Vec F S1024x1024 .bf16) (X7 : Vec F S1024x256 .bf16)
    (X8 X9 : Vec F S1x1024 .f32) (H : Vec F S1024x1024 .bf16)
    {D2 D3 D4 D5 D6 D7 D8 D9 D10 D11 : Type} (X10 : D10 → Vec F S1024x1024 .bf16) (X11 : D11 → Vec F S1024x256 .f32)
    (P P' : Bf (F := F) c M12 → Prop)

theorem first_at (R O : sProp 𝕄) (c1 : k0_cond1 i = 1#1) (c2 : k0_cond2 i = 1#1) (c3 : ¬ k0_cond3 i = 1#1)
    (hP : ∀ f, M12.view.read (Elt F) f = k0_pay2 X2 X3 X4 X5 → P' f) :
    iprop(((∃ f, ⌜P f⌝ ∗ pt c M12 f) ∗ R) ∗ O
      ∗ (∃ _ : D2, owns (c : Thread nD τ) M2 fullShare X2) ∗ (∃ _ : D3, owns (c : Thread nD τ) M3 fullShare X3)
      ∗ (∃ _ : D4, owns (c : Thread nD τ) M4 fullShare X4) ∗ (∃ _ : D5, owns (c : Thread nD τ) M5 fullShare X5)
      ∗ (∃ _ : D6, owns (c : Thread nD τ) M6 fullShare X6) ∗ (∃ _ : D7, owns (c : Thread nD τ) M7 fullShare X7)
      ∗ (∃ _ : D8, owns (c : Thread nD τ) M8 fullShare X8) ∗ (∃ _ : D9, owns (c : Thread nD τ) M9 fullShare X9)
      ∗ (∃ d : D10, owns (c : Thread nD τ) M10 fullShare (X10 d)) ∗ (∃ d : D11, owns (c : Thread nD τ) M11 fullShare (X11 d)))
    ⊢ wp frame (wpE (defs₀ (F := F)) Variants.nat c none) Set.univ
        (cc0_inproj i M2 h2 M3 h3 M4 h4 M5 h5 M6 h6 M7 h7 M8 h8 M9 h9 M10 h10 M11 h11 M12 h12) fun _ =>
      iprop(((∃ f, ⌜P' f⌝ ∗ pt c M12 f) ∗ R) ∗ O
      ∗ owns (c : Thread nD τ) M2 fullShare X2 ∗ owns (c : Thread nD τ) M3 fullShare X3
      ∗ owns (c : Thread nD τ) M4 fullShare X4 ∗ owns (c : Thread nD τ) M5 fullShare X5
      ∗ owns (c : Thread nD τ) M6 fullShare X6 ∗ owns (c : Thread nD τ) M7 fullShare X7
      ∗ owns (c : Thread nD τ) M8 fullShare X8 ∗ owns (c : Thread nD τ) M9 fullShare X9
      ∗ owns (c : Thread nD τ) M10 fullShare (k0_pay4 (k0_pay2 X2 X3 X4 X5) X6)
      ∗ owns (c : Thread nD τ) M11 fullShare (k0_pay3 X2 X3 X4 X5 X7)) := by
  simp only [owns_pt c M2 h2, owns_pt c M3 h3, owns_pt c M4 h4, owns_pt c M5 h5, owns_pt c M6 h6, owns_pt c M7 h7,
    owns_pt c M10 h10, owns_pt c M11 h11]
  iintro ⟨⟨⟨%f12, -, H12⟩, Hr⟩, Ho, ⟨%d2, %f2, %e2, H2⟩, ⟨%d3, %f3, %e3, H3⟩, ⟨%d4, %f4, %e4, H4⟩, ⟨%d5, %f5, %e5, H5⟩,
    ⟨%d6, %f6, %e6, H6⟩, ⟨%d7, %f7, %e7, H7⟩, ⟨%d8, H8⟩, ⟨%d9, H9⟩, ⟨%d10, %f10, -, H10⟩, ⟨%d11, %f11, -, H11⟩⟩
  subst e2 e3 e4 e5 e6 e7
  iapply (firstRun c i M2 h2 M3 h3 M4 h4 M5 h5 M6 h6 M7 h7 M8 h8 M9 h9 M10 h10 M11 h11 M12 h12 f2 f3 f4 f5 f6 f7 f10 f11 f12 c1 c2 c3).2
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H2, H3, H4, H5, H6, H7, H10, H11, H12⟩
  isplitl [H12 Hr]
  · isplitl [H12]
    · iexists _; isplitr
      swap; · iexact H12
      ipureintro
      exact hP _ (first_scratch c i M2 h2 M3 h3 M4 h4 M5 h5 M6 h6 M7 h7 M8 h8 M9 h9 M10 h10 M11 h11 M12 h12 f2 f3 f4 f5 f6 f7 f10 f11 f12 c1 c2 c3)
    iexact Hr
  isplitl [Ho]; · iexact Ho
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexact H8
  isplitl [H9]; · iexact H9
  isplitl [H10]
  · iexists _; isplitr
    swap; · iexact H10
    ipureintro
    exact first_out c i M2 h2 M3 h3 M4 h4 M5 h5 M6 h6 M7 h7 M8 h8 M9 h9 M10 h10 M11 h11 M12 h12 f2 f3 f4 f5 f6 f7 f10 f11 f12 c1 c2 c3
  · iexists _; isplitr
    swap; · iexact H11
    ipureintro
    exact first_narrow c i M2 h2 M3 h3 M4 h4 M5 h5 M6 h6 M7 h7 M8 h8 M9 h9 M10 h10 M11 h11 M12 h12 f2 f3 f4 f5 f6 f7 f10 f11 f12 c1 c2 c3

theorem plain_at (R O N N' : sProp 𝕄) (c1 : ¬ k0_cond1 i = 1#1) (c2 : k0_cond2 i = 1#1) (c3 : ¬ k0_cond3 i = 1#1)
    (hP : ∀ f, P f → M12.view.read (Elt F) f = H) (hP' : ∀ f, M12.view.read (Elt F) f = H → P' f) (hN : N ⊢ N') :
    iprop(((∃ f, ⌜P f⌝ ∗ pt c M12 f) ∗ R) ∗ O
      ∗ (∃ _ : D2, owns (c : Thread nD τ) M2 fullShare X2) ∗ (∃ _ : D3, owns (c : Thread nD τ) M3 fullShare X3)
      ∗ (∃ _ : D4, owns (c : Thread nD τ) M4 fullShare X4) ∗ (∃ _ : D5, owns (c : Thread nD τ) M5 fullShare X5)
      ∗ (∃ _ : D6, owns (c : Thread nD τ) M6 fullShare X6) ∗ (∃ _ : D7, owns (c : Thread nD τ) M7 fullShare X7)
      ∗ (∃ _ : D8, owns (c : Thread nD τ) M8 fullShare X8) ∗ (∃ _ : D9, owns (c : Thread nD τ) M9 fullShare X9)
      ∗ (∃ d : D10, owns (c : Thread nD τ) M10 fullShare (X10 d)) ∗ N)
    ⊢ wp frame (wpE (defs₀ (F := F)) Variants.nat c none) Set.univ
        (cc0_inproj i M2 h2 M3 h3 M4 h4 M5 h5 M6 h6 M7 h7 M8 h8 M9 h9 M10 h10 M11 h11 M12 h12) fun _ =>
      iprop(((∃ f, ⌜P' f⌝ ∗ pt c M12 f) ∗ R) ∗ O
      ∗ owns (c : Thread nD τ) M2 fullShare X2 ∗ owns (c : Thread nD τ) M3 fullShare X3
      ∗ owns (c : Thread nD τ) M4 fullShare X4 ∗ owns (c : Thread nD τ) M5 fullShare X5
      ∗ owns (c : Thread nD τ) M6 fullShare X6 ∗ owns (c : Thread nD τ) M7 fullShare X7
      ∗ owns (c : Thread nD τ) M8 fullShare X8 ∗ owns (c : Thread nD τ) M9 fullShare X9
      ∗ owns (c : Thread nD τ) M10 fullShare (k0_pay4 H X6) ∗ N') := by
  simp only [owns_pt c M6 h6, owns_pt c M10 h10]
  iintro ⟨⟨⟨%f12, %e12, H12⟩, Hr⟩, Ho, ⟨%d2, H2⟩, ⟨%d3, H3⟩, ⟨%d4, H4⟩, ⟨%d5, H5⟩,
    ⟨%d6, %f6, %e6, H6⟩, ⟨%d7, H7⟩, ⟨%d8, H8⟩, ⟨%d9, H9⟩, ⟨%d10, %f10, -, H10⟩, HN⟩
  subst e6
  obtain rfl := hP f12 e12
  iapply (plainRun c i M2 h2 M3 h3 M4 h4 M5 h5 M6 h6 M7 h7 M8 h8 M9 h9 M10 h10 M11 h11 M12 h12 f6 f10 f12 c1 c2 c3).2
  isplitl [H6]; · iexact H6
  isplitl [H10]; · iexact H10
  isplitl [H12]; · iexact H12
  iintro ⟨H6, H10, H12⟩
  isplitl [H12 Hr]
  · isplitl [H12]
    · iexists _; isplitr
      swap; · iexact H12
      ipureintro
      exact hP' _ rfl
    iexact Hr
  isplitl [Ho]; · iexact Ho
  isplitl [H2]; · iexact H2
  isplitl [H3]; · iexact H3
  isplitl [H4]; · iexact H4
  isplitl [H5]; · iexact H5
  isplitl [H6]; · iexists f6; isplitr; · ipureintro; rfl
                  iexact H6
  isplitl [H7]; · iexact H7
  isplitl [H8]; · iexact H8
  isplitl [H9]; · iexact H9
  isplitl [H10]
  · iexists _; isplitr
    swap; · iexact H10
    ipureintro
    exact plain_out c i M2 h2 M3 h3 M4 h4 M5 h5 M6 h6 M7 h7 M8 h8 M9 h9 M10 h10 M11 h11 M12 h12 f6 f10 f12 c1 c2 c3
  · iapply hN; iexact HN

theorem head_at (R O N N' : sProp 𝕄) (c1 : ¬ k0_cond1 i = 1#1) (c2 : ¬ k0_cond2 i = 1#1) (c3 : k0_cond3 i = 1#1)
    (hP : ∀ f, P f → M12.view.read (Elt F) f = H) (hP' : ∀ f, M12.view.read (Elt F) f = H → P' f) (hN : N ⊢ N') :
    iprop(((∃ f, ⌜P f⌝ ∗ pt c M12 f) ∗ R) ∗ O
      ∗ (∃ _ : D2, owns (c : Thread nD τ) M2 fullShare X2) ∗ (∃ _ : D3, owns (c : Thread nD τ) M3 fullShare X3)
      ∗ (∃ _ : D4, owns (c : Thread nD τ) M4 fullShare X4) ∗ (∃ _ : D5, owns (c : Thread nD τ) M5 fullShare X5)
      ∗ (∃ _ : D6, owns (c : Thread nD τ) M6 fullShare X6) ∗ (∃ _ : D7, owns (c : Thread nD τ) M7 fullShare X7)
      ∗ (∃ _ : D8, owns (c : Thread nD τ) M8 fullShare X8) ∗ (∃ _ : D9, owns (c : Thread nD τ) M9 fullShare X9)
      ∗ (∃ d : D10, owns (c : Thread nD τ) M10 fullShare (X10 d)) ∗ N)
    ⊢ wp frame (wpE (defs₀ (F := F)) Variants.nat c none) Set.univ
        (cc0_inproj i M2 h2 M3 h3 M4 h4 M5 h5 M6 h6 M7 h7 M8 h8 M9 h9 M10 h10 M11 h11 M12 h12) fun _ =>
      iprop(((∃ f, ⌜P' f⌝ ∗ pt c M12 f) ∗ R) ∗ O
      ∗ owns (c : Thread nD τ) M2 fullShare X2 ∗ owns (c : Thread nD τ) M3 fullShare X3
      ∗ owns (c : Thread nD τ) M4 fullShare X4 ∗ owns (c : Thread nD τ) M5 fullShare X5
      ∗ owns (c : Thread nD τ) M6 fullShare X6 ∗ owns (c : Thread nD τ) M7 fullShare X7
      ∗ owns (c : Thread nD τ) M8 fullShare X8 ∗ owns (c : Thread nD τ) M9 fullShare X9
      ∗ owns (c : Thread nD τ) M10 fullShare (ofHeads (headTile (k0_pay6 H X6) X8 X9)) ∗ N') := by
  simp only [owns_pt c M6 h6, owns_pt c M8 h8, owns_pt c M9 h9, owns_pt c M10 h10]
  iintro ⟨⟨⟨%f12, %e12, H12⟩, Hr⟩, Ho, ⟨%d2, H2⟩, ⟨%d3, H3⟩, ⟨%d4, H4⟩, ⟨%d5, H5⟩,
    ⟨%d6, %f6, %e6, H6⟩, ⟨%d7, H7⟩, ⟨%d8, %f8, %e8, H8⟩, ⟨%d9, %f9, %e9, H9⟩, ⟨%d10, %f10, -, H10⟩, HN⟩
  subst e6 e8 e9
  obtain rfl := hP f12 e12
  iapply (headRun c i M2 h2 M3 h3 M4 h4 M5 h5 M6 h6 M7 h7 M8 h8 M9 h9 M10 h10 M11 h11 M12 h12 f6 f8 f9 f10 f12 c1 c2 c3).2
  isplitl [H6]; · iexact H6
  isplitl [H8]; · iexact H8
  isplitl [H9]; · iexact H9
  isplitl [H10]; · iexact H10
  isplitl [H12]; · iexact H12
  iintro ⟨H6, H8, H9, H10, H12⟩
  isplitl [H12 Hr]
  · isplitl [H12]
    · iexists _; isplitr
      swap; · iexact H12
      ipureintro
      exact hP' _ rfl
    iexact Hr
  isplitl [Ho]; · iexact Ho
  isplitl [H2]; · iexact H2
  isplitl [H3]; · iexact H3
  isplitl [H4]; · iexact H4
  isplitl [H5]; · iexact H5
  isplitl [H6]; · iexists f6; isplitr; · ipureintro; rfl
                  iexact H6
  isplitl [H7]; · iexact H7
  isplitl [H8]; · iexists f8; isplitr; · ipureintro; rfl
                  iexact H8
  isplitl [H9]; · iexists f9; isplitr; · ipureintro; rfl
                  iexact H9
  isplitl [H10]
  · iexists _; isplitr
    swap; · iexact H10
    ipureintro
    exact head_out c i M2 h2 M3 h3 M4 h4 M5 h5 M6 h6 M7 h7 M8 h8 M9 h9 M10 h10 M11 h11 M12 h12 f6 f8 f9 f10 f12 c1 c2 c3
  · iapply hN; iexact HN

end

/-! ### The points of the grid -/

theorem first_conds : ∀ t : Fin grid0.N, t.val % 8 = 0 →
    k0_cond1 (grid0.coords t) = 1#1 ∧ k0_cond2 (grid0.coords t) = 1#1 ∧ ¬ k0_cond3 (grid0.coords t) = 1#1 := by decide +kernel
theorem head_conds : ∀ t : Fin grid0.N, t.val % 8 = 3 →
    ¬ k0_cond1 (grid0.coords t) = 1#1 ∧ ¬ k0_cond2 (grid0.coords t) = 1#1 ∧ k0_cond3 (grid0.coords t) = 1#1 := by decide +kernel
theorem plain_conds : ∀ t : Fin grid0.N, t.val % 8 ≠ 0 → t.val % 8 ≠ 3 →
    ¬ k0_cond1 (grid0.coords t) = 1#1 ∧ k0_cond2 (grid0.coords t) = 1#1 ∧ ¬ k0_cond3 (grid0.coords t) = 1#1 := by decide +kernel
theorem idle8 : ∀ t : Fin grid0.N, idle0 8 (grid0.coords t) = false := by decide +kernel
theorem idle9 : ∀ t : Fin grid0.N, idle0 9 (grid0.coords t) = decide (t.val % 8 ≠ 0) := by decide +kernel

/-- The first point of the row block of point `n`. -/
def firstOf (n : ℕ) : Fin grid0.N := ⟨8 * (n / 8) % 128, by rw [N_0]; exact Nat.mod_lt _ (by decide)⟩

theorem firstOf_self (t : Fin grid0.N) (h : t.val % 8 = 0) : firstOf t.val = t := by
  have ht : t.val < 128 := t.isLt
  apply Fin.ext; show 8 * (t.val / 8) % 128 = t.val; omega
theorem firstOf_succ (n : ℕ) (h : (n + 1) % 8 ≠ 0) : firstOf (n + 1) = firstOf n := by
  apply Fin.ext; show 8 * ((n + 1) / 8) % 128 = 8 * (n / 8) % 128
  rw [show (n + 1) / 8 = n / 8 by omega]

/-! ### The proof data -/

variable (V : Dev nD → Valuation τ sig (Elt F))

/-- What the windows' arrays hold where the region begins, -/
abbrev arrAt (c : Dev nD) (w : Fin 10) : Buf (Elt F) (((cfg0 (F := F)).win w).arr.view.loc (c : Thread nD τ)) :=
  V c (Proc.devRef .tc (Pipeline.arrRef spec0 w))

/-- and a point's block of each input. -/
def xBlk (c : Dev nD) (t : Fin grid0.N) : Vec F S1024x1024 .f32 := ((cfg0 (F := F)).win 0).blk t |>.view.read (Elt F) (arrAt V c 0)
def nBlk (c : Dev nD) (t : Fin grid0.N) : Vec F S1x1024 .f32 := ((cfg0 (F := F)).win 1).blk t |>.view.read (Elt F) (arrAt V c 1)
def aBlk (c : Dev nD) (t : Fin grid0.N) : Vec F S1x1024 .f32 := ((cfg0 (F := F)).win 2).blk t |>.view.read (Elt F) (arrAt V c 2)
def bBlk (c : Dev nD) (t : Fin grid0.N) : Vec F S1x1024 .f32 := ((cfg0 (F := F)).win 3).blk t |>.view.read (Elt F) (arrAt V c 3)
def wBlk (c : Dev nD) (t : Fin grid0.N) : Vec F S1024x1024 .bf16 := ((cfg0 (F := F)).win 4).blk t |>.view.read (Elt F) (arrAt V c 4)
def sBlk (c : Dev nD) (t : Fin grid0.N) : Vec F S1024x256 .bf16 := ((cfg0 (F := F)).win 5).blk t |>.view.read (Elt F) (arrAt V c 5)
def gBlk (c : Dev nD) (t : Fin grid0.N) : Vec F S1x1024 .f32 := ((cfg0 (F := F)).win 6).blk t |>.view.read (Elt F) (arrAt V c 6)
def cBlk (c : Dev nD) (t : Fin grid0.N) : Vec F S1x1024 .f32 := ((cfg0 (F := F)).win 7).blk t |>.view.read (Elt F) (arrAt V c 7)

/-- The normalised rows a first point computes, -/
def hBlk (c : Dev nD) (t : Fin grid0.N) : Vec F S1024x1024 .bf16 := k0_pay2 (xBlk V c t) (nBlk V c t) (aBlk V c t) (bBlk V c t)
/-- the block of the narrow result it computes, -/
def narrowBlk (c : Dev nD) (t : Fin grid0.N) : Vec F S1024x256 .f32 :=
  k0_pay3 (xBlk V c t) (nBlk V c t) (aBlk V c t) (bBlk V c t) (sBlk V c t)
/-- and the block of the wide result each point computes. -/
def wideBlk (c : Dev nD) (t : Fin grid0.N) : Vec F S1024x1024 .bf16 :=
  if t.val % 8 = 3 then ofHeads (headTile (k0_pay6 (hBlk V c (firstOf t.val)) (wBlk V c t)) (gBlk V c t) (cBlk V c t))
  else k0_pay4 (hBlk V c (firstOf t.val)) (wBlk V c t)

/-- A buffer held whole at some contents. -/
abbrev held1 (c : Dev nD) (b : Ref sig .tc) : sProp 𝕄 :=
  iprop(∃ f : Buf (Elt F) ((c : Thread nD τ).loc b), ((c : Thread nD τ).loc b) ↦{fullShare} f)

/-- The other call's buffers. -/
abbrev others (c : Dev nD) : sProp 𝕄 :=
  iprop(held1 (F := F) c cc1_stg0_0 ∗ held1 (F := F) c cc1_stg0_1 ∗ held1 (F := F) c cc1_stg1_0 ∗ held1 (F := F) c cc1_stg2_0
    ∗ held1 (F := F) c cc1_stg3_0 ∗ held1 (F := F) c cc1_stg3_1 ∗ held1 (F := F) c cc1_scratch0)

/-- What is known of the scratch ahead of point `n`: inside a row block it holds the block's normalised rows. -/
def Kept (c : Dev nD) (n : ℕ) (f : Bf (F := F) c (Memref.whole cc0_scratch0)) : Prop :=
  n % 8 ≠ 0 → (Memref.whole cc0_scratch0).view.read (Elt F) f = hBlk V c (firstOf n)

/-- The invariant ahead of point `n`. -/
def inv (c : Dev nD) (n : ℕ) : sProp 𝕄 :=
  iprop((∃ f, ⌜Kept V c n f⌝ ∗ pt c (Memref.whole cc0_scratch0) f) ∗ others (F := F) c)

/-- The proof data: the inputs stay as fetched, the outputs are the computed blocks. -/
def dat (c : Dev nD) : Dat τ (Elt F) Unit ℕ (UR nD τ) ℕ (cfg0 (F := F)) c where
  A := arrAt V c
  after := fun w t => match w with
    | 0 => xBlk V c t
    | 1 => nBlk V c t
    | 2 => aBlk V c t
    | 3 => bBlk V c t
    | 4 => wBlk V c t
    | 5 => sBlk V c t
    | 6 => gBlk V c t
    | 7 => cBlk V c t
    | 8 => wideBlk V c t
    | 9 => narrowBlk V c (firstOf t.val)
  Φ := fun n => inv V c n.val
  q := fun _ => fullShare
  owed := fun _ => 0

/-- At the ends of the region nothing is known of the scratch. -/
theorem inv_in (c : Dev nD) : (Pipeline.scopedRest spec0 c : sProp 𝕄) ⊢ inv V c 0 := by
  rw [scopedRest0_eq]
  unfold inv
  iintro ⟨⟨%f, H⟩, Hr⟩
  isplitl [H]
  · iexists f
    isplitr
    · ipureintro; exact fun h => absurd rfl h
    iexact H
  iexact Hr

theorem inv_out (c : Dev nD) : inv V c 128 ⊢ (Pipeline.scopedRest spec0 c : sProp 𝕄) := by
  rw [scopedRest0_eq]
  unfold inv
  iintro ⟨⟨%f, -, H⟩, Hr⟩
  isplitl [H]
  · iexists f; iexact H
  iexact Hr

/-- Where an idle output is written back, its buffer holds the stated contents. -/
theorem leaves_flushed {cfg : Pipeline.Cfg sig (Λ₀ F)} {c : Dev nD} (d : Dat τ (Elt F) Unit ℕ (UR nD τ) ℕ cfg c) (w : Fin cfg.W) (t : Fin cfg.N)
    (hi : cfg.idle w (cfg.grid.coords t) = true) (hf : (cfg.win w).flush t = true) (hl : cfg.loose w = false) :
    d.leaves w t = owns (c : Thread nD τ) ((cfg.win w).stage (cfg.slots t w)) fullShare (d.after w t) := by
  unfold Dat.leaves; rw [hi, hf, hl]

theorem leaves_live {cfg : Pipeline.Cfg sig (Λ₀ F)} {c : Dev nD} (d : Dat τ (Elt F) Unit ℕ (UR nD τ) ℕ cfg c) (w : Fin cfg.W) (t : Fin cfg.N)
    (hi : cfg.idle w (cfg.grid.coords t) = false) (hl : cfg.loose w = false) :
    d.leaves w t = owns (c : Thread nD τ) ((cfg.win w).stage (cfg.slots t w)) fullShare (d.after w t) := by
  unfold Dat.leaves; rw [hi, hl]

section
variable (c : Dev nD) (t : Fin grid0.N)
theorem found0 (d) : (dat V c).before (0 : Fin 10) t d = xBlk V c t :=
  Dat.before_in_eq_fetched (dat V c) (0 : Fin 10) rfl (fun _ => rfl) (fun _ _ _ => rfl) (fun _ => rfl) t d
theorem found1 (d) : (dat V c).before (1 : Fin 10) t d = nBlk V c t :=
  Dat.before_in_eq_fetched (dat V c) (1 : Fin 10) rfl (fun _ => rfl) (fun _ _ _ => rfl) (fun _ => rfl) t d
theorem found2 (d) : (dat V c).before (2 : Fin 10) t d = aBlk V c t :=
  Dat.before_in_eq_fetched (dat V c) (2 : Fin 10) rfl (fun _ => rfl) (fun _ _ _ => rfl) (fun _ => rfl) t d
theorem found3 (d) : (dat V c).before (3 : Fin 10) t d = bBlk V c t :=
  Dat.before_in_eq_fetched (dat V c) (3 : Fin 10) rfl (fun _ => rfl) (fun _ _ _ => rfl) (fun _ => rfl) t d
theorem found4 (d) : (dat V c).before (4 : Fin 10) t d = wBlk V c t :=
  Dat.before_in_eq_fetched (dat V c) (4 : Fin 10) rfl (fun _ => rfl) (fun _ _ _ => rfl) (fun _ => rfl) t d
theorem found5 (d) : (dat V c).before (5 : Fin 10) t d = sBlk V c t :=
  Dat.before_in_eq_fetched (dat V c) (5 : Fin 10) rfl (fun _ => rfl) (fun _ _ _ => rfl) (fun _ => rfl) t d
theorem found6 (d) : (dat V c).before (6 : Fin 10) t d = gBlk V c t :=
  Dat.before_in_eq_fetched (dat V c) (6 : Fin 10) rfl (fun _ => rfl) (fun _ _ _ => rfl) (fun _ => rfl) t d
theorem found7 (d) : (dat V c).before (7 : Fin 10) t d = cBlk V c t :=
  Dat.before_in_eq_fetched (dat V c) (7 : Fin 10) rfl (fun _ => rfl) (fun _ _ _ => rfl) (fun _ => rfl) t d

theorem left8 (X : Vec F S1024x1024 .bf16) (hX : wideBlk V c t = X) :
    (dat V c).leaves (8 : Fin 10) t = owns (c : Thread nD τ) (st0_8 (F := F) t) fullShare X := by
  subst hX
  exact leaves_live (dat V c) (8 : Fin 10) t (idle8 t) rfl

theorem left9_first (h : t.val % 8 = 0) :
    (dat V c).leaves (9 : Fin 10) t = owns (c : Thread nD τ) (st0_9 (F := F) t) fullShare (narrowBlk V c t) := by
  have e : narrowBlk V c t = narrowBlk V c (firstOf t.val) := by rw [firstOf_self t h]
  rw [e]
  exact leaves_live (dat V c) (9 : Fin 10) t ((idle9 t).trans (by rw [h]; rfl)) rfl

/-- The narrow result's block is new at the first point of every row block. -/
theorem fresh9 (n : Fin grid0.N) : (cfg0 (F := F)).fresh (9 : Fin 10) n.val = decide (n.val % 8 = 0) := by
  refine Pipeline.Cfg.fresh_tab (cfg0 (F := F)) (9 : Fin 10) (fun n => decide (n % 8 = 0)) rfl (fun s => ?_) n.val (Nat.le_of_lt n.isLt)
  have hi : (cfg0 (F := F)).idle (9 : Fin 10) ((cfg0 (F := F)).grid.coords s) = decide (s.val % 8 ≠ 0) := idle9 s
  rw [hi]
  by_cases h7 : s.val % 8 = 7
  · have hf : ((cfg0 (F := F)).win 9).flush s = true := (flush0_9 s).mpr h7
    refine Eq.trans ?_ (congrArg (fun b => b || (decide (s.val % 8 ≠ 0) && decide (s.val % 8 = 0))) hf).symm
    rw [Bool.true_or]
    exact decide_eq_true (by omega)
  · have hf : ((cfg0 (F := F)).win 9).flush s = false := Bool.eq_false_iff.mpr fun e => h7 ((flush0_9 s).mp e)
    refine Eq.trans ?_ (congrArg (fun b => b || (decide (s.val % 8 ≠ 0) && decide (s.val % 8 = 0))) hf).symm
    rw [Bool.false_or,
      show decide ((s.val + 1) % 8 = 0) = false from decide_eq_false (by omega)]
    by_cases h0 : s.val % 8 = 0
    · rw [decide_eq_false (not_not.mpr h0), Bool.false_and]
    · rw [decide_eq_false h0, Bool.and_false]

/-- Past the first point the narrow block is handed on as found. -/
theorem left9_later (h : t.val % 8 ≠ 0) :
    iprop(∃ d, owns (c : Thread nD τ) (((cfg0 (F := F)).win 9).stage ((cfg0 (F := F)).slots t 9)) fullShare ((dat V c).before (9 : Fin 10) t d))
      ⊢ ((dat V c).leaves (9 : Fin 10) t : sProp 𝕄) := by
  have hi : (cfg0 (F := F)).idle 9 ((cfg0 (F := F)).grid.coords t) = true := (idle9 t).trans (decide_eq_true h)
  by_cases h7 : t.val % 8 = 7
  · have hf : ((cfg0 (F := F)).win 9).flush t = true := (flush0_9 t).mpr h7
    have hb : ∀ d, (dat V c).before (9 : Fin 10) t d = (dat V c).after (9 : Fin 10) t := fun d => by
      have hcarry : ∀ (s : Fin (cfg0 (F := F)).N) (_ : s.val ≠ 0), (cfg0 (F := F)).idle 9 ((cfg0 (F := F)).grid.coords s) = true
          → (cfg0 (F := F)).fresh 9 s.val = false → (dat V c).after (9 : Fin 10) s = (dat V c).after (9 : Fin 10) ⟨s.val - 1, by omega⟩ := by
        intro s hs _ hfr
        have h8 : s.val % 8 ≠ 0 := fun h8 => by
          rw [fresh9 s, h8] at hfr; exact absurd hfr (by decide)
        show narrowBlk V c (firstOf s.val) = narrowBlk V c (firstOf (s.val - 1))
        have e : s.val = (s.val - 1) + 1 := by omega
        rw [show firstOf s.val = firstOf (s.val - 1) from by
          conv_lhs => rw [e]
          exact firstOf_succ _ (by omega)]
      have h0 : t.val ≠ 0 := by omega
      rw [Dat.before_out_traj (dat V c) (9 : Fin 10) rfl (fun _ _ => rfl) hcarry t.val t rfl d,
        if_neg (by rw [fresh9 t]; exact fun e => h (of_decide_eq_true e))]
      exact (hcarry t h0 hi (by rw [fresh9 t]; exact decide_eq_false h)).symm
    have hl : ((dat V c).leaves (9 : Fin 10) t : sProp 𝕄)
        = owns (c : Thread nD τ) (((cfg0 (F := F)).win 9).stage ((cfg0 (F := F)).slots t 9)) fullShare ((dat V c).after (9 : Fin 10) t) :=
      leaves_flushed (dat V c) (9 : Fin 10) t hi hf rfl
    rw [hl]
    simp only [hb]
    iintro ⟨%d, H⟩; iexact H
  · have hf : ((cfg0 (F := F)).win 9).flush t = false := Bool.eq_false_iff.mpr fun e => h7 ((flush0_9 t).mp e)
    rw [(dat V c).leaves_idle (9 : Fin 10) t hi hf]
    exact .rfl

end

set_option maxHeartbeats 2000000 in
/-- The body's obligation at every point. -/
theorem body_obligation (c : Dev nD) : BodyObligationLoose (dat V c) (defs₀ (F := F)) Variants.nat () Set.univ := fun t => by
  rw [bigSep_W0, bigSep_W0]
  show iprop(inv V c t.val ∗ (dat V c).owesAt () t.castSucc
      ∗ (∃ d, owns (c : Thread nD τ) (st0_0 t) fullShare ((dat V c).before (0 : Fin 10) t d))
      ∗ (∃ d, owns (c : Thread nD τ) (st0_1 t) fullShare ((dat V c).before (1 : Fin 10) t d))
      ∗ (∃ d, owns (c : Thread nD τ) (st0_2 t) fullShare ((dat V c).before (2 : Fin 10) t d))
      ∗ (∃ d, owns (c : Thread nD τ) (st0_3 t) fullShare ((dat V c).before (3 : Fin 10) t d))
      ∗ (∃ d, owns (c : Thread nD τ) (st0_4 t) fullShare ((dat V c).before (4 : Fin 10) t d))
      ∗ (∃ d, owns (c : Thread nD τ) (st0_5 t) fullShare ((dat V c).before (5 : Fin 10) t d))
      ∗ (∃ d, owns (c : Thread nD τ) (st0_6 t) fullShare ((dat V c).before (6 : Fin 10) t d))
      ∗ (∃ d, owns (c : Thread nD τ) (st0_7 t) fullShare ((dat V c).before (7 : Fin 10) t d))
      ∗ (∃ d, owns (c : Thread nD τ) (st0_8 t) fullShare ((dat V c).before (8 : Fin 10) t d))
      ∗ (∃ d, owns (c : Thread nD τ) (st0_9 t) fullShare ((dat V c).before (9 : Fin 10) t d)))
    ⊢ wp frame (wpE (defs₀ (F := F)) Variants.nat c none) Set.univ (bodyAt0 t) fun _ =>
      iprop(inv V c (t.val + 1) ∗ (dat V c).owesAt () t.succ
      ∗ owns (c : Thread nD τ) (st0_0 t) fullShare (xBlk V c t)
      ∗ owns (c : Thread nD τ) (st0_1 t) fullShare (nBlk V c t)
      ∗ owns (c : Thread nD τ) (st0_2 t) fullShare (aBlk V c t)
      ∗ owns (c : Thread nD τ) (st0_3 t) fullShare (bBlk V c t)
      ∗ owns (c : Thread nD τ) (st0_4 t) fullShare (wBlk V c t)
      ∗ owns (c : Thread nD τ) (st0_5 t) fullShare (sBlk V c t)
      ∗ owns (c : Thread nD τ) (st0_6 t) fullShare (gBlk V c t)
      ∗ owns (c : Thread nD τ) (st0_7 t) fullShare (cBlk V c t)
      ∗ (dat V c).leaves (8 : Fin 10) t ∗ (dat V c).leaves (9 : Fin 10) t)
  simp only [found0, found1, found2, found3, found4, found5, found6, found7]
  unfold inv
  by_cases h0 : t.val % 8 = 0
  · obtain ⟨c1, c2, c3⟩ := first_conds t h0
    rw [left9_first V c t h0, left8 V c t (k0_pay4 (k0_pay2 (xBlk V c t) (nBlk V c t) (aBlk V c t) (bBlk V c t)) (wBlk V c t)) (by
      unfold wideBlk; rw [if_neg (by omega), firstOf_self t h0]; rfl)]
    exact first_at c (grid0.coords t) (st0_0 t) (stage_whole0 0 _) (st0_1 t) (stage_whole0 1 _) (st0_2 t) (stage_whole0 2 _)
      (st0_3 t) (stage_whole0 3 _) (st0_4 t) (stage_whole0 4 _) (st0_5 t) (stage_whole0 5 _) (st0_6 t) (stage_whole0 6 _)
      (st0_7 t) (stage_whole0 7 _) (st0_8 t) (stage_whole0 8 _) (st0_9 t) (stage_whole0 9 _)
      (Memref.whole cc0_scratch0) (Memref.isWhole_whole _) (xBlk V c t) (nBlk V c t) (aBlk V c t) (bBlk V c t) (wBlk V c t) (sBlk V c t)
      (gBlk V c t) (cBlk V c t) (P := Kept V c t.val) (P' := Kept V c (t.val + 1)) (X10 := _) (X11 := _) (R := _) (O := _) (c1 := c1) (c2 := c2) (c3 := c3)
      (hP := fun f hf h1 => by rw [firstOf_succ _ h1, firstOf_self t h0]; exact hf)
  · have keep : ∀ f, Kept V c t.val f → (Memref.whole cc0_scratch0).view.read (Elt F) f = hBlk V c (firstOf t.val) := fun f hf => hf h0
    have keep' : ∀ f, (Memref.whole cc0_scratch0).view.read (Elt F) f = hBlk V c (firstOf t.val) → Kept V c (t.val + 1) f :=
      fun f hf h1 => by rw [firstOf_succ _ h1]; exact hf
    by_cases h3 : t.val % 8 = 3
    · obtain ⟨c1, c2, c3⟩ := head_conds t h3
      rw [left8 V c t (ofHeads (headTile (k0_pay6 (hBlk V c (firstOf t.val)) (wBlk V c t)) (gBlk V c t) (cBlk V c t))) (by
        unfold wideBlk; rw [if_pos h3])]
      exact head_at c (grid0.coords t) (st0_0 t) (stage_whole0 0 _) (st0_1 t) (stage_whole0 1 _) (st0_2 t) (stage_whole0 2 _)
        (st0_3 t) (stage_whole0 3 _) (st0_4 t) (stage_whole0 4 _) (st0_5 t) (stage_whole0 5 _) (st0_6 t) (stage_whole0 6 _)
        (st0_7 t) (stage_whole0 7 _) (st0_8 t) (stage_whole0 8 _) (st0_9 t) (stage_whole0 9 _)
        (Memref.whole cc0_scratch0) (Memref.isWhole_whole _) (xBlk V c t) (nBlk V c t) (aBlk V c t) (bBlk V c t) (wBlk V c t) (sBlk V c t)
        (gBlk V c t) (cBlk V c t) (P := Kept V c t.val) (P' := Kept V c (t.val + 1)) (X10 := _) (R := _) (O := _) (c1 := c1) (c2 := c2) (c3 := c3)
        (hP := keep) (hP' := keep') (hN := left9_later V c t h0)
    · obtain ⟨c1, c2, c3⟩ := plain_conds t h0 h3
      rw [left8 V c t (k0_pay4 (hBlk V c (firstOf t.val)) (wBlk V c t)) (by unfold wideBlk; rw [if_neg h3])]
      exact plain_at c (grid0.coords t) (st0_0 t) (stage_whole0 0 _) (st0_1 t) (stage_whole0 1 _) (st0_2 t) (stage_whole0 2 _)
        (st0_3 t) (stage_whole0 3 _) (st0_4 t) (stage_whole0 4 _) (st0_5 t) (stage_whole0 5 _) (st0_6 t) (stage_whole0 6 _)
        (st0_7 t) (stage_whole0 7 _) (st0_8 t) (stage_whole0 8 _) (st0_9 t) (stage_whole0 9 _)
        (Memref.whole cc0_scratch0) (Memref.isWhole_whole _) (xBlk V c t) (nBlk V c t) (aBlk V c t) (bBlk V c t) (wBlk V c t) (sBlk V c t)
        (gBlk V c t) (cBlk V c t) (P := Kept V c t.val) (P' := Kept V c (t.val + 1)) (X10 := _) (R := _) (O := _) (c1 := c1) (c2 := c2) (c3 := c3)
        (hP := keep) (hP' := keep') (hN := left9_later V c t h0)

end Cert.KernelIdeal.Proj

end
-- ==== Proof.Ideal.Run.lean ====
/-
  The run of the whole program: host operations, the projection, host operations, the attention. Every buffer ends at what
  these four leave, the arguments as launched, and every semaphore counter at zero.
-/
module

public import proofs.«01_k».proof.Proof.Ideal.Body
public import proofs.«01_k».proof.Proof.Ideal.ProjBody
public import Idealize.ShloMosaic.Lib.Pipeline.Regions
public import Idealize.ShloMosaic.Lib.Pipeline.FrameTail
public import Idealize.ShloMosaic.Lib.Pipeline.FrameSuffix
public import Idealize.ShloMosaic.Lib.Pipeline.RegionArraysS

@[expose] public section

set_option maxRecDepth 16384

noncomputable section

namespace Cert.KernelIdeal.Whole

open Cert.KernelIdeal Cert.KernelIdeal.Gen
open Cert.KernelIdeal.Stick (UR)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs)

variable {F : FTy → Type} [FloatOps F] [Named F]

local notation "𝕄" => MT nD τ sig Unit (Elt F) ℕ (UR nD τ) ℕ

variable (m : (ℓ : Loc nD τ sig) → Buf (Elt F) ℓ) (g : Dev nD → PrngReg)

/-- A core's buffers at launch, -/
abbrev atLaunch (c : Dev nD) : Valuation τ sig (Elt F) := fun b => m ((c : Dev nD), b)
/-- where the projection begins, -/
def atProj (c : Dev nD) : Valuation τ sig (Elt F) := StableHlo.after hostOps0 (atLaunch m c)
/-- where it ends, -/
def pastProj (c : Dev nD) : Valuation τ sig (Elt F) := Pipeline.afterRegion (Proj.dat (atProj m) c) (atProj m c)
/-- where the attention begins, -/
def atStick (c : Dev nD) : Valuation τ sig (Elt F) := StableHlo.after hostOps1 (pastProj m c)
/-- and where it ends. -/
def atEnd (c : Dev nD) : Valuation τ sig (Elt F) :=
  Pipeline.withArrays spec1 c (atStick m c) fun w => (Stick.dat (atStick m) c).arrAt w (cfg1 (F := F)).N

/-- The two calls' proof data. -/
def pdats : (p : Fin 2) → (c : Dev nD) → Dat τ (Elt F) Unit ℕ (UR nD τ) ℕ (cfgs (F := F) p) c
  | ⟨0, _⟩ => Proj.dat (atProj m)
  | ⟨1, _⟩ => Stick.dat (atStick m)
  | ⟨_ + 2, h⟩ => absurd h (Nat.not_lt.2 (Nat.le_add_left _ _))

abbrev L : GSem nD τ sig → Finset Unit := fun _ => ∅
abbrev lv : GSem nD τ sig → Unit → ℕ := fun _ _ => 0
abbrev adm : (p : Fin 2) → (pcfgs (F := F) p).Adm := fun p => (cfgs p).toPCfg_adm

/-- What rides beside the buffers: the core owes nothing. -/
abbrev idleCore (c : Dev nD) : sProp 𝕄 := iprop(∃ W, owes (c : Thread nD τ) (0 : CellTallies nD τ sig Unit) W)

def seg0 : Pipeline.HostSeg (Name := ℕ) (U := UR nD τ) (pcfgs (F := F)) defs₀ Variants.nat L lv :=
  Pipeline.HostSeg.ofOps _ _ _ _ _ (ucRefs τ sig) hostOps0
    (fun op h => Pipeline.sub_ucRefs op ((List.forall_iff_forall_mem.mp hostOps0_sub) op h))
    (by intro _ h; (repeat (cases h with | head => rfl | tail _ h => ?_)); exact nomatch h) (atLaunch m) idleCore

def seg1 : Pipeline.HostSeg (Name := ℕ) (U := UR nD τ) (pcfgs (F := F)) defs₀ Variants.nat L lv :=
  Pipeline.HostSeg.ofOps _ _ _ _ _ (ucRefs τ sig) hostOps1
    (fun op h => Pipeline.sub_ucRefs op ((List.forall_iff_forall_mem.mp hostOps1_sub) op h))
    (by intro _ h; (repeat (cases h with | head => rfl | tail _ h => ?_)); exact nomatch h) (pastProj m) idleCore

theorem owesAt_intro {cfg : Pipeline.Cfg sig (Λ₀ F)} {c : Dev nD} (dat : Dat τ (Elt F) Unit ℕ (UR nD τ) ℕ cfg c) (t : Fin (cfg.N + 1))
    (h0 : dat.owed t = 0) (hr : dat.recorded t = Set.univ) : idleCore (F := F) c ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig (Λ₀ F)} {c : Dev nD} (dat : Dat τ (Elt F) Unit ℕ (UR nD τ) ℕ cfg c) (t : Fin (cfg.N + 1))
    (h0 : dat.owed t = 0) : (dat.owesAt () t : sProp 𝕄) ⊢ idleCore (F := F) c := by
  unfold Dat.owesAt Pipeline.owesWithin; rw [h0]
  iintro ⟨%W, -, HO⟩; iexists W; iexact HO

theorem no_tables (c : Dev nD) (p : Fin 2) (pf) : (BI.emp : sProp 𝕄)
    ⊢ Pipeline.prefHeld (Ix := Unit) (Name := ℕ) (U := UR nD τ) (Lvl := ℕ) (Val := Elt F) (pcfgs (F := F) p).pre c (fun _ => fullShare) pf := by
  unfold Pipeline.prefHeld
  exact Entails.of_eq (by rw [show (Finset.univ : Finset (Fin ((pcfgs (F := F) p).pre).K)) = ∅ from rfl, BI.bigSep_empty])

set_option backward.isDefEq.respectTransparency.types false in
/-- The projection: its arrays taken out of the buffers and put back as it leaves them. -/
def reg0 : Pipeline.RegionSeg (pcfgs (F := F)) adm (pdats m) () defs₀ Variants.nat L lv 0 where
  win := launch0.win.to₀
  block_pos := launch0.block_pos
  stage_whole := launch0.stage_whole
  K := PEmpty
  osem k := k.elim
  ho := Pipeline.OwnSemFacts.none _
  hbody c := Proj.body_obligation (atProj m) c
  hwaits := Pipeline.hwaits_of_owed_zero _ _ _ _ L lv 0 fun _ _ => rfl
  pre c := iprop(StableHlo.held (c : Thread nD τ) (ucRefs τ sig) (atProj m c) ∗ idleCore (F := F) c)
  post c := iprop(StableHlo.held (c : Thread nD τ) (ucRefs τ sig) (pastProj m c) ∗ idleCore (F := F) c)
  X _ := iprop(emp)
  Y _ := iprop(emp)
  Z c := Pipeline.unscopedRest (Ix := Unit) (Name := ℕ) (U := UR nD τ) (Lvl := ℕ) spec0 c fun b => atProj m c (Proc.devRef .tc b)
  hentry c := by
    rw [Pipeline.ownSems0_none,
      show StableHlo.held (c : Thread nD τ) (ucRefs τ sig) (atProj m c) = unscopedBufs c (fun b => atProj m c (Proc.devRef .tc b))
        from (Pipeline.unscopedBufs_held (Ix := Unit) (Name := ℕ) (U := UR nD τ) (Lvl := ℕ) c (atProj m c)).symm]
    have hsplit := Pipeline.arrays_of_unscopedBufs (p := 0) (pcfgs (F := F)) adm (pdats m) launch0.win launch0.arr_whole c
      ((pdats m 0 c).share_full fun _ => rfl) (fun b => atProj m c (Proc.devRef .tc b)) (fun _ => rfl)
    iintro ⟨⟨Hub, HO⟩, -, -⟩
    ihave H := hsplit $$ Hub
    icases H with ⟨Ha, Hrest⟩
    imodintro
    isplitl [Ha]; · iexact Ha
    isplitr; · iapply (no_tables c 0); iempintro
    isplitl [HO]; · iapply (owesAt_intro (pdats m 0 c) 0 rfl rfl); iexact HO
    isplitr; · iempintro
    iexact Hrest
  hin c := by
    rw [show (pdats m 0 c).Φ 0 = Proj.inv (atProj m) c 0 from rfl]
    iintro ⟨-, -, Hr⟩
    iapply (Proj.inv_in (atProj m) c); iexact Hr
  hout c := by
    rw [Pipeline.ownSems0_none, show (pdats m 0 c).Φ (Fin.last _) = Proj.inv (atProj m) c 128 from rfl]
    iintro H
    isplitr; · iempintro
    isplitr; · iempintro
    iapply (Proj.inv_out (atProj m) c); iexact H
  hexit c := by
    have hjoin := Pipeline.unscopedBufs_of_arrays (p := 0) (pcfgs (F := F)) adm (Ix := Unit) (Name := ℕ) (U := UR nD τ) (Lvl := ℕ)
      launch0.win launch0.arr_whole c (pdats m) ((pdats m 0 c).share_full fun _ => rfl)
      (fun b => atProj m c (Proc.devRef .tc b)) (fun b => pastProj m c (Proc.devRef .tc b)) ((pdats m 0 c).arrAt · (cfg0 (F := F)).N)
      (fun w => (Pipeline.afterRegion_arr (pdats m 0 c) (atProj m c) launch0.win.arr_inj w).symm)
      (fun b hb => Pipeline.afterRegion_of_not_arr (pdats m 0 c) (atProj m c)
        fun w h => hb (h ▸ Finset.mem_image.mpr ⟨w, Finset.mem_univ _, rfl⟩))
    rw [show StableHlo.held (c : Thread nD τ) (ucRefs τ sig) (pastProj m c) = unscopedBufs c (fun b => pastProj m c (Proc.devRef .tc b))
        from (Pipeline.unscopedBufs_held (Ix := Unit) (Name := ℕ) (U := UR nD τ) (Lvl := ℕ) c (pastProj m c)).symm]
    iintro ⟨Ha, HO, -, Hrest⟩
    imodintro
    isplitl [Ha Hrest]
    · iapply hjoin; isplitl [Ha] <;> iassumption
    iapply (owesAt_elim (pdats m 0 c) _ rfl); iexact HO

/-- What the attention leaves for the end: its arrays' buffers, and the others as it found them. -/
abbrev last (c : Dev nD) : sProp 𝕄 :=
  iprop(Pipeline.arrBufs (Ix := Unit) (Name := ℕ) (U := UR nD τ) (Lvl := ℕ) spec1 c (fun b => atEnd m c (Proc.devRef .tc b))
    ∗ Pipeline.unscopedRest (Ix := Unit) (Name := ℕ) (U := UR nD τ) (Lvl := ℕ) spec1 c fun b => atStick m c (Proc.devRef .tc b))

theorem atEnd_arr (c : Dev nD) (w : Fin 4) :
    atEnd m c (Proc.devRef .tc (Pipeline.arrRef spec1 w)) = (Stick.dat (atStick m) c).arrAt w (cfg1 (F := F)).N :=
  Pipeline.withArrays_arr_shared spec1 c (atStick m c) _
    ((Stick.dat (atStick m) c).arrAt_sharedIn sharedIn1 (atStick m c) (fun _ => rfl) (cfg1 (F := F)).N) w

set_option backward.isDefEq.respectTransparency.types false in
/-- The attention: three of its windows read one array. -/
def reg1 : Pipeline.RegionSeg (pcfgs (F := F)) adm (pdats m) () defs₀ Variants.nat L lv 1 where
  win := winFacts₀1
  block_pos := launch₀1.block_pos
  stage_whole := launch₀1.stage_whole
  K := PEmpty
  osem k := k.elim
  ho := Pipeline.OwnSemFacts.none _
  hbody c := Stick.body_obligation (atStick m) c
  hwaits := Pipeline.hwaits_of_owed_zero _ _ _ _ L lv 1 fun _ _ => rfl
  pre c := iprop(StableHlo.held (c : Thread nD τ) (ucRefs τ sig) (atStick m c) ∗ idleCore (F := F) c)
  post c := iprop(last m c ∗ idleCore (F := F) c)
  X _ := iprop(emp)
  Y _ := iprop(emp)
  Z c := Pipeline.unscopedRest (Ix := Unit) (Name := ℕ) (U := UR nD τ) (Lvl := ℕ) spec1 c fun b => atStick m c (Proc.devRef .tc b)
  hentry c := by
    rw [Pipeline.ownSems0_none,
      show StableHlo.held (c : Thread nD τ) (ucRefs τ sig) (atStick m c) = unscopedBufs c (fun b => atStick m c (Proc.devRef .tc b))
        from (Pipeline.unscopedBufs_held (Ix := Unit) (Name := ℕ) (U := UR nD τ) (Lvl := ℕ) c (atStick m c)).symm]
    have hsplit := Pipeline.arrays_of_unscopedBufs_shared (p := 1) (pcfgs (F := F)) adm (pdats m) winFacts₀1 sharedIn1 arr_whole1 c
      (fun _ _ => rfl) (fun b => atStick m c (Proc.devRef .tc b)) (fun _ => rfl)
    iintro ⟨⟨Hub, HO⟩, -, -⟩
    ihave H := hsplit $$ Hub
    icases H with ⟨Ha, Hrest⟩
    imodintro
    isplitl [Ha]; · iexact Ha
    isplitr; · iapply (no_tables c 1); iempintro
    isplitl [HO]; · iapply (owesAt_intro (pdats m 1 c) 0 rfl rfl); iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro H
    isplitr; · iempintro
    isplitr; · iempintro
    iexact H
  hexit c := by
    have hB : ((pdats m 1 c).arrays (fun w => (pdats m 1 c).arrAt w (cfg1 (F := F)).N) : sProp 𝕄)
        = Pipeline.arrBufs spec1 c (fun b => atEnd m c (Proc.devRef .tc b)) :=
      ((pdats m 1 c).arrBufs_eq_arrays sharedIn1 arr_whole1 (fun _ _ => rfl) _ _ fun w => (atEnd_arr m c w).symm).symm
    iintro ⟨Ha, HO, -, Hrest⟩
    imodintro
    isplitl [Ha Hrest]
    · isplitl [Ha]
      · iapply (Entails.of_eq hB); iexact Ha
      iexact Hrest
    iapply (owesAt_elim (pdats m 1 c) _ rfl); iexact HO

/-- The program as its four parts. -/
abbrev segs : List (Pipeline.Seg (pcfgs (F := F)) adm (pdats m) () defs₀ Variants.nat L lv) :=
  [.host (seg0 m), .region (reg0 m), .host (seg1 m), .region (reg1 m)]

set_option backward.isDefEq.respectTransparency.types false in
/-- From any memory, every execution ends with the arrays of the attention as it leaves them, every other buffer as it found
    them, and the counters at zero. -/
theorem run_all : θ_run (defs (F := F)) (onTc (τ := τ) (main (F := F))) ⟨m, fun _ => 0, g⟩ (fun r =>
    (∀ c : Dev nD, r.2.mem ((c.tc : Thread nD τ).loc main_v43) = (Stick.dat (atStick m) c).arrAt (3 : Fin 4) (cfg1 (F := F)).N
      ∧ ∀ b ∈ (Finset.univ.filter fun b : Ref sig .tc => ¬ b.isScoped) \ Finset.univ.image (Pipeline.arrRef spec1),
        r.2.mem ((c.tc : Thread nD τ).loc b) = atStick m c (Proc.devRef .tc b))
    ∧ r.2.sem = fun _ => 0) :=
  Pipeline.θ_run_regions_kit_sems (pcfgs (F := F)) adm (pdats m) () cellOf_inj emb₁ defs₀ Variants.nat L lv m g main (segs m)
    (fun c Q => by rw [main_segs adm (pdats m) () Variants.nat L lv (seg0 m) (seg1 m) (reg0 m) (reg1 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (atLaunch m c) ∗ idleCore (F := F) c)) (Tₙ := last m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (atLaunch m c)
          from Pipeline.unscopedBufs_held (Ix := Unit) (Name := ℕ) (U := UR nD τ) (Lvl := ℕ) c (atLaunch m c)]
      iintro ⟨⟨Hh, -, HO, -, -, -⟩, -⟩
      imodintro
      isplitl [Hh]; · iexact Hh
      iexists ∅; iexact HO)
    (QY := fun c s => (∀ b ∈ Finset.univ.image (Pipeline.arrRef spec1), s.mem ((c.tc : Thread nD τ).loc b) = atEnd m c (Proc.devRef .tc b))
      ∧ ∀ b ∈ (Finset.univ.filter fun b : Ref sig .tc => ¬ b.isScoped) \ Finset.univ.image (Pipeline.arrRef spec1),
        s.mem ((c.tc : Thread nD τ).loc b) = atStick m c (Proc.devRef .tc b))
    (hfin := fun c s' => by
      unfold last Pipeline.arrBufs Pipeline.unscopedRest
      iintro ⟨⟨Ha, Hr⟩, HSI⟩
      ihave H := (pointsTo_read_all (Finset.univ.image (Pipeline.arrRef spec1)) (fun b => (c.tc : Thread nD τ).loc b) (fun b => atEnd m c (Proc.devRef .tc b)) s') $$ [Ha HSI]
      · isplitl [Ha] <;> iassumption
      icases H with ⟨%ha, HSI⟩
      ihave H := (pointsTo_read_all ((Finset.univ.filter fun b : Ref sig .tc => ¬ b.isScoped) \ Finset.univ.image (Pipeline.arrRef spec1))
        (fun b => (c.tc : Thread nD τ).loc b) (fun b => atStick m c (Proc.devRef .tc b)) s') $$ [Hr HSI]
      · isplitl [Hr] <;> iassumption
      icases H with ⟨%hr, HSI⟩
      imodintro
      isplitr; · ipureintro; exact ⟨ha, hr⟩
      iexact HSI)
    (hQ := fun _ h hz => ⟨fun c => ⟨((h c).1 main_v43 (Finset.mem_image.mpr ⟨(3 : Fin 4), Finset.mem_univ _, rfl⟩)).trans (atEnd_arr m c 3), (h c).2⟩,
      funext fun g => hz g (.inr (by revert g; decide))⟩)

/-! ### The arguments end as launched -/

set_option maxHeartbeats 2000000 in
theorem args_atProj (c : Dev nD) : atProj m c (Proc.devRef .tc main_arg0) = m ((c.tc : Thread nD τ).loc main_arg0)
    ∧ atProj m c (Proc.devRef .tc main_arg1) = m ((c.tc : Thread nD τ).loc main_arg1)
    ∧ atProj m c (Proc.devRef .tc main_arg2) = m ((c.tc : Thread nD τ).loc main_arg2)
    ∧ atProj m c (Proc.devRef .tc main_arg3) = m ((c.tc : Thread nD τ).loc main_arg3)
    ∧ atProj m c (Proc.devRef .tc main_arg4) = m ((c.tc : Thread nD τ).loc main_arg4)
    ∧ atProj m c (Proc.devRef .tc main_arg5) = m ((c.tc : Thread nD τ).loc main_arg5)
    ∧ atProj m c (Proc.devRef .tc main_arg6) = m ((c.tc : Thread nD τ).loc main_arg6) := by
  unfold atProj
  simp only [hostOps0]
  refine ⟨?_, ?_, ?_, ?_, ?_, ?_, ?_⟩
  all_goals after_results_simp
  all_goals rfl

theorem pastProj_other (c : Dev nD) (b : Ref sig .tc) (h : ∀ w : Fin 10, Pipeline.arrRef spec0 w ≠ b) :
    pastProj m c (Proc.devRef .tc b) = atProj m c (Proc.devRef .tc b) :=
  Pipeline.afterRegion_of_not_arr (Proj.dat (atProj m) c) (atProj m c) fun w e => h w e.symm

set_option maxHeartbeats 2000000 in
theorem args_atStick (c : Dev nD) : atStick m c (Proc.devRef .tc main_arg0) = m ((c.tc : Thread nD τ).loc main_arg0)
    ∧ atStick m c (Proc.devRef .tc main_arg1) = m ((c.tc : Thread nD τ).loc main_arg1)
    ∧ atStick m c (Proc.devRef .tc main_arg2) = m ((c.tc : Thread nD τ).loc main_arg2)
    ∧ atStick m c (Proc.devRef .tc main_arg3) = m ((c.tc : Thread nD τ).loc main_arg3)
    ∧ atStick m c (Proc.devRef .tc main_arg4) = m ((c.tc : Thread nD τ).loc main_arg4)
    ∧ atStick m c (Proc.devRef .tc main_arg5) = m ((c.tc : Thread nD τ).loc main_arg5)
    ∧ atStick m c (Proc.devRef .tc main_arg6) = m ((c.tc : Thread nD τ).loc main_arg6) := by
  obtain ⟨h0, h1, h2, h3, h4, h5, h6⟩ := args_atProj m c
  unfold atStick
  simp only [hostOps1]
  refine ⟨?_, ?_, ?_, ?_, ?_, ?_, ?_⟩
  all_goals after_results_simp
  · exact (pastProj_other m c main_arg0 (by decide)).trans h0
  · exact (pastProj_other m c main_arg1 (by decide)).trans h1
  · exact (pastProj_other m c main_arg2 (by decide)).trans h2
  · exact (pastProj_other m c main_arg3 (by decide)).trans h3
  · exact (pastProj_other m c main_arg4 (by decide)).trans h4
  · exact (pastProj_other m c main_arg5 (by decide)).trans h5
  · exact (pastProj_other m c main_arg6 (by decide)).trans h6

/-- The buffers that are no array of the attention. -/
abbrev others : Finset (Ref sig .tc) :=
  (Finset.univ.filter fun b : Ref sig .tc => ¬ b.isScoped) \ Finset.univ.image (Pipeline.arrRef spec1)

theorem mem_others (b : Ref sig .tc) (h : b.isScoped = false) (hw : ∀ w : Fin 4, Pipeline.arrRef spec1 w ≠ b) : b ∈ others :=
  Finset.mem_sdiff.mpr ⟨Finset.mem_filter.mpr ⟨Finset.mem_univ _, by rw [h]; decide⟩, fun hb => by
    obtain ⟨w, -, e⟩ := Finset.mem_image.mp hb; exact hw w e⟩

/-- Every run ends with the nine results and the arguments as named here, and the counters at zero. -/
theorem run : θ_run (defs (F := F)) (onTc (τ := τ) (main (F := F))) ⟨m, fun _ => 0, g⟩ (fun r =>
    (∀ c : Dev nD, (r.2.mem ((c.tc : Thread nD τ).loc main_v31) = atStick m c (Proc.devRef .tc main_v31)
        ∧ r.2.mem ((c.tc : Thread nD τ).loc main_v33) = atStick m c (Proc.devRef .tc main_v33)
        ∧ r.2.mem ((c.tc : Thread nD τ).loc main_v34) = atStick m c (Proc.devRef .tc main_v34)
        ∧ r.2.mem ((c.tc : Thread nD τ).loc main_v36) = atStick m c (Proc.devRef .tc main_v36)
        ∧ r.2.mem ((c.tc : Thread nD τ).loc main_v37) = atStick m c (Proc.devRef .tc main_v37)
        ∧ r.2.mem ((c.tc : Thread nD τ).loc main_v38) = atStick m c (Proc.devRef .tc main_v38)
        ∧ r.2.mem ((c.tc : Thread nD τ).loc main_v40) = atStick m c (Proc.devRef .tc main_v40)
        ∧ r.2.mem ((c.tc : Thread nD τ).loc main_v42) = atStick m c (Proc.devRef .tc main_v42)
        ∧ r.2.mem ((c.tc : Thread nD τ).loc main_v43) = (Stick.dat (atStick m) c).arrAt (3 : Fin 4) (cfg1 (F := F)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => by
    obtain ⟨h0, h1, h2, h3, h4, h5, h6⟩ := args_atStick m c
    have k := fun b hs hw => (h.1 c).2 b (mem_others b hs hw)
    exact ⟨⟨k main_v31 rfl (by decide), k main_v33 rfl (by decide), k main_v34 rfl (by decide), k main_v36 rfl (by decide),
      k main_v37 rfl (by decide), k main_v38 rfl (by decide), k main_v40 rfl (by decide), k main_v42 rfl (by decide), (h.1 c).1⟩,
      (k main_arg0 rfl (by decide)).trans h0, (k main_arg1 rfl (by decide)).trans h1, (k main_arg2 rfl (by decide)).trans h2,
      (k main_arg3 rfl (by decide)).trans h3, (k main_arg4 rfl (by decide)).trans h4, (k main_arg5 rfl (by decide)).trans h5,
      (k main_arg6 rfl (by decide)).trans h6⟩, h.2⟩) (run_all m g)

end Cert.KernelIdeal.Whole

end
-- ==== Proof.Frames.lean ====
/-
  The frames of the three programs, and the idealization: the kernel's two copies by their runs, the reference by the run
  of its host operations (it has no semaphore), the named constant by its rule.
-/
module

public import proofs.«01_k».proof.Defs
public import proofs.«01_k».proof.Proof.Gen.ReferenceIdeal.Run
public import proofs.«01_k».proof.Proof.Ideal.Run
public import proofs.«01_k».proof.Proof.Bits.Run
public import Idealize.ShloMosaic.Init

@[expose] public section

noncomputable section

namespace Cert.Proof

open Idealize.ShloMosaic Idealize.SL.Sem

theorem frameBits : Cert.quiescent_Kernel (hKernel := Cert.Kernel.Gen.facts) := fun m g _ =>
  (θ_run Cert.Kernel.defs _ _).mono (fun _ h => ⟨fun c => (h.1 c).2, h.2⟩) (Cert.Kernel.Whole.run (F := Bits) m g)

theorem frameIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Whole.run (F := Ideal) m g)

theorem frameReference : Cert.quiescent_ReferenceIdeal (hReferenceIdeal := Cert.ReferenceIdeal.Gen.facts) := fun m g _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m g)

theorem preserves : Cert.preserves_Kernel_KernelIdeal :=
  IdealRules.named_const.statement Cert.KernelIdeal.κ "skip" .f32 0xC2DC0000#32 ⊥ rfl

end Cert.Proof

end
-- ==== Proof.Math.Cell.lean ====
/-
  A matrix read at a row and a column given as natural numbers, zero outside it.
-/
module

public import Idealize.ShloMosaic.Lib.Pointwise

@[expose] public section

noncomputable section

namespace Cert.Math

open Idealize.ShloMosaic

/-- The entry in row `s` and column `e`. -/
def cell {n w : ℕ} (A : (⟨2, ![n, w]⟩ : Shape).Idx → EReal) (s e : ℕ) : EReal :=
  if h : s < n ∧ e < w then A (ix2 ⟨s, h.1⟩ ⟨e, h.2⟩) else 0

theorem cell_ix2 {n w : ℕ} (A : (⟨2, ![n, w]⟩ : Shape).Idx → EReal) (s : Fin n) (e : Fin w) : A (ix2 s e) = cell A s e := by
  rw [cell, dif_pos ⟨s.isLt, e.isLt⟩]

/-- An index whose coordinates are `s` and `e` reads that entry. -/
theorem cell_of {n w : ℕ} (A : (⟨2, ![n, w]⟩ : Shape).Idx → EReal) (x : (⟨2, ![n, w]⟩ : Shape).Idx) {s e : ℕ}
    (h0 : (x 0).val = s) (h1 : (x 1).val = e) : A x = cell A s e := by
  subst h0 h1
  rw [cell, dif_pos ⟨(x 0).isLt, (x 1).isLt⟩]
  exact congrArg A (funext fun a => by match a with | 0 => rfl | 1 => rfl)

end Cert.Math

end
-- ==== Proof.Math.Layer.lean ====
/-
  The mathematics of the projection, on plain functions of a row and a column: rows over their root mean square, the
  modulated rows, their product with the weights, and a head over its root mean square.
-/
module

public import proofs.«01_k».proof.Proof.Math.Cell
public import Mathlib.Algebra.BigOperators.Group.Finset.Basic

@[expose] public section

noncomputable section

namespace Cert.Math

open Idealize.ShloMosaic
open scoped BigOperators

/-- The entry of a vector. -/
def entry {n : ℕ} (a : (⟨1, ![n]⟩ : Shape).Idx → EReal) (e : ℕ) : EReal := if h : e < n then a (ix1 ⟨e, h⟩) else 0

theorem entry_of {n : ℕ} (a : (⟨1, ![n]⟩ : Shape).Idx → EReal) (x : (⟨1, ![n]⟩ : Shape).Idx) {e : ℕ} (h : (x 0).val = e) : a x = entry a e := by
  subst h
  have h : (x 0).val < n := (x 0).isLt
  rw [entry, dif_pos h]
  exact congrArg a (funext fun i => by match i with | 0 => rfl)

/-- One over the root of the mean square of `n` entries, `d` being their number. -/
def invRms (n : ℕ) (d : EReal) (x : ℕ → EReal) : EReal :=
  Ideal.rsqrt (Ideal.div (∑ k ∈ Finset.range n, x k * x k) d + Ideal.ofBits .f32 0x358637BD#32)

theorem invRms_congr {n : ℕ} {d : EReal} {x x' : ℕ → EReal} (h : ∀ k, k < n → x k = x' k) : invRms n d x = invRms n d x' := by
  unfold invRms
  rw [Finset.sum_congr rfl fun k hk => by rw [h k (Finset.mem_range.mp hk)]]

/-- A row of the layer's input over its root mean square, with the norm's gains, the scales and the shifts. -/
def modulated (x : ℕ → ℕ → EReal) (g a b : ℕ → EReal) (s k : ℕ) : EReal :=
  x s k * invRms 1024 (Ideal.ofBits .f32 0x44800000#32) (x s) * g k * (1 + a k) + b k

/-- The product with the weights. -/
def product (h w : ℕ → ℕ → EReal) (s e : ℕ) : EReal := ∑ k ∈ Finset.range 1024, h s k * w k e

theorem product_congr {h w w' : ℕ → ℕ → EReal} {s e e' : ℕ} (hw : ∀ k, k < 1024 → w k e = w' k e') : product h w s e = product h w' s e' := by
  unfold product
  exact Finset.sum_congr rfl fun k hk => by rw [hw k (Finset.mem_range.mp hk)]

/-- An entry over the root mean square of its head, the heads being of 128 columns. -/
def head (p : ℕ → ℕ → EReal) (s e : ℕ) : EReal :=
  p s e * invRms 128 (Ideal.ofBits .f32 0x43000000#32) fun d => p s (128 * (e / 128) + d)

/-- An array of the columns from `lo` on. -/
def colsOf {n w : ℕ} (p : ℕ → ℕ → EReal) (lo : ℕ) : (⟨2, ![n, w]⟩ : Shape).Idx → EReal := fun y => p (y 0).val (lo + (y 1).val)

end Cert.Math

end
-- ==== Proof.Math.Word.lean ====
/-
  Finite sums and maxima of reals among the extended reals, and small counts as words.
-/
module

public import Idealize.ShloMosaic.Lib.Pointwise

@[expose] public section

noncomputable section

namespace Cert.Math

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := EReal.coe_strictMono.monotone.map_max

/-- Comparing two small counts as words is comparing them. -/
theorem slt_ofNat {a b : ℕ} (ha : a < 2 ^ 31) (hb : b < 2 ^ 31) :
    IntOp.cmpi .slt (BitVec.ofNat 32 a) (BitVec.ofNat 32 b) = if a < b then 1#1 else 0#1 := by
  have e : BitVec.slt (BitVec.ofNat 32 a) (BitVec.ofNat 32 b) = decide (a < b) := by
    rw [BitVec.slt, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_lt
  show BitVec.ofBool (BitVec.slt _ _) = _
  rw [e]
  by_cases h : a < b
  · rw [if_pos h, decide_eq_true h]; rfl
  · rw [if_neg h, decide_eq_false h]; rfl

theorem sgt_ofNat {a b : ℕ} (ha : a < 2 ^ 31) (hb : b < 2 ^ 31) :
    IntOp.cmpi .sgt (BitVec.ofNat 32 a) (BitVec.ofNat 32 b) = if b < a then 1#1 else 0#1 :=
  slt_ofNat hb ha

end Cert.Math

end
-- ==== Proof.Math.Normed.lean ====
/-
  A head over its root mean square is real whatever the head holds: where an entry is infinite the mean square is too, and
  one over its root is zero.
-/
module

public import proofs.«01_k».proof.Proof.Math.Layer
public import proofs.«01_k».proof.Proof.Math.Word

@[expose] public section

noncomputable section

namespace Cert.Math

open Idealize.ShloMosaic
open scoped BigOperators

theorem heads_width : Ideal.ofBits .f32 0x43000000#32 = ((128 : ℝ) : EReal) := by
  simp [Ideal.ofBits, Ideal.ieee, -EReal.coe_mul]; norm_num

/-- The term added to a mean square is a positive real. -/
theorem eps_pos : ∃ r : ℝ, 0 < r ∧ Ideal.ofBits .f32 0x358637BD#32 = (r : EReal) := by
  refine ⟨_, ?_, by simp [Ideal.ofBits, Ideal.ieee, -EReal.coe_mul]; rfl⟩
  norm_num

/-- The factor of the queries is a real. -/
theorem factor_real : ∃ r : ℝ, Ideal.ofBits .f32 0x3DB504F3#32 = (r : EReal) :=
  ⟨_, by simp [Ideal.ofBits, Ideal.ieee, -EReal.coe_mul]; rfl⟩

theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- Where an entry is infinite, one over the root mean square is zero. -/
theorem invRms_top {x : ℕ → EReal} {k : ℕ} (hk : k < 128) (h : x k * x k = ⊤) : invRms 128 (Ideal.ofBits .f32 0x43000000#32) x = 0 := by
  obtain ⟨r, -, he⟩ := eps_pos
  have hs : ∑ k ∈ Finset.range 128, x k * x k = ⊤ :=
    top_le_iff.mp (h ▸ Finset.single_le_sum (f := fun k => x k * x k) (fun i _ => sq_nonneg' (x i)) (Finset.mem_range.mpr hk))
  have hd : Ideal.div ⊤ ((128 : ℝ) : EReal) = ⊤ := by
    have h0 : ((128 : ℝ) : EReal) ≠ 0 := by norm_num
    rw [Ideal.div, if_neg h0, ← EReal.coe_inv]
    exact EReal.top_mul_of_pos (by norm_num)
  rw [invRms, hs, heads_width, hd, he, EReal.top_add_coe, Ideal.rsqrt_top]

/-- Where all are reals it is a real. -/
theorem invRms_coe (x : ℕ → ℝ) : ∃ r : ℝ, invRms 128 (Ideal.ofBits .f32 0x43000000#32) (fun k => (x k : EReal)) = (r : EReal) := by
  obtain ⟨e, he, hb⟩ := eps_pos
  have h0 : ((128 : ℝ) : EReal) ≠ 0 := by norm_num
  have hs : ∑ k ∈ Finset.range 128, (x k : EReal) * (x k : EReal) = ((∑ k ∈ Finset.range 128, x k * x k : ℝ) : EReal) := by
    rw [coe_sum]; exact Finset.sum_congr rfl fun k _ => (EReal.coe_mul _ _).symm
  have hp : 0 < (∑ k ∈ Finset.range 128, x k * x k) * (128 : ℝ)⁻¹ + e :=
    add_pos_of_nonneg_of_pos (mul_nonneg (Finset.sum_nonneg fun k _ => mul_self_nonneg _) (by norm_num)) he
  refine ⟨(Real.sqrt ((∑ k ∈ Finset.range 128, x k * x k) * (128 : ℝ)⁻¹ + e))⁻¹, ?_⟩
  rw [invRms, hs, heads_width, hb, Ideal.div, if_neg h0, ← EReal.coe_inv, ← EReal.coe_mul, ← EReal.coe_add, Ideal.rsqrt_coe,
    if_neg (not_lt.mpr hp.le), if_neg hp.ne']

theorem head_real (p : ℕ → ℕ → EReal) (s e : ℕ) : head p s e = ((head p s e).toReal : EReal) := by
  suffices h : ∃ r : ℝ, head p s e = (r : EReal) by obtain ⟨r, h⟩ := h; rw [h, EReal.toReal_coe]
  unfold head
  by_cases hinf : ∃ k, k < 128 ∧ p s (128 * (e / 128) + k) * p s (128 * (e / 128) + k) = ⊤
  · obtain ⟨k, hk, h⟩ := hinf
    exact ⟨0, by rw [invRms_top (x := fun d => p s (128 * (e / 128) + d)) hk h, mul_zero, EReal.coe_zero]⟩
  have hfin : ∀ k, k < 128 → p s (128 * (e / 128) + k) = ((p s (128 * (e / 128) + k)).toReal : EReal) := fun k hk =>
    (EReal.coe_toReal (fun h => hinf ⟨k, hk, by rw [h]; rfl⟩) (fun h => hinf ⟨k, hk, by rw [h]; rfl⟩)).symm
  obtain ⟨r, hr⟩ := invRms_coe fun k => (p s (128 * (e / 128) + k)).toReal
  have hs := hfin (e % 128) (Nat.mod_lt _ (by decide))
  rw [Nat.div_add_mod] at hs
  exact ⟨(p s e).toReal * r, by rw [invRms_congr hfin, hr, EReal.coe_mul, ← hs]⟩

/-! ### The queries, keys and values of a projection, the heads' columns at 1544, 2056 and 2568 -/

def queriesOf (p : ℕ → ℕ → EReal) (g : ℕ → EReal) (s e : ℕ) : EReal :=
  head (fun s e => p s (1544 + e)) s e * g (e % 128) * Ideal.ofBits .f32 0x3DB504F3#32
def keysOf (p : ℕ → ℕ → EReal) (g : ℕ → EReal) (s e : ℕ) : EReal := head (fun s e => p s (2056 + e)) s e * g (e % 128)
def valuesOf (p : ℕ → ℕ → EReal) (s e : ℕ) : EReal := p s (2568 + e)

section
variable {p : ℕ → ℕ → EReal} {g : ℕ → EReal} (hg : ∀ d, d < 128 → g d = ((g d).toReal : EReal)) (s e : ℕ)
include hg

/-- With finite gains the queries and keys are real. -/
theorem keysOf_real : keysOf p g s e = ((keysOf p g s e).toReal : EReal) := by
  suffices h : ∃ r : ℝ, keysOf p g s e = (r : EReal) by obtain ⟨r, h⟩ := h; rw [h, EReal.toReal_coe]
  exact ⟨_, by rw [keysOf, head_real, hg _ (Nat.mod_lt _ (by decide)), ← EReal.coe_mul]⟩
theorem queriesOf_real : queriesOf p g s e = ((queriesOf p g s e).toReal : EReal) := by
  suffices h : ∃ r : ℝ, queriesOf p g s e = (r : EReal) by obtain ⟨r, h⟩ := h; rw [h, EReal.toReal_coe]
  obtain ⟨c, hc⟩ := factor_real
  exact ⟨_, by rw [queriesOf, head_real, hg _ (Nat.mod_lt _ (by decide)), hc, ← EReal.coe_mul, ← EReal.coe_mul]⟩

end

end Cert.Math

end
-- ==== Proof.Ideal.Host.lean ====
/-
  What the host operations before the projection make of the arguments: the rows, the vectors along rows, the weights' columns
  in the kernel's order, the gains and the scales of the eight heads.
-/
module

public import proofs.«01_k».proof.Proof.Ideal.Run
public import proofs.«01_k».proof.Proof.Math.Normed
public import Idealize.ShloMosaic.Lib.Pointwise

@[expose] public section

set_option maxRecDepth 16384

noncomputable section

namespace Cert.KernelIdeal.Whole

open Cert.KernelIdeal Cert.KernelIdeal.Gen
open Idealize.ShloMosaic Idealize.ShloMosaic.TcCoe
open Cert.Math (cell cell_of entry entry_of)

variable {F : FTy → Type} [FloatOps F] [Named F]
variable (m : (ℓ : Loc nD τ sig) → Buf (Elt F) ℓ) (c : Dev nD)

/-! ### The operations -/

/-- The weights' columns in the order the kernel takes them, -/
def wide (w : FVec F S1024x8208 .f32) : FVec F S1024x8192 .bf16 :=
  truncf .bf16 (concatenate S1024x8192 1 [⟨S1024x3072, extractStridedSlice S1024x3072 ![0, 5136] w slices_S1024x8208_S1024x3072_0_5136⟩,
    ⟨S1024x1536, extractStridedSlice S1024x1536 ![0, 1544] w slices_S1024x8208_S1024x1536_0_1544⟩,
    ⟨S1024x1536, extractStridedSlice S1024x1536 ![0, 3080] w slices_S1024x8208_S1024x1536_0_3080⟩,
    ⟨S1024x1024, extractStridedSlice S1024x1024 ![0, 512] w slices_S1024x8208_S1024x1024_0_512⟩,
    ⟨S1024x512, extractStridedSlice S1024x512 ![0, 0] w slices_S1024x8208_S1024x512_0_0⟩,
    ⟨S1024x512, extractStridedSlice S1024x512 ![0, 4624] w slices_S1024x8208_S1024x512_0_4624⟩]
    concatenates_S1024x3072_S1024x1536_S1024x1536_S1024x1024_S1024x512_S1024x512_S1024x8192_d1) bitsLt_bf16_f32
/-- the sixteen columns kept in full, each eight before 120 zeros, -/
def narrow (w : FVec F S1024x8208 .f32) : FVec F S1024x256 .bf16 :=
  truncf .bf16 (concatenate S1024x256 1 [⟨S1024x8, extractStridedSlice S1024x8 ![0, 1536] w slices_S1024x8208_S1024x8_0_1536⟩,
    ⟨S1024x120, broadcastInDim S1024x120 ![] bcast_S_S1024x120 (constant S_ .f32 0x00000000#32)⟩,
    ⟨S1024x8, extractStridedSlice S1024x8 ![0, 4616] w slices_S1024x8208_S1024x8_0_4616⟩,
    ⟨S1024x120, broadcastInDim S1024x120 ![] bcast_S_S1024x120 (constant S_ .f32 0x00000000#32)⟩]
    concatenates_S1024x8_S1024x120_S1024x8_S1024x120_S1024x256_d1) bitsLt_bf16_f32
/-- a gain for each of four heads, -/
def fourfold (g : FVec F S128 .f32) : FVec F S512 .f32 :=
  shapeCast _ (broadcastInDim S4x128 ![0, 1] bcast_S1x128_S4x128_0_1 (shapeCast _ g shapeCasts_S128_S1x128)) shapeCasts_S4x128_S512
/-- the gains of the eight heads, -/
def gains (q k : FVec F S128 .f32) : FVec F S1x1024 .f32 :=
  shapeCast _ (concatenate S1024 0 [⟨S512, fourfold q⟩, ⟨S512, fourfold k⟩] concatenates_S512_S512_S1024_d0) shapeCasts_S1024_S1x1024
/-- and their scales. -/
def scales : FVec F S1x1024 .f32 :=
  shapeCast _ (concatenate S1024 0 [⟨S512, broadcastInDim S512 ![] bcast_S_S512 (constant S_ .f32 0x3DB504F3#32)⟩,
    ⟨S512, broadcastInDim S512 ![] bcast_S_S512 (constant S_ .f32 0x3F800000#32)⟩] concatenates_S512_S512_S1024_d0) shapeCasts_S1024_S1x1024

set_option maxHeartbeats 4000000 in
theorem prepared : atProj m c (Proc.devRef .tc main_v0) = shapeCast S16384x1024 (m ((c.tc : Thread nD τ).loc main_arg0)) shapeCasts_S1x16384x1024_S16384x1024
    ∧ atProj m c (Proc.devRef .tc main_v24) = shapeCast S1x1024 (m ((c.tc : Thread nD τ).loc main_arg1)) shapeCasts_S1024_S1x1024
    ∧ atProj m c (Proc.devRef .tc main_v25) = shapeCast S1x1024 (m ((c.tc : Thread nD τ).loc main_arg2)) shapeCasts_S1024_S1x1024
    ∧ atProj m c (Proc.devRef .tc main_v26) = shapeCast S1x1024 (m ((c.tc : Thread nD τ).loc main_arg3)) shapeCasts_S1024_S1x1024
    ∧ atProj m c (Proc.devRef .tc main_v11) = wide (F := F) (m ((c.tc : Thread nD τ).loc main_arg4))
    ∧ atProj m c (Proc.devRef .tc main_v13) = narrow (F := F) (m ((c.tc : Thread nD τ).loc main_arg4))
    ∧ atProj m c (Proc.devRef .tc main_v27) = gains (F := F) (m ((c.tc : Thread nD τ).loc main_arg5)) (m ((c.tc : Thread nD τ).loc main_arg6))
    ∧ atProj m c (Proc.devRef .tc main_v28) = scales (F := F) := by
  unfold atProj
  simp only [hostOps0]
  refine ⟨?_, ?_, ?_, ?_, ?_, ?_, ?_, ?_⟩
  all_goals after_results_simp
  all_goals rfl

/-! ### At a place -/

/-- Where the kernel's column `e` stands among the weights' columns. -/
def place (e : ℕ) : ℕ :=
  if e < 3072 then 5136 + e else if e - 3072 < 1536 then 1544 + (e - 3072) else if e - 3072 - 1536 < 1536 then 3080 + (e - 3072 - 1536)
  else if e - 3072 - 1536 - 1536 < 1024 then 512 + (e - 3072 - 1536 - 1536)
  else if e - 3072 - 1536 - 1536 - 1024 < 512 then 0 + (e - 3072 - 1536 - 1536 - 1024) else 4624 + (e - 3072 - 1536 - 1536 - 1024 - 512)

theorem wide_at (w : S1024x8208.Idx → EReal) (k : Fin 1024) (e : Fin 8192) : wide (F := Ideal) w (ix2 k e) = cell w k (place e) := by
  unfold wide place
  simp only [pointwise]
  by_cases h1 : e.val < 3072
  · rw [if_pos h1]
    exact (dif_pos h1).trans (cell_of w _ (Nat.zero_add _) rfl)
  rw [if_neg h1]; refine (dif_neg h1).trans ?_
  by_cases h2 : e.val - 3072 < 1536
  · rw [if_pos h2]
    exact (dif_pos h2).trans (cell_of w _ (Nat.zero_add _) rfl)
  rw [if_neg h2]; refine (dif_neg h2).trans ?_
  by_cases h3 : e.val - 3072 - 1536 < 1536
  · rw [if_pos h3]
    exact (dif_pos h3).trans (cell_of w _ (Nat.zero_add _) rfl)
  rw [if_neg h3]; refine (dif_neg h3).trans ?_
  by_cases h4 : e.val - 3072 - 1536 - 1536 < 1024
  · rw [if_pos h4]
    exact (dif_pos h4).trans (cell_of w _ (Nat.zero_add _) rfl)
  rw [if_neg h4]; refine (dif_neg h4).trans ?_
  by_cases h5 : e.val - 3072 - 1536 - 1536 - 1024 < 512
  · rw [if_pos h5]
    exact (dif_pos h5).trans (cell_of w _ (Nat.zero_add _) rfl)
  rw [if_neg h5]; refine (dif_neg h5).trans ?_
  exact cell_of w _ (Nat.zero_add _) rfl

theorem narrow_low (w : S1024x8208.Idx → EReal) (k : Fin 1024) (e : Fin 8) :
    narrow (F := Ideal) w (ix2 k ⟨e.val, by omega⟩) = cell w k (1536 + e) := by
  unfold narrow
  simp only [pointwise]
  exact (dif_pos trivial).trans (cell_of w _ (Nat.zero_add _) rfl)

theorem narrow_high (w : S1024x8208.Idx → EReal) (k : Fin 1024) (e : Fin 8) :
    narrow (F := Ideal) w (ix2 k ⟨128 + e.val, by omega⟩) = cell w k (4616 + e) := by
  unfold narrow
  simp only [pointwise]
  refine (dif_neg (show ¬ 128 + e.val < 8 by omega)).trans ((dif_neg (show ¬ 128 + e.val - 8 < 120 by omega)).trans
    ((dif_pos (show 128 + e.val - 8 - 120 < 8 by omega)).trans (cell_of w _ (Nat.zero_add _) ?_)))
  show 4616 + (128 + e.val - 8 - 120) = 4616 + e.val
  omega

theorem row_at (g : S1024.Idx → EReal) (z : Fin 1) (k : Fin 1024) :
    shapeCast (s := S1024) (α := EReal) S1x1024 g shapeCasts_S1024_S1x1024 (ix2 z k) = entry g k := by
  simp only [pointwise]
  exact entry_of g _ (by simp [Subsingleton.elim z 0])

theorem fourfold_at (g : S128.Idx → EReal) (e : Fin 512) : fourfold (F := Ideal) g (ix1 e) = entry g (e.val % 128) := by
  unfold fourfold
  simp only [pointwise]
  exact entry_of g _ (by simp)

/-- The gain of column `e` of the eight heads, -/
theorem gains_at (q k : S128.Idx → EReal) (z : Fin 1) (e : Fin 1024) :
    gains (F := Ideal) q k (ix2 z e) = if e.val < 512 then entry q (e.val % 128) else entry k (e.val % 128) := by
  unfold gains
  rw [row_at]
  refine (entry_of _ (ix1 e) rfl).symm.trans ?_
  simp only [pointwise]
  by_cases h : e.val < 512
  · rw [if_pos h]
    exact (dif_pos h).trans (fourfold_at q ⟨e.val, h⟩)
  · rw [if_neg h]
    refine (dif_neg h).trans ((fourfold_at k ⟨e.val - 512, by omega⟩).trans (congrArg _ ?_))
    show (e.val - 512) % 128 = e.val % 128
    omega
/-- and its scale. -/
theorem scales_at (z : Fin 1) (e : Fin 1024) : scales (F := Ideal) (ix2 z e) = if e.val < 512 then Ideal.ofBits .f32 0x3DB504F3#32 else 1 := by
  unfold scales
  rw [row_at]
  refine (entry_of _ (ix1 e) rfl).symm.trans ?_
  simp only [pointwise]
  by_cases h : e.val < 512
  · rw [if_pos h]
    exact dif_pos h
  · rw [if_neg h]
    exact dif_neg h

end Cert.KernelIdeal.Whole

end
-- ==== Proof.Ideal.ProjValue.lean ====
/-
  The arithmetic of the projection's points read at a place: the modulated rows, their product with a block of weights, and a
  block of heads over their root mean squares.
-/
module

public import proofs.«01_k».proof.Proof.Ideal.ProjTile
public import proofs.«01_k».proof.Proof.Math.Normed
public import Idealize.ShloMosaic.Lib.Pointwise

@[expose] public section

set_option maxRecDepth 16384

noncomputable section

namespace Cert.KernelIdeal.Proj

open Cert.KernelIdeal Cert.KernelIdeal.Gen
open Idealize.ShloMosaic
open Cert.Math (invRms modulated product head)
open scoped BigOperators

section
variable {X : S1024x1024.Idx → EReal} {G A B : S1x1024.Idx → EReal} {x : ℕ → ℕ → EReal} {g a b : ℕ → EReal} {r : Fin 1024} {s : ℕ}
    (hX : ∀ k : Fin 1024, X (ix2 r k) = x s k) (hG : ∀ k : Fin 1024, G (ix2 0 k) = g k) (hA : ∀ k : Fin 1024, A (ix2 0 k) = a k)
    (hB : ∀ k : Fin 1024, B (ix2 0 k) = b k)
include hX hG hA hB

theorem rows_at (k : Fin 1024) : k0_pay1 (F := Ideal) X G A B (ix2 r k) = modulated x g a b s k := by
  unfold k0_pay1 modulated invRms
  simp only [pointwise]
  rw [Finset.sum_range fun k => x s k * x s k]
  refine congrArg₂ (· + ·) (congrArg₂ (· * ·) (congrArg₂ (· * ·) (congrArg₂ (· * ·) (hX k)
    (congrArg (fun u => Ideal.rsqrt (Ideal.div u _ + _)) (Finset.sum_congr rfl fun k _ => congrArg₂ (· * ·) (hX k) (hX k))))
    (hG k)) (congrArg (1 + ·) (hA k))) (hB k)

theorem rows_kept (k : Fin 1024) : k0_pay2 (F := Ideal) X G A B (ix2 r k) = modulated x g a b s k := by
  unfold k0_pay2
  simp only [pointwise]
  exact rows_at hX hG hA hB k

theorem narrow_at {N : S1024x256.Idx → EReal} {w : ℕ → ℕ → EReal} {e' : ℕ} (e : Fin 256) (hN : ∀ k : Fin 1024, N (ix2 k e) = w k e') :
    k0_pay3 (F := Ideal) X G A B N (ix2 r e) = product (modulated x g a b) w s e' := by
  unfold k0_pay3 product
  simp only [pointwise]
  rw [zero_add, Finset.sum_range fun k => modulated x g a b s k * w k e']
  exact Finset.sum_congr rfl fun k _ => congrArg₂ (· * ·) (rows_at hX hG hA hB k) (hN k)

end

section
variable {H W : S1024x1024.Idx → EReal} {N : S1024x256.Idx → EReal} {h w : ℕ → ℕ → EReal} {r : Fin 1024} {s e' : ℕ}

theorem block_at (e : Fin 1024) (hH : ∀ k : Fin 1024, H (ix2 r k) = h s k) (hW : ∀ k : Fin 1024, W (ix2 k e) = w k e') :
    k0_pay6 (F := Ideal) H W (ix2 r e) = product h w s e' := by
  unfold k0_pay6 product
  simp only [pointwise]
  rw [zero_add, Finset.sum_range fun k => h s k * w k e']
  exact Finset.sum_congr rfl fun k _ => congrArg₂ (· * ·) (hH k) (hW k)

theorem plain_at' (e : Fin 1024) (hH : ∀ k : Fin 1024, H (ix2 r k) = h s k) (hW : ∀ k : Fin 1024, W (ix2 k e) = w k e') :
    k0_pay4 (F := Ideal) H W (ix2 r e) = product h w s e' := block_at e hH hW

end

theorem rms_at (p : S1024x128.Idx → EReal) (r : Fin 1024) (z : Fin 1) (q : ℕ → EReal) (hp : ∀ d : Fin 128, p (ix2 r d) = q d) :
    rms (F := Ideal) p (ix2 r z) = invRms 128 (Ideal.ofBits .f32 0x43000000#32) q := by
  unfold rms invRms
  simp only [pointwise]
  rw [Finset.sum_range fun k => q k * q k]
  exact congrArg (fun u => Ideal.rsqrt (Ideal.div u _ + _)) (Finset.sum_congr rfl fun k _ => congrArg₂ (· * ·) (hp k) (hp k))

theorem rowOf_at (G : S1x1024.Idx → EReal) (n : Fin 8) (r : Fin 1024) (d : Fin 128) :
    rowOf (F := Ideal) G n (ix2 r d) = G (ix2 0 ⟨128 * n.val + d.val, by omega⟩) := by
  unfold rowOf
  simp only [pointwise]
  exact congrArg G (congrArg₂ ix2 (Fin.ext rfl) (Fin.ext (congrArg (128 * n.val + ·) (Nat.one_mul d.val))))

theorem headOf_at (P : S1024x1024.Idx → EReal) (n : Fin 8) (r : Fin 1024) (d : Fin 128) :
    headOf (F := Ideal) P n (ix2 r d) = P (ix2 r ⟨128 * n.val + d.val, by omega⟩) := by
  unfold headOf
  simp only [pointwise]
  exact congrArg P (congrArg₂ ix2 (Fin.ext (Nat.zero_add r.val)) (Fin.ext rfl))

section
variable {P : S1024x1024.Idx → EReal} {p : ℕ → ℕ → EReal} {r : Fin 1024} {s : ℕ} (hP : ∀ e : Fin 1024, P (ix2 r e) = p s e)
    (G S : S1x1024.Idx → EReal)
include hP

theorem headTile_at (n : Fin 8) (d : Fin 128) (e : Fin 1024) (he : e.val = 128 * n.val + d.val) :
    headTile (F := Ideal) P G S n (ix2 r d) = head p s e * G (ix2 0 e) * S (ix2 0 e) := by
  have hd : (⟨128 * n.val + d.val, by omega⟩ : Fin 1024) = e := Fin.ext he.symm
  have hn : e.val / 128 = n.val := by omega
  have h1 := rms_at (headOf (F := Ideal) P n) r 0 (fun d => p s (128 * n.val + d)) fun d => (headOf_at P n r d).trans (hP _)
  have h2 := headOf_at P n r d
  have h3 := rowOf_at G n r d
  have h4 := rowOf_at S n r d
  rw [hd] at h2 h3 h4
  rw [hP] at h2
  unfold headTile head
  simp only [pointwise]
  rw [hn]
  exact congrArg₂ (· * ·) (congrArg₂ (· * ·) (congrArg₂ (· * ·) h2 h1) h3) h4

/-- A block of eight heads: each entry over the root mean square of its head, with its gain and its scale. -/
theorem heads_at (e : Fin 1024) : ofHeads (F := Ideal) (headTile P G S) (ix2 r e) = head p s e * G (ix2 0 e) * S (ix2 0 e) :=
  (congrArg (headTile (F := Ideal) P G S ⟨e.val / 128, by omega⟩) (funext fun a => by match a with | 0 => rfl | 1 => rfl)).trans
    (headTile_at hP G S ⟨e.val / 128, by omega⟩ ⟨e.val % 128, Nat.mod_lt _ (by decide)⟩ e (Nat.div_add_mod e.val 128).symm)

end

end Cert.KernelIdeal.Proj

end
-- ==== Proof.Ideal.ProjResult.lean ====
/-
  The projection's two arrays: row `s`, column `e` of the wide one is the product of the modulated rows with the weights, the
  columns of the eight heads over their root mean squares and with their gains and scales; the narrow one is the product alone.
-/
module

public import proofs.«01_k».proof.Proof.Ideal.ProjValue
public import proofs.«01_k».proof.Proof.Ideal.ProjBody
public import Idealize.ShloMosaic.Lib.Pipeline.ValueKit

@[expose] public section

set_option maxRecDepth 16384

noncomputable section

namespace Cert.KernelIdeal.Proj

open Cert.KernelIdeal Cert.KernelIdeal.Gen
open Idealize.ShloMosaic
open Cert.Math (modulated product head cell cell_of)

theorem index_0 : ∀ t : Fin grid0.N, win0_0.index t = ![t.val / 8, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, t.val % 8] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![t.val / 8, t.val % 8] := by decide +kernel
theorem index_9 : ∀ t : Fin grid0.N, win0_9.index t = ![t.val / 8, 0] := by decide +kernel

variable (V : Dev nD → Valuation τ sig (Elt Ideal)) (c : Dev nD)

/-! ### A point's blocks -/

abbrev xs : S16384x1024.Idx → EReal := arrAt V c 0
abbrev ns : S1x1024.Idx → EReal := arrAt V c 1
abbrev scs : S1x1024.Idx → EReal := arrAt V c 2
abbrev shs : S1x1024.Idx → EReal := arrAt V c 3
abbrev ws : S1024x8192.Idx → EReal := arrAt V c 4
abbrev nars : S1024x256.Idx → EReal := arrAt V c 5
abbrev gs : S1x1024.Idx → EReal := arrAt V c 6
abbrev cs : S1x1024.Idx → EReal := arrAt V c 7

theorem xBlk_at (t : Fin grid0.N) (r k : Fin 1024) : xBlk V c t (ix2 r k) = cell (xs V c) (1024 * (t.val / 8) + r) k := by
  unfold xBlk
  rw [View.read_apply]
  refine cell_of (xs V c) _ ?_ ?_
  all_goals blk_simp [index_0]
  all_goals omega

theorem nBlk_at (t : Fin grid0.N) (k : Fin 1024) : nBlk V c t (ix2 0 k) = cell (ns V c) 0 k := by
  unfold nBlk
  rw [View.read_apply]
  refine cell_of (ns V c) _ ?_ ?_
  all_goals blk_simp [index_1]
  try rfl

theorem aBlk_at (t : Fin grid0.N) (k : Fin 1024) : aBlk V c t (ix2 0 k) = cell (scs V c) 0 k := by
  unfold aBlk
  rw [View.read_apply]
  refine cell_of (scs V c) _ ?_ ?_
  all_goals blk_simp [index_2]
  try rfl

theorem bBlk_at (t : Fin grid0.N) (k : Fin 1024) : bBlk V c t (ix2 0 k) = cell (shs V c) 0 k := by
  unfold bBlk
  rw [View.read_apply]
  refine cell_of (shs V c) _ ?_ ?_
  all_goals blk_simp [index_3]
  try rfl

theorem gBlk_at (t : Fin grid0.N) (k : Fin 1024) : gBlk V c t (ix2 0 k) = cell (gs V c) 0 k := by
  unfold gBlk
  rw [View.read_apply]
  refine cell_of (gs V c) _ ?_ ?_
  all_goals blk_simp [index_6]
  try rfl

theorem cBlk_at (t : Fin grid0.N) (k : Fin 1024) : cBlk V c t (ix2 0 k) = cell (cs V c) 0 k := by
  unfold cBlk
  rw [View.read_apply]
  refine cell_of (cs V c) _ ?_ ?_
  all_goals blk_simp [index_7]
  try rfl

theorem wBlk_at (t : Fin grid0.N) (k e : Fin 1024) : wBlk V c t (ix2 k e) = cell (ws V c) k (1024 * (t.val % 8) + e) := by
  unfold wBlk
  rw [View.read_apply]
  refine cell_of (ws V c) _ ?_ ?_
  all_goals blk_simp [index_4]
  all_goals omega

theorem sBlk_at (t : Fin grid0.N) (k : Fin 1024) (e : Fin 256) : sBlk V c t (ix2 k e) = cell (nars V c) k e := by
  unfold sBlk
  rw [View.read_apply]
  refine cell_of (nars V c) _ ?_ ?_
  all_goals blk_simp [index_5]

/-! ### The arrays -/

/-- The wide array: columns 3072 and on are eight heads. -/
def wideOf (p : ℕ → ℕ → EReal) (g a : ℕ → EReal) : S16384x8192.Idx → EReal := fun y =>
  if (y 1).val / 1024 = 3 then head (fun s e => p s (3072 + e)) (y 0).val ((y 1).val % 1024) * g ((y 1).val % 1024) * a ((y 1).val % 1024)
  else p (y 0).val (y 1).val

/-- The narrow array. -/
def narrowOf (p : ℕ → ℕ → EReal) : S16384x256.Idx → EReal := fun y => p (y 0).val (y 1).val

variable {x w n : ℕ → ℕ → EReal} {g a b : ℕ → EReal}
    (hx : ∀ s k, s < 16384 → k < 1024 → cell (xs V c) s k = x s k) (hg : ∀ k, k < 1024 → cell (ns V c) 0 k = g k)
    (ha : ∀ k, k < 1024 → cell (scs V c) 0 k = a k) (hb : ∀ k, k < 1024 → cell (shs V c) 0 k = b k)
include hx hg ha hb

theorem hBlk_at (t : Fin grid0.N) (r k : Fin 1024) : hBlk V c (firstOf t.val) (ix2 r k) = modulated x g a b (1024 * (t.val / 8) + r) k := by
  have ht : t.val < 128 := lt_of_lt_of_eq t.isLt N_0
  have hf : (firstOf t.val).val / 8 = t.val / 8 := by
    show 8 * (t.val / 8) % 128 / 8 = t.val / 8
    omega
  exact rows_kept (s := 1024 * (t.val / 8) + r)
    (fun k => (xBlk_at V c _ r k).trans (by rw [hf]; exact hx _ _ (by omega) k.isLt)) (fun k => (nBlk_at V c _ k).trans (hg _ k.isLt))
    (fun k => (aBlk_at V c _ k).trans (ha _ k.isLt)) (fun k => (bBlk_at V c _ k).trans (hb _ k.isLt)) k

theorem wide_result (hw : ∀ k e, k < 1024 → e < 8192 → cell (ws V c) k e = w k e) :
    (dat V c).arrAt (8 : Fin 10) (cfg0 (F := Ideal)).N
      = wideOf (product (modulated x g a b) w) (cell (gs V c) 0) (cell (cs V c) 0) := by
  refine (dat V c).arrAt_eq_of_covers 8 _ (by decide +kernel) fun t hf y => ?_
  have ht : t.val < 128 := lt_of_lt_of_eq t.isLt N_0
  have h0 : (y 0).val < 1024 := (y 0).isLt
  have h1 : (y 1).val < 1024 := (y 1).isLt
  have e0 : ((((win0_8.blk t).view.emb y 0 : Fin _) : ℕ)) = 1024 * (t.val / 8) + (y 0).val := by
    blk_simp [index_8]
    omega
  have e1 : ((((win0_8.blk t).view.emb y 1 : Fin _) : ℕ)) = 1024 * (t.val % 8) + (y 1).val := by
    blk_simp [index_8]
    omega
  have hy : y = ix2 ⟨(y 0).val, h0⟩ ⟨(y 1).val, h1⟩ := funext fun a => by match a with | 0 => rfl | 1 => rfl
  have hH := hBlk_at V c hx hg ha hb t ⟨(y 0).val, h0⟩
  have hP : ∀ e : Fin 1024, k0_pay6 (hBlk V c (firstOf t.val)) (wBlk V c t) (ix2 ⟨(y 0).val, h0⟩ e)
      = product (modulated x g a b) w (1024 * (t.val / 8) + (y 0).val) (1024 * (t.val % 8) + e) := fun e =>
    block_at e hH fun k => (wBlk_at V c t k e).trans (hw _ _ k.isLt (by omega))
  blk_simp []
  show wideBlk V c t y = wideOf _ _ _ ((win0_8.blk t).view.emb y)
  unfold wideOf
  rw [e0, e1]
  by_cases h3 : t.val % 8 = 3
  · rw [if_pos (by omega), show (1024 * (t.val % 8) + (y 1).val) % 1024 = (y 1).val by omega]
    unfold wideBlk
    rw [if_pos h3, hy]
    rw [h3] at hP
    refine (heads_at (p := fun s e => product (modulated x g a b) w s (3072 + e)) hP (gBlk V c t) (cBlk V c t) ⟨(y 1).val, h1⟩).trans ?_
    rw [gBlk_at, cBlk_at]
    rfl
  · rw [if_neg (by omega)]
    unfold wideBlk
    rw [if_neg h3]
    exact (congrArg _ hy).trans (hP ⟨(y 1).val, h1⟩)

theorem narrow_result (hn : ∀ k e, k < 1024 → e < 256 → cell (nars V c) k e = n k e) :
    (dat V c).arrAt (9 : Fin 10) (cfg0 (F := Ideal)).N = narrowOf (product (modulated x g a b) n) := by
  refine (dat V c).arrAt_eq_of_covers 9 _ (by decide +kernel) fun t hf y => ?_
  have ht : t.val < 128 := lt_of_lt_of_eq t.isLt N_0
  have h0 : (y 0).val < 1024 := (y 0).isLt
  have h1 : (y 1).val < 256 := (y 1).isLt
  have e0 : ((((win0_9.blk t).view.emb y 0 : Fin _) : ℕ)) = 1024 * (t.val / 8) + (y 0).val := by
    blk_simp [index_9]
    omega
  have e1 : ((((win0_9.blk t).view.emb y 1 : Fin _) : ℕ)) = (y 1).val := by
    blk_simp [index_9]
  have hy : y = ix2 ⟨(y 0).val, h0⟩ ⟨(y 1).val, h1⟩ := funext fun a => by match a with | 0 => rfl | 1 => rfl
  have hf' : (firstOf t.val).val / 8 = t.val / 8 := by
    show 8 * (t.val / 8) % 128 / 8 = t.val / 8
    omega
  blk_simp []
  show narrowBlk V c (firstOf t.val) y = narrowOf _ ((win0_9.blk t).view.emb y)
  unfold narrowOf
  rw [e0, e1]
  refine (congrArg _ hy).trans (narrow_at (s := 1024 * (t.val / 8) + (y 0).val) (x := x)
    (fun k => (xBlk_at V c _ _ k).trans (by rw [hf']; exact hx _ _ (by show 1024 * (t.val / 8) + (y 0).val < 16384; omega) k.isLt))
    (fun k => (nBlk_at V c _ k).trans (hg _ k.isLt)) (fun k => (aBlk_at V c _ k).trans (ha _ k.isLt))
    (fun k => (bBlk_at V c _ k).trans (hb _ k.isLt)) ⟨(y 1).val, h1⟩ fun k => (sBlk_at V c _ k _).trans (hn _ _ k.isLt h1))

end Cert.KernelIdeal.Proj

end
-- ==== Proof.Math.Stick.lean ====
/-
  Stick-breaking attention over the reals: the formula, and the same formula read block by block from the query's own
  block back to the first one.
-/
module

public import Mathlib.Data.EReal.Operations
public import Mathlib.Analysis.SpecialFunctions.Log.Basic
public import Mathlib.Algebra.BigOperators.Intervals

@[expose] public section

noncomputable section

namespace Cert.Math

open Finset

/-! ### The formula -/

/-- `log (1 + exp x)`. -/
def softplus (x : ℝ) : ℝ := max x 0 + Real.log (1 + Real.exp (-|x|))

/-- The score of query row `s` against key row `t` in head `h`, -/
def score (q k : ℕ → ℕ → ℝ) (h s t : ℕ) : ℝ := ∑ d ∈ range 128, q s (128 * h + d) * k t (128 * h + d)
/-- the log of what that key leaves of the stick, -/
def leave (q k : ℕ → ℕ → ℝ) (h s t : ℕ) : ℝ := if t < s then -softplus (score q k h s t) else 0
/-- the log of what the keys after it left, -/
def after (q k : ℕ → ℕ → ℝ) (h s t : ℕ) : ℝ := ∑ t' ∈ range 16384, if t < t' then leave q k h s t' else 0
/-- its weight, -/
def weight (q k : ℕ → ℕ → ℝ) (h s t : ℕ) : ℝ :=
  if t < s then Real.exp (score q k h s t - softplus (score q k h s t) + after q k h s t) else 0
/-- and the attention: coordinate `d` of head `h` at query row `s`. -/
def attention (q k : ℕ → ℕ → ℝ) (v : ℕ → ℕ → EReal) (h s d : ℕ) : EReal :=
  ∑ t ∈ range 16384, (weight q k h s t : EReal) * v t (128 * h + d)

/-! ### Block by block -/

section
variable {M : Type} [AddCommMonoid M]

theorem sum_blocks (f : ℕ → M) (n : ℕ) : ∑ t ∈ range (128 * n), f t = ∑ b ∈ range n, ∑ c ∈ range 128, f (128 * b + c) := by
  induction n with
  | zero => simp
  | succ n ih => rw [sum_range_succ, ← ih, Nat.mul_succ, sum_range_add]

theorem sum_back (g : ℕ → M) {B n : ℕ} (h : B < n) (hz : ∀ b, B < b → g b = 0) :
    ∑ b ∈ range n, g b = ∑ j ∈ range (B + 1), g (B - j) := by
  rw [← sum_subset (range_subset_range.mpr (Nat.succ_le_of_lt h)) fun b _ hb => hz b (by simpa using hb)]
  rw [← sum_range_reflect]
  exact sum_congr rfl fun j _ => by congr 1

end

variable (q k : ℕ → ℕ → ℝ) (h s : ℕ)

/-- What the keys of block `b` leave together. -/
def blockLeave (b : ℕ) : ℝ := ∑ c ∈ range 128, leave q k h s (128 * b + c)

/-- What the first `j` blocks leave, counted back from block `B`. -/
def left (B j : ℕ) : ℝ := ∑ j' ∈ range j, if j' ≤ B then blockLeave q k h s (B - j') else 0

theorem left_succ (B j : ℕ) : left q k h s B (j + 1) = left q k h s B j + if j ≤ B then blockLeave q k h s (B - j) else 0 :=
  sum_range_succ _ _

theorem leave_zero {t : ℕ} (ht : s ≤ t) : leave q k h s t = 0 := if_neg (Nat.not_lt.mpr ht)

/-- The keys after one of block `B - j`: those of its own block and the blocks counted before. -/
theorem after_block {B j c : ℕ} (hB : B < 128) (hs : s < 128 * (B + 1)) (hj : j ≤ B) (hc : c < 128) :
    after q k h s (128 * (B - j) + c)
      = (∑ c' ∈ range 128, if c < c' then leave q k h s (128 * (B - j) + c') else 0) + left q k h s B j := by
  have e : after q k h s (128 * (B - j) + c)
      = ∑ j' ∈ range (B + 1), ∑ c' ∈ range 128, if 128 * (B - j) + c < 128 * (B - j') + c' then leave q k h s (128 * (B - j') + c') else 0 := by
    unfold after
    rw [show (16384 : ℕ) = 128 * 128 from rfl, sum_blocks]
    rw [sum_back _ hB fun b hb => sum_eq_zero fun c' _ => ?_]
    rw [leave_zero q k h s (by omega), ite_self]
  rw [e, ← sum_subset (range_subset_range.mpr (Nat.succ_le_succ hj)) fun j' hj' hn => ?_, sum_range_succ, add_comm]
  · refine congrArg₂ (· + ·) ?_ ?_
    · exact sum_congr rfl fun c' _ => by simp only [add_lt_add_iff_left]
    · refine sum_congr rfl fun j' hj' => ?_
      have hlt := mem_range.mp hj'
      rw [if_pos (by omega)]
      exact sum_congr rfl fun c' _ => if_pos (by omega)
  · have h1 := mem_range.mp hj'
    have h2 : ¬ j' < j + 1 := fun hh => hn (mem_range.mpr hh)
    exact sum_eq_zero fun c' hc' => if_neg (by have := mem_range.mp hc'; omega)

variable (v : ℕ → ℕ → EReal) (d : ℕ)

/-- The share of block `b` in the attention, -/
def blockOut (b : ℕ) : EReal := ∑ c ∈ range 128, (weight q k h s (128 * b + c) : EReal) * v (128 * b + c) (128 * h + d)

/-- and that of the first `j` blocks, counted back from block `B`. -/
def outTo (B j : ℕ) : EReal := ∑ j' ∈ range j, if j' ≤ B then blockOut q k h s v d (B - j') else 0

theorem outTo_succ (B j : ℕ) : outTo q k h s v d B (j + 1) = outTo q k h s v d B j + if j ≤ B then blockOut q k h s v d (B - j) else 0 :=
  sum_range_succ _ _

/-- All blocks counted, it is the attention. -/
theorem outTo_all {B j : ℕ} (hB : B < 128) (hs : s < 128 * (B + 1)) (hj : B < j) :
    outTo q k h s v d B j = attention q k v h s d := by
  unfold outTo attention
  rw [show (16384 : ℕ) = 128 * 128 from rfl, sum_blocks, sum_back _ hB fun b hb => sum_eq_zero fun c _ => ?_,
    ← sum_subset (range_subset_range.mpr (Nat.succ_le_of_lt hj)) fun j' _ hn => if_neg (by simpa using hn)]
  · refine sum_congr rfl fun j' hj' => ?_
    rw [if_pos (by have := mem_range.mp hj'; omega)]
    rfl
  · rw [weight, if_neg (by omega), EReal.coe_zero, zero_mul]

end Cert.Math

end
-- ==== Proof.Ideal.Point.lean ====
/-
  Each step of a tile at one place, over the extended reals, where the scores are finite.
-/
module

public import proofs.«01_k».proof.Proof.Ideal.Loop
public import proofs.«01_k».proof.Proof.Math.Stick
public import proofs.«01_k».proof.Proof.Math.Word
public import Idealize.ShloMosaic.Lib.Pointwise

@[expose] public section

set_option maxRecDepth 16384

noncomputable section

namespace Cert.KernelIdeal.Stick

open Cert.KernelIdeal Cert.KernelIdeal.Gen
open Idealize.ShloMosaic
open Cert.Math (coe_sum coe_max slt_ofNat sgt_ofNat)
open scoped BigOperators

/-! ### A tile's places -/

theorem scores_at {q k : Vec Ideal S128x128 .bf16} {a b : ℕ → ℕ → ℝ}
    (hq : ∀ r d : Fin 128, q (ix2 r d) = (a r d : EReal)) (hk : ∀ r d : Fin 128, k (ix2 r d) = (b r d : EReal)) (r c : Fin 128) :
    scores (F := Ideal) q k (ix2 r c) = ((∑ d ∈ Finset.range 128, a r d * b c d : ℝ) : EReal) := by
  unfold scores
  simp only [pointwise]
  rw [zero_add, Finset.sum_range fun d => a r d * b c d, coe_sum]
  exact Finset.sum_congr rfl fun d _ => by rw [hq, hk, EReal.coe_mul]

/-- `log (1 + exp x)` of a finite score. -/
theorem softplus_coe (x : ℝ) :
    max (x : EReal) 0 + Ideal.log (1 + Ideal.exp (0 - max (x : EReal) (-x))) = (Cert.Math.softplus x : EReal) := by
  have h1 : max (x : EReal) (-x) = ((|x| : ℝ) : EReal) := by
    rw [← EReal.coe_neg, ← coe_max]; rfl
  have h2 : (0 : EReal) - ((|x| : ℝ) : EReal) = ((-|x| : ℝ) : EReal) := by
    rw [zero_sub, EReal.coe_neg]
  have h3 : (0 : ℝ) < 1 + Real.exp (-|x|) := by positivity
  rw [h1, h2, Ideal.exp_coe, ← EReal.coe_one, ← EReal.coe_add, Ideal.log_coe, if_neg (not_le.mpr h3), ← EReal.coe_zero, ← coe_max,
    ← EReal.coe_add]
  rfl

theorem softplus_at {z : Tl Ideal} {y : S128x128.Idx} {x : ℝ} (h : z y = (x : EReal)) :
    softplus z y = (Cert.Math.softplus x : EReal) := by
  unfold softplus zeroT
  simp only [pointwise]
  rw [h]
  exact softplus_coe x

theorem keep_at {z : Tl Ideal} {y : S128x128.Idx} {x : ℝ} (h : z y = (x : EReal)) :
    keep z y = ((-Cert.Math.softplus x : ℝ) : EReal) := by
  unfold keep zeroT
  simp only [pointwise]
  rw [softplus_at h, zero_sub, EReal.coe_neg]

theorem before_at (r c : Fin 128) : before (ix2 r c) = if c.val < r.val then 1#1 else 0#1 := by
  have hr := r.isLt
  have hc := c.isLt
  unfold before
  simp only [pointwise]
  rw [show List.foldl (fun n a => n * (![128, 128] : Fin 2 → ℕ) a + ((ix2 r c : S128x128.Idx) a).val) 0 [1] = c.val from by
      show 0 * 128 + c.val = c.val; omega,
    show List.foldl (fun n a => n * (![128, 128] : Fin 2 → ℕ) a + ((ix2 r c : S128x128.Idx) a).val) 0 [0] = r.val from by
      show 0 * 128 + r.val = r.val; omega]
  exact slt_ofNat (by omega) (by omega)

theorem keepD_at {z : Tl Ideal} {r c : Fin 128} {x : ℝ} (h : z (ix2 r c) = (x : EReal)) :
    keepD z (ix2 r c) = ((if c.val < r.val then -Cert.Math.softplus x else 0 : ℝ) : EReal) := by
  unfold keepD zeroT
  simp only [pointwise]
  rw [before_at, keep_at h]
  by_cases hc : c.val < r.val
  · rw [if_pos hc, if_pos hc]; rfl
  · rw [if_neg hc, if_neg hc]; rfl

theorem suf_at (r c : Fin 128) : k1_pay8 (F := Ideal) (ix2 r c) = if c.val < r.val then 1 else 0 := by
  have hr := r.isLt
  have hc := c.isLt
  unfold k1_pay8
  simp only [pointwise]
  rw [show List.foldl (fun n a => n * (![128, 128] : Fin 2 → ℕ) a + ((ix2 r c : S128x128.Idx) a).val) 0 [1] = c.val from by
      show 0 * 128 + c.val = c.val; omega,
    show List.foldl (fun n a => n * (![128, 128] : Fin 2 → ℕ) a + ((ix2 r c : S128x128.Idx) a).val) 0 [0] = r.val from by
      show 0 * 128 + r.val = r.val; omega, sgt_ofNat (by omega) (by omega)]
  by_cases h : c.val < r.val
  · rw [if_pos h, if_pos h]
    show (((1 : ℤ) : ℝ) : EReal) = 1
    simp
  · rw [if_neg h, if_neg h]
    show (((0 : ℤ) : ℝ) : EReal) = 0
    simp

theorem times_at (x w : FVec Ideal S128x128 .bf16) (r c : Fin 128) :
    times (F := Ideal) x w (ix2 r c) = ∑ k : Fin 128, x (ix2 r k) * w (ix2 k c) := by
  unfold times
  simp only [pointwise]
  rw [zero_add]

theorem later_at {x : Tl Ideal} {acc : Cl Ideal} {r : Fin 128} {l : ℕ → ℝ} {a : ℝ}
    (hx : ∀ c : Fin 128, x (ix2 r c) = (l c : EReal)) (ha : acc (ix2 r 0) = (a : EReal)) (c : Fin 128) :
    later (k1_pay8 (F := Ideal)) x acc (ix2 r c) = (((∑ c' ∈ Finset.range 128, if c.val < c' then l c' else 0) + a : ℝ) : EReal) := by
  have h1 : times (F := Ideal) (hi x) k1_pay8 (ix2 r c) = ((∑ c' ∈ Finset.range 128, if c.val < c' then l c' else 0 : ℝ) : EReal) := by
    rw [times_at, Finset.sum_range fun c' => if c.val < c' then l c' else 0, coe_sum]
    refine Finset.sum_congr rfl fun c' _ => ?_
    rw [suf_at]
    show x (ix2 r c') * _ = _
    rw [hx]
    by_cases h : c.val < c'.val
    · rw [if_pos h, if_pos h, mul_one]
    · rw [if_neg h, if_neg h, mul_zero, EReal.coe_zero]
  have h2 : times (F := Ideal) (lo x) k1_pay8 (ix2 r c) = 0 := by
    rw [times_at]
    refine Finset.sum_eq_zero fun c' _ => ?_
    show (x (ix2 r c') - x (ix2 r c')) * _ = 0
    rw [hx, ← EReal.coe_sub, sub_self, EReal.coe_zero, zero_mul]
  unfold later
  simp only [pointwise]
  rw [h1, h2, add_zero, EReal.coe_add]
  exact congrArg (_ + ·) ha

theorem weight_at {z a : Tl Ideal} {y : S128x128.Idx} {x b : ℝ} (hz : z y = (x : EReal)) (ha : a y = (b : EReal)) :
    weight z a y = (Real.exp (x - Cert.Math.softplus x + b) : EReal) := by
  unfold weight
  simp only [pointwise]
  rw [softplus_at hz, hz, ha, ← EReal.coe_sub, ← EReal.coe_add, Ideal.exp_coe]

theorem rowSum_at {x : Tl Ideal} {r : Fin 128} {l : ℕ → ℝ} (hx : ∀ c : Fin 128, x (ix2 r c) = (l c : EReal)) :
    rowSum x (ix2 r 0) = ((∑ c ∈ Finset.range 128, l c : ℝ) : EReal) := by
  unfold rowSum
  simp only [pointwise]
  rw [Finset.sum_range l, coe_sum]
  exact Finset.sum_congr rfl fun c _ => hx c

/-! ### The flag and the blocks that are there -/

theorem valid_word : ∀ (a : Fin 64) (b : Fin 2) (j : Fin 130),
    Scalar.cmpi .sge (Scalar.subi (Scalar.addi (Scalar.muli (BitVec.ofNat 32 a.val) 2#32) (BitVec.ofNat 32 b.val)) (BitVec.ofNat 32 j.val)) 0#32
      = if j.val ≤ 2 * a.val + b.val then 1#1 else 0#1 := by
  decide +kernel

theorem valid_at (i : grid1.Coords) {j : ℕ} (hj : j < 130) (n : Fin 8) :
    valid (F := Ideal) i (BitVec.ofNat 32 j) (BitVec.ofNat 32 (n.val / 4)) = if j ≤ 2 * (i 0).val + n.val / 4 then 1 else 0 := by
  have hn := n.isLt
  unfold valid
  rw [valid_word (i 0) ⟨n.val / 4, by omega⟩ ⟨j, hj⟩]
  by_cases h : j ≤ 2 * (i 0).val + n.val / 4
  · rw [if_pos h, if_pos h]; simp only [pointwise]
  · rw [if_neg h, if_neg h]; simp only [pointwise]

/-- Some running sum is finite, so the flag is up. -/
theorem flag_up {s : Fin 8 → Cl Ideal} {a : ℝ} (h : s 0 (ix2 0 0) = (a : EReal)) : flag s = 1#32 := by
  unfold flag
  simp only [pointwise]
  rw [decide_eq_true]
  · rfl
  · show (⊥ : EReal) < _
    refine lt_of_lt_of_le (EReal.bot_lt_coe a) ?_
    rw [Finset.le_fold_max]
    right
    refine ⟨(0, 0), Finset.mem_univ _, ?_⟩
    rw [← h]
    simp only [le_max_iff, le_refl, true_or]

end Cert.KernelIdeal.Stick

end
-- ==== Proof.Ideal.Attend.lean ====
/-
  The loop computes the attention: after the blocks counted back so far, the running sums are what those blocks leave and
  the output tiles are their share; when it ends all blocks are counted.
-/
module

public import proofs.«01_k».proof.Proof.Ideal.Point

@[expose] public section

set_option maxRecDepth 16384

noncomputable section

namespace Cert.KernelIdeal.Stick

open Cert.KernelIdeal Cert.KernelIdeal.Gen
open Idealize.ShloMosaic
open Cert.Math (score leave after attention blockLeave left blockOut outTo)
open scoped BigOperators

/-! ### Reading tiles -/

theorem keyTile_at (X : Vec Ideal S16384x512 .bf16) {off : Fin 2 → Nat} (h) {b e : ℕ} (ho : off = ![128 * b, 128 * e])
    {f : ℕ → ℕ → EReal} (hX : ∀ (r : Fin 16384) (c : Fin 512), X (ix2 r c) = f r c) (r d : Fin 128) :
    keyTile X off h (ix2 r d) = f (128 * b + r) (128 * e + d) := by
  subst ho
  have hh : keyTile X ![128 * b, 128 * e] h = (View.ld X (Rect.unit (s := S16384x512) ![128 * b, 128 * e] S128x128.size h) : S128x128.Idx → EReal) :=
    shapeCast_id (s := S128x128) _ _
  rw [hh]
  simp only [pointwise]
  rw [hX]
  show f (128 * b + 1 * r.val) (128 * e + 1 * d.val) = _
  rw [one_mul, one_mul]

theorem qTile_at (X : Vec Ideal S256x512 .bf16) {f : ℕ → ℕ → EReal} {s0 : ℕ}
    (hX : ∀ (r : Fin 256) (c : Fin 512), X (ix2 r c) = f (s0 + r) c) (n : Fin 8) (r d : Fin 128) :
    qTile X n (ix2 r d) = f (s0 + 128 * (n.val / 4) + r) (128 * (n.val % 4) + d) := by
  have hh : qTile X n = (View.ld X (Rect.unit (s := S256x512) (tileOff n) S128x128.size (tileOff_inb n)) : S128x128.Idx → EReal) :=
    shapeCast_id (s := S128x128) _ _
  rw [hh]
  simp only [pointwise]
  rw [hX]
  show f (s0 + (128 * (n.val / 4) + 1 * r.val)) (128 * (n.val % 4) + 1 * d.val) = _
  rw [one_mul, one_mul, add_assoc]

theorem outTile_ofTiles (T : Fin 8 → Tl Ideal) (n : Fin 8) (y : S128x128.Idx) : outTile (ofTiles T) n y = T n y := by
  have e : outTile (ofTiles T) n = shapeCast S128x128 (T n) shapeCasts_S128x128_S128x128 :=
    congrArg (fun X : S128x128.Idx → EReal => shapeCast S128x128 X shapeCasts_S128x128_S128x128) (funext fun x => ofTiles_emb T n x)
  rw [e, shapeCast_id]

theorem sumTile_ofCols (C : Fin 8 → Cl Ideal) (n : Fin 8) (r : Fin 128) : sumTile (ofCols C) n (ix2 r 0) = C n (ix2 r 0) := by
  have e : sumTile (ofCols C) n = shapeCast S128x1 (shapeCast S1x128x1 (C n) shapeCasts_S128x1_S1x128x1) shapeCasts_S1x128x1_S128x1 :=
    congrArg (fun X : S1x128x1.Idx → EReal => shapeCast S128x1 X shapeCasts_S1x128x1_S128x1) (funext fun x => ofCols_emb C n x)
  rw [e, shapeCast_comp, shapeCast_id]

/-! ### One tile -/

section
variable {q k : ℕ → ℕ → ℝ} {v : ℕ → ℕ → EReal} {h B : ℕ}
    {qt kt vt : Vec Ideal S128x128 .bf16}
    (hq : ∀ r d : Fin 128, qt (ix2 r d) = (q (128 * B + r) (128 * h + d) : EReal))

include hq

theorem scores_score {b : ℕ} (hk : ∀ c d : Fin 128, kt (ix2 c d) = (k (128 * b + c) (128 * h + d) : EReal)) (r c : Fin 128) :
    scores (F := Ideal) qt kt (ix2 r c) = (score q k h (128 * B + r) (128 * b + c) : EReal) :=
  scores_at (a := fun r d => q (128 * B + r) (128 * h + d)) (b := fun c d => k (128 * b + c) (128 * h + d)) hq hk r c

theorem keepD_leave (hk : ∀ c d : Fin 128, kt (ix2 c d) = (k (128 * B + c) (128 * h + d) : EReal)) (r c : Fin 128) :
    keepD (scores (F := Ideal) qt kt) (ix2 r c) = (leave q k h (128 * B + r) (128 * B + c) : EReal) := by
  rw [keepD_at (scores_score hq hk r c)]
  simp only [leave, add_lt_add_iff_left]

theorem keep_leave {b : ℕ} (hb : b < B) (hk : ∀ c d : Fin 128, kt (ix2 c d) = (k (128 * b + c) (128 * h + d) : EReal)) (r c : Fin 128) :
    keep (scores (F := Ideal) qt kt) (ix2 r c) = (leave q k h (128 * B + r) (128 * b + c) : EReal) := by
  have hc := c.isLt
  rw [keep_at (scores_score hq hk r c), leave, if_pos (by omega)]

theorem diagSum_at (hk : ∀ c d : Fin 128, kt (ix2 c d) = (k (128 * B + c) (128 * h + d) : EReal)) (r : Fin 128) :
    diagSum (F := Ideal) qt kt (ix2 r 0) = (left q k h (128 * B + r) B 1 : EReal) := by
  unfold diagSum
  rw [rowSum_at (l := fun c => leave q k h (128 * B + r) (128 * B + c)) (fun c => keepD_leave hq hk r c)]
  simp only [left, Finset.sum_range_one, Nat.zero_le, if_true, Nat.sub_zero, blockLeave]

theorem diagOut_at (hB : B < 128) (hk : ∀ c d : Fin 128, kt (ix2 c d) = (k (128 * B + c) (128 * h + d) : EReal))
    (hv : ∀ c d : Fin 128, vt (ix2 c d) = v (128 * B + c) (128 * h + d)) (r d : Fin 128) :
    diagOut (F := Ideal) k1_pay8 qt kt vt (ix2 r d) = outTo q k h (128 * B + r) v d B 1 := by
  have hr := r.isLt
  unfold diagOut
  rw [times_at]
  simp only [outTo, Finset.sum_range_one, Nat.zero_le, if_true, Nat.sub_zero, blockOut]
  rw [Finset.sum_range fun c => (Cert.Math.weight q k h (128 * B + r) (128 * B + c) : EReal) * v (128 * B + c) (128 * h + d)]
  refine Finset.sum_congr rfl fun c _ => ?_
  rw [hv]
  refine congrArg (· * _) ?_
  have ha := later_at (x := keepD (scores (F := Ideal) qt kt)) (acc := zeroC) (r := r) (l := fun c => leave q k h (128 * B + r) (128 * B + c)) (a := 0)
    (fun c => keepD_leave hq hk r c) (by unfold zeroC; simp only [pointwise]; rfl) c
  have hw := weight_at (scores_score hq hk r c) ha
  show Scalar.select (before (ix2 r c)) (weight (F := Ideal) _ _ (ix2 r c)) (zeroT (ix2 r c)) = _
  rw [before_at, hw, Cert.Math.weight]
  by_cases hc : c.val < r.val
  · rw [if_pos hc, if_pos (by omega)]
    have e := Cert.Math.after_block q k h (128 * B + r) (B := B) (j := 0) (c := c.val) hB (by omega) (Nat.zero_le _) c.isLt
    rw [Nat.sub_zero] at e
    rw [e]
    simp only [left, Finset.sum_range_zero]
    rfl
  · rw [if_neg hc, if_neg (by omega)]
    unfold zeroT
    simp only [pointwise]
    rfl

theorem tripSum_at {j : ℕ} (hj : 0 < j) {ok : Ideal .f32} (hok : ok = if j ≤ B then 1 else 0)
    (hk : ∀ c d : Fin 128, kt (ix2 c d) = (k (128 * (B - j) + c) (128 * h + d) : EReal)) (r : Fin 128)
    {acc : Cl Ideal} (ha : acc (ix2 r 0) = (left q k h (128 * B + r) B j : EReal)) :
    tripSum ok qt kt acc (ix2 r 0) = (left q k h (128 * B + r) B (j + 1) : EReal) := by
  unfold tripSum
  simp only [pointwise]
  rw [ha, Cert.Math.left_succ, EReal.coe_add, hok]
  refine congrArg (_ + ·) ?_
  by_cases hjB : j ≤ B
  · rw [if_pos hjB, if_pos hjB, mul_one,
      rowSum_at (l := fun c => leave q k h (128 * B + r) (128 * (B - j) + c)) (fun c => keep_leave hq (by omega) hk r c)]
    rfl
  · rw [if_neg hjB, if_neg hjB, mul_zero, EReal.coe_zero]

theorem tripOut_at (hB : B < 128) {j : ℕ} (hj : 0 < j) {ok : Ideal .f32} (hok : ok = if j ≤ B then 1 else 0)
    (hk : ∀ c d : Fin 128, kt (ix2 c d) = (k (128 * (B - j) + c) (128 * h + d) : EReal))
    (hv : ∀ c d : Fin 128, vt (ix2 c d) = v (128 * (B - j) + c) (128 * h + d)) (r d : Fin 128)
    {acc : Cl Ideal} (ha : acc (ix2 r 0) = (left q k h (128 * B + r) B j : EReal))
    {old : Tl Ideal} (hold : old (ix2 r d) = outTo q k h (128 * B + r) v d B j) :
    tripOut k1_pay8 ok qt kt vt acc old (ix2 r d) = outTo q k h (128 * B + r) v d B (j + 1) := by
  have hr := r.isLt
  unfold tripOut
  simp only [pointwise]
  rw [hold, Cert.Math.outTo_succ, hok]
  refine congrArg (_ + ·) ?_
  by_cases hjB : j ≤ B
  · rw [if_pos hjB, if_pos hjB, mul_one, times_at, blockOut,
      Finset.sum_range fun c => (Cert.Math.weight q k h (128 * B + r) (128 * (B - j) + c) : EReal) * v (128 * (B - j) + c) (128 * h + d)]
    refine Finset.sum_congr rfl fun c _ => ?_
    have hc := c.isLt
    rw [hv]
    refine congrArg (· * _) ?_
    have hl := later_at (x := keep (scores (F := Ideal) qt kt)) (r := r) (l := fun c => leave q k h (128 * B + r) (128 * (B - j) + c))
      (fun c => keep_leave hq (by omega) hk r c) ha c
    have hw := weight_at (scores_score hq hk r c) hl
    show weight (F := Ideal) _ _ (ix2 r c) = _
    rw [hw, Cert.Math.weight, if_pos (by omega), Cert.Math.after_block q k h (128 * B + r) hB (by omega) hjB c.isLt]
  · rw [if_neg hjB, if_neg hjB, mul_zero]

end

/-! ### The loop -/

section
variable {i : grid1.Coords} {X1 : Vec Ideal S256x512 .bf16} {X2 X3 : Vec Ideal S16384x512 .bf16}
    {q k : ℕ → ℕ → ℝ} {v : ℕ → ℕ → EReal}
    (hX1 : ∀ (r : Fin 256) (c : Fin 512), X1 (ix2 r c) = (q (256 * (i 0).val + r) c : EReal))
    (hX2 : ∀ (r : Fin 16384) (c : Fin 512), X2 (ix2 r c) = (k r c : EReal))
    (hX3 : ∀ (r : Fin 16384) (c : Fin 512), X3 (ix2 r c) = v r c)

/-- After `j` blocks: the flag is up, the sums and the tiles are those of the blocks counted. -/
structure Counted (i : grid1.Coords) (q k : ℕ → ℕ → ℝ) (v : ℕ → ℕ → EReal) (j : ℕ) (s : Mid Ideal) : Prop where
  up : s.al = 1#32
  sums : ∀ (n : Fin 8) (r : Fin 128), s.C n (ix2 r 0)
    = (left q k (n.val % 4) (128 * (2 * (i 0).val + n.val / 4) + r) (2 * (i 0).val + n.val / 4) j : EReal)
  outs : ∀ (n : Fin 8) (r d : Fin 128), s.T n (ix2 r d)
    = outTo q k (n.val % 4) (128 * (2 * (i 0).val + n.val / 4) + r) v d (2 * (i 0).val + n.val / 4) j

include hX1 in
theorem qTile_q (n : Fin 8) (r d : Fin 128) :
    qTile X1 n (ix2 r d) = (q (128 * (2 * (i 0).val + n.val / 4) + r) (128 * (n.val % 4) + d) : EReal) := by
  rw [qTile_at X1 (f := fun r c => (q r c : EReal)) hX1,
    show 256 * (i 0).val + 128 * (n.val / 4) + r.val = 128 * (2 * (i 0).val + n.val / 4) + r.val from by omega]

theorem diagOff_block (i : grid1.Coords) (n : Fin 8) : diagOff i n = ![128 * (2 * (i 0).val + n.val / 4), 128 * (n.val % 4)] := by
  rw [diagOff_eq, show 256 * (i 0).val + 128 * (n.val / 4) = 128 * (2 * (i 0).val + n.val / 4) from by omega]

include hX1 hX2 hX3 in
theorem counted_ahead : Counted i q k v 1 ⟨aheadT i X1 X2 X3, aheadC i X1 X2, flag (aheadC i X1 X2)⟩ := by
  have hi : (i 0).val < 64 := (i 0).isLt
  have hs : ∀ (n : Fin 8) (r : Fin 128), aheadC i X1 X2 n (ix2 r 0)
      = (left q k (n.val % 4) (128 * (2 * (i 0).val + n.val / 4) + r) (2 * (i 0).val + n.val / 4) 1 : EReal) := fun n r =>
    diagSum_at (qTile_q hX1 n) (keyTile_at X2 _ (diagOff_block i n) (f := fun r c => (k r c : EReal)) hX2) r
  exact ⟨flag_up (hs 0 0), hs, fun n r d => by
    have hn := n.isLt
    exact diagOut_at (qTile_q hX1 n) (by omega) (keyTile_at X2 _ (diagOff_block i n) (f := fun r c => (k r c : EReal)) hX2)
      (keyTile_at X3 _ (diagOff_block i n) hX3) r d⟩

include hX1 hX2 hX3 in
theorem counted_next {j : ℕ} (hj : j < 130) (h0 : 0 < j) {s : Mid Ideal} (h : Counted i q k v j s) :
    Counted i q k v (j + 1) (next i (qTile X1) k1_pay8 X2 X3 j hj s) := by
  have hi : (i 0).val < 64 := (i 0).isLt
  have hs : ∀ (n : Fin 8) (r : Fin 128), tripC i (qTile X1) (BitVec.ofNat 32 j) (chk i hj) X2 (ofCols s.C) n (ix2 r 0)
      = (left q k (n.val % 4) (128 * (2 * (i 0).val + n.val / 4) + r) (2 * (i 0).val + n.val / 4) (j + 1) : EReal) := fun n r =>
    tripSum_at (qTile_q hX1 n) h0 (valid_at i hj n) (keyTile_at X2 _ (keyOff_eq i hj n) (f := fun r c => (k r c : EReal)) hX2) r
      ((sumTile_ofCols s.C n r).trans (h.sums n r))
  exact ⟨flag_up (hs 0 0), hs, fun n r d => by
    have hn := n.isLt
    exact tripOut_at (qTile_q hX1 n) (by omega) h0 (valid_at i hj n) (keyTile_at X2 _ (keyOff_eq i hj n) (f := fun r c => (k r c : EReal)) hX2)
      (keyTile_at X3 _ (keyOff_eq i hj n) hX3) r d ((sumTile_ofCols s.C n r).trans (h.sums n r)) ((outTile_ofTiles s.T n _).trans (h.outs n r d))⟩

/-- With the flag up the loop goes on until the first block is counted. -/
theorem goesOn_up (i : grid1.Coords) {j : ℕ} (hj : j ≤ 2 * (i 0).val + 1) : goesOn i (BitVec.ofNat 32 j) 1#32 := by
  have hi : (i 0).val < 64 := (i 0).isLt
  rw [goesOn, goesOn_le (i 0) ⟨j, by omega⟩, if_pos hj]
  decide

include hX1 hX2 hX3 in
theorem counted_rest (n : ℕ) : ∀ (j : ℕ) (h : j + n ≤ 130) (_ : 0 < j) (_ : j + n = 2 * (i 0).val + 2) (s : Mid Ideal) (_ : Counted i q k v j s),
    Counted i q k v (2 * (i 0).val + 2) (rest i (qTile X1) k1_pay8 X2 X3 n j h s) := by
  induction n with
  | zero =>
    intro j h h0 hn s hs
    rw [rest, ← hn]
    exact hs
  | succ n ih =>
    intro j h h0 hn s hs
    rw [rest, hs.up, if_pos (goesOn_up i (by omega))]
    exact ih (j + 1) (by omega) (by omega) (by omega) _ (counted_next hX1 hX2 hX3 (by omega) h0 hs)

include hX1 hX2 hX3 in
/-- The loop's output tiles are the attention. -/
theorem loop_attention (n : Fin 8) (r d : Fin 128) :
    (loop i X1 X2 X3).T n (ix2 r d) = attention q k v (n.val % 4) (128 * (2 * (i 0).val + n.val / 4) + r) d := by
  have hi : (i 0).val < 64 := (i 0).isLt
  have hn := n.isLt
  have hr := r.isLt
  have h := (counted_rest hX1 hX2 hX3 (2 * (i 0).val + 1) 1 (by omega) (by omega) (by omega) _ (counted_ahead hX1 hX2 hX3)).outs n r d
  rw [Cert.Math.outTo_all q k _ _ v d (by omega) (by omega) (by omega)] at h
  exact h

end

end Cert.KernelIdeal.Stick

end
-- ==== Proof.Ideal.Result.lean ====
/-
  The result array: row `s`, column `c` holds the attention of head `c / 128` at query `s`, coordinate `c % 128`.
-/
module

public import proofs.«01_k».proof.Proof.Ideal.Attend
public import proofs.«01_k».proof.Proof.Ideal.Body
public import proofs.«01_k».proof.Proof.Math.Cell
public import Idealize.ShloMosaic.Lib.Pipeline.ValueKit

@[expose] public section

set_option maxRecDepth 16384

noncomputable section

namespace Cert.KernelIdeal.Stick

open Cert.KernelIdeal Cert.KernelIdeal.Gen
open Idealize.ShloMosaic
open Cert.Math (attention cell cell_of)

theorem index_0 : ∀ t : Fin grid1.N, win1_0.index t = ![(grid1.coords t 0).val, 6] := by decide +kernel
theorem index_1 : ∀ t : Fin grid1.N, win1_1.index t = ![0, 7] := by decide +kernel
theorem index_2 : ∀ t : Fin grid1.N, win1_2.index t = ![0, 8] := by decide +kernel
theorem index_3 : ∀ t : Fin grid1.N, win1_3.index t = ![(grid1.coords t 0).val, 0] := by decide +kernel

variable (V : Dev nD → Valuation τ sig (Elt Ideal)) (c : Dev nD)

/-- The projection's array. -/
abbrev arg : S16384x8192.Idx → EReal := V c (Proc.devRef .tc main_v29_0)

theorem qBlk_at (t : Fin (cfg1 (F := Ideal)).N) (r : Fin 256) (e : Fin 512) :
    qBlk V c t (ix2 r e) = cell (arg V c) (256 * (grid1.coords t 0).val + r) (3072 + e) := by
  unfold qBlk
  rw [View.read_apply]
  refine cell_of (arg V c) _ ?_ ?_
  all_goals blk_simp [index_0]
  all_goals omega

theorem kBlk_at (t : Fin (cfg1 (F := Ideal)).N) (r : Fin 16384) (e : Fin 512) :
    kBlk V c t (ix2 r e) = cell (arg V c) r (3584 + e) := by
  unfold kBlk
  rw [View.read_apply]
  refine cell_of (arg V c) _ ?_ ?_
  all_goals blk_simp [index_1]
  all_goals omega

theorem vBlk_at (t : Fin (cfg1 (F := Ideal)).N) (r : Fin 16384) (e : Fin 512) :
    vBlk V c t (ix2 r e) = cell (arg V c) r (4096 + e) := by
  unfold vBlk
  rw [View.read_apply]
  refine cell_of (arg V c) _ ?_ ?_
  all_goals blk_simp [index_2]
  all_goals omega

/-- The attention of the argument's three column blocks, laid out as the result. -/
def want (q k : ℕ → ℕ → ℝ) (v : ℕ → ℕ → EReal) : S16384x512.Idx → EReal :=
  fun y => attention q k v ((y 1).val / 128) (y 0).val ((y 1).val % 128)

theorem result (q k : ℕ → ℕ → ℝ) (hq : ∀ s e, s < 16384 → e < 512 → cell (arg V c) s (3072 + e) = (q s e : EReal))
    (hk : ∀ s e, s < 16384 → e < 512 → cell (arg V c) s (3584 + e) = (k s e : EReal)) :
    (dat V c).arrAt (3 : Fin 4) (cfg1 (F := Ideal)).N = want q k (fun s e => cell (arg V c) s (4096 + e)) := by
  refine (dat V c).arrAt_eq_of_covers 3 _ (by decide +kernel) fun t hf y => ?_
  have e0 : ((((win1_3.blk t).view.emb y 0 : Fin _) : ℕ)) = 256 * (grid1.coords t 0).val + (y 0).val := by
    blk_simp [index_3]
    omega
  have e1 : ((((win1_3.blk t).view.emb y 1 : Fin _) : ℕ)) = (y 1).val := by
    blk_simp [index_3]
  have hi : (grid1.coords t 0).val < 64 := (grid1.coords t 0).isLt
  have h0 : (y 0).val < 256 := (y 0).isLt
  have h1 : (y 1).val < 512 := (y 1).isLt
  have hl := loop_attention (i := grid1.coords t) (X1 := qBlk V c t) (X2 := kBlk V c t) (X3 := vBlk V c t) (q := q) (k := k)
    (v := fun s e => cell (arg V c) s (4096 + e))
    (fun r e => (qBlk_at V c t r e).trans (hq _ _ (by omega) e.isLt))
    (fun r e => (kBlk_at V c t r e).trans (hk _ _ r.isLt e.isLt)) (vBlk_at V c t)
    (tileOf y) ⟨(y 0).val % 128, Nat.mod_lt _ (by decide)⟩ ⟨(y 1).val % 128, Nat.mod_lt _ (by decide)⟩
  have ht : (tileOf y).val = (y 0).val / 128 * 4 + (y 1).val / 128 := rfl
  have hy : inTile y = ix2 ⟨(y 0).val % 128, Nat.mod_lt _ (by decide)⟩ ⟨(y 1).val % 128, Nat.mod_lt _ (by decide)⟩ :=
    funext fun a => by match a with | 0 => rfl | 1 => rfl
  blk_simp []
  show (loop (grid1.coords t) (qBlk V c t) (kBlk V c t) (vBlk V c t)).T (tileOf y) (inTile y)
    = attention q k _ (((win1_3.blk t).view.emb y 1 : Fin _).val / 128) ((win1_3.blk t).view.emb y 0 : Fin _).val (((win1_3.blk t).view.emb y 1 : Fin _).val % 128)
  rw [hy, hl, e0, e1, ht]
  congr 1
  · omega
  · show 128 * (2 * (grid1.coords t 0).val + ((y 0).val / 128 * 4 + (y 1).val / 128) / 4) + (y 0).val % 128 = _
    omega

end Cert.KernelIdeal.Stick

end
-- ==== Proof.Ideal.Joined.lean ====
/-
  The nine results in terms of the arguments: eight are columns of the product of the modulated rows with the weights, the
  ninth is the attention of its queries, keys and values.
-/
module

public import proofs.«01_k».proof.Proof.Ideal.Host
public import proofs.«01_k».proof.Proof.Ideal.ProjResult
public import proofs.«01_k».proof.Proof.Ideal.Result

@[expose] public section

set_option maxRecDepth 16384

noncomputable section

namespace Cert.KernelIdeal.Whole

open Cert.KernelIdeal Cert.KernelIdeal.Gen
open Idealize.ShloMosaic Idealize.ShloMosaic.TcCoe
open Cert.Math (modulated product head cell cell_of entry colsOf queriesOf keysOf valuesOf queriesOf_real keysOf_real)
open Cert.KernelIdeal.Stick (want)

variable (m : (ℓ : Loc nD τ sig) → Buf (Elt Ideal) ℓ) (c : Dev nD)

/-! ### The arguments -/

abbrev rowsIn : S16384x1024.Idx → EReal :=
  shapeCast S16384x1024 (m ((c.tc : Thread nD τ).loc main_arg0) : S1x16384x1024.Idx → EReal) shapeCasts_S1x16384x1024_S16384x1024
abbrev normIn : S1024.Idx → EReal := m ((c.tc : Thread nD τ).loc main_arg1)
abbrev scaleIn : S1024.Idx → EReal := m ((c.tc : Thread nD τ).loc main_arg2)
abbrev shiftIn : S1024.Idx → EReal := m ((c.tc : Thread nD τ).loc main_arg3)
abbrev weightIn : S1024x8208.Idx → EReal := m ((c.tc : Thread nD τ).loc main_arg4)
abbrev qIn : S128.Idx → EReal := m ((c.tc : Thread nD τ).loc main_arg5)
abbrev kIn : S128.Idx → EReal := m ((c.tc : Thread nD τ).loc main_arg6)

/-- The modulated rows, -/
def hAt : ℕ → ℕ → EReal := modulated (cell (rowsIn m c)) (entry (normIn m c)) (entry (scaleIn m c)) (entry (shiftIn m c))
/-- and their product with the weights. -/
def pAt : ℕ → ℕ → EReal := product (hAt m c) (cell (weightIn m c))

/-! ### The projection's arrays -/

theorem row_cell (g : S1024.Idx → EReal) (k : ℕ) (hk : k < 1024) :
    cell (shapeCast (s := S1024) (α := EReal) S1x1024 g shapeCasts_S1024_S1x1024) 0 k = entry g k :=
  (cell_of _ (ix2 0 ⟨k, hk⟩) rfl rfl).symm.trans (row_at g 0 ⟨k, hk⟩)

theorem rows_found (s k : ℕ) : cell (Proj.xs (atProj m) c) s k = cell (rowsIn m c) s k := by
  show cell (atProj m c (Proc.devRef .tc main_v0) : S16384x1024.Idx → EReal) s k = _
  rw [(prepared m c).1]
theorem norm_found (k : ℕ) (hk : k < 1024) : cell (Proj.ns (atProj m) c) 0 k = entry (normIn m c) k := by
  show cell (atProj m c (Proc.devRef .tc main_v24) : S1x1024.Idx → EReal) 0 k = _
  rw [(prepared m c).2.1]; exact row_cell _ k hk
theorem scale_found (k : ℕ) (hk : k < 1024) : cell (Proj.scs (atProj m) c) 0 k = entry (scaleIn m c) k := by
  show cell (atProj m c (Proc.devRef .tc main_v25) : S1x1024.Idx → EReal) 0 k = _
  rw [(prepared m c).2.2.1]; exact row_cell _ k hk
theorem shift_found (k : ℕ) (hk : k < 1024) : cell (Proj.shs (atProj m) c) 0 k = entry (shiftIn m c) k := by
  show cell (atProj m c (Proc.devRef .tc main_v26) : S1x1024.Idx → EReal) 0 k = _
  rw [(prepared m c).2.2.2.1]; exact row_cell _ k hk
theorem weight_found (k e : ℕ) (hk : k < 1024) (he : e < 8192) : cell (Proj.ws (atProj m) c) k e = cell (weightIn m c) k (place e) := by
  show cell (atProj m c (Proc.devRef .tc main_v11) : S1024x8192.Idx → EReal) k e = _
  rw [(prepared m c).2.2.2.2.1]
  exact (cell_of _ (ix2 ⟨k, hk⟩ ⟨e, he⟩) rfl rfl).symm.trans (wide_at _ ⟨k, hk⟩ ⟨e, he⟩)
theorem narrow_found (k e : ℕ) : cell (Proj.nars (atProj m) c) k e = cell (narrow (F := Ideal) (weightIn m c)) k e := by
  show cell (atProj m c (Proc.devRef .tc main_v13) : S1024x256.Idx → EReal) k e = _
  rw [(prepared m c).2.2.2.2.2.1]
theorem gains_found (e : ℕ) (he : e < 1024) : cell (Proj.gs (atProj m) c) 0 e
    = if e < 512 then entry (qIn m c) (e % 128) else entry (kIn m c) (e % 128) := by
  show cell (atProj m c (Proc.devRef .tc main_v27) : S1x1024.Idx → EReal) 0 e = _
  rw [(prepared m c).2.2.2.2.2.2.1]
  exact (cell_of _ (ix2 0 ⟨e, he⟩) rfl rfl).symm.trans (gains_at _ _ 0 ⟨e, he⟩)
theorem scales_found (e : ℕ) (he : e < 1024) : cell (Proj.cs (atProj m) c) 0 e = if e < 512 then Ideal.ofBits .f32 0x3DB504F3#32 else 1 := by
  show cell (atProj m c (Proc.devRef .tc main_v28) : S1x1024.Idx → EReal) 0 e = _
  rw [(prepared m c).2.2.2.2.2.2.2]
  exact (cell_of _ (ix2 0 ⟨e, he⟩) rfl rfl).symm.trans (scales_at 0 ⟨e, he⟩)

theorem wide_past : pastProj m c (Proc.devRef .tc main_v29_0)
    = Proj.wideOf (fun s e => pAt m c s (place e)) (cell (Proj.gs (atProj m) c) 0) (cell (Proj.cs (atProj m) c) 0) :=
  (Pipeline.afterRegion_arr (Proj.dat (atProj m) c) (atProj m c) launch0.win.arr_inj (8 : Fin 10)).trans
    (Proj.wide_result (atProj m) c (w := fun k e => cell (weightIn m c) k (place e)) (fun s k _ _ => rows_found m c s k) (norm_found m c)
      (scale_found m c) (shift_found m c) (weight_found m c))

theorem narrow_past : pastProj m c (Proc.devRef .tc main_v29_1)
    = Proj.narrowOf (product (hAt m c) (cell (narrow (F := Ideal) (weightIn m c)))) :=
  (Pipeline.afterRegion_arr (Proj.dat (atProj m) c) (atProj m c) launch0.win.arr_inj (9 : Fin 10)).trans
    (Proj.narrow_result (atProj m) c (fun s k _ _ => rows_found m c s k) (norm_found m c)
      (scale_found m c) (shift_found m c) (fun k e _ _ => narrow_found m c k e))

/-- The wide array outside its heads, -/
theorem plain_entry (y : S16384x8192.Idx) {s e e' : ℕ} (h0 : (y 0).val = s) (h1 : (y 1).val = e) (h3 : e / 1024 ≠ 3) (he : place e = e') :
    (pastProj m c (Proc.devRef .tc main_v29_0) : S16384x8192.Idx → EReal) y = pAt m c s e' := by
  subst h0 h1 he
  exact (congrFun (wide_past m c) y).trans (if_neg h3)

/-- and the narrow array's columns in use. -/
theorem low_entry (y : S16384x256.Idx) {s e : ℕ} (h0 : (y 0).val = s) (h1 : (y 1).val = e) (he : e < 8) :
    (pastProj m c (Proc.devRef .tc main_v29_1) : S16384x256.Idx → EReal) y = pAt m c s (1536 + e) := by
  subst h0 h1
  exact (congrFun (narrow_past m c) y).trans (Cert.Math.product_congr fun k hk =>
    (cell_of _ (ix2 ⟨k, hk⟩ ⟨(y 1).val, by omega⟩) rfl rfl).symm.trans (narrow_low _ ⟨k, hk⟩ ⟨(y 1).val, he⟩))
theorem high_entry (y : S16384x256.Idx) {s e : ℕ} (h0 : (y 0).val = s) (h1 : (y 1).val = 128 + e) (he : e < 8) :
    (pastProj m c (Proc.devRef .tc main_v29_1) : S16384x256.Idx → EReal) y = pAt m c s (4616 + e) := by
  subst h0
  refine (congrFun (narrow_past m c) y).trans (Cert.Math.product_congr fun k hk => ?_)
  rw [h1]
  exact (cell_of _ (ix2 ⟨k, hk⟩ ⟨128 + e, by omega⟩) rfl rfl).symm.trans (narrow_high _ ⟨k, hk⟩ ⟨e, he⟩)

/-! ### The results -/

set_option maxHeartbeats 4000000 in
/-- What the host operations between the calls leave of the two arrays. -/
theorem shaped : atStick m c (Proc.devRef .tc main_v31)
      = extf .f32 (extractStridedSlice S16384x512 ![0, 7168] (pastProj m c (Proc.devRef .tc main_v29_0)) slices_S16384x8192_S16384x512_0_7168 : FVec Ideal S16384x512 .bf16) bitsLt_bf16_f32
    ∧ atStick m c (Proc.devRef .tc main_v33)
      = extf .f32 (extractStridedSlice S16384x1024 ![0, 6144] (pastProj m c (Proc.devRef .tc main_v29_0)) slices_S16384x8192_S16384x1024_0_6144 : FVec Ideal S16384x1024 .bf16) bitsLt_bf16_f32
    ∧ atStick m c (Proc.devRef .tc main_v34)
      = extractStridedSlice S16384x8 ![0, 0] (pastProj m c (Proc.devRef .tc main_v29_1)) slices_S16384x256_S16384x8_0_0
    ∧ atStick m c (Proc.devRef .tc main_v36)
      = extf .f32 (extractStridedSlice S16384x1536 ![0, 4608] (pastProj m c (Proc.devRef .tc main_v29_0)) slices_S16384x8192_S16384x1536_0_4608 : FVec Ideal S16384x1536 .bf16) bitsLt_bf16_f32
    ∧ atStick m c (Proc.devRef .tc main_v37)
      = extractStridedSlice S16384x4 ![0, 128] (pastProj m c (Proc.devRef .tc main_v29_1)) slices_S16384x256_S16384x4_0_128
    ∧ atStick m c (Proc.devRef .tc main_v38)
      = extractStridedSlice S16384x4 ![0, 132] (pastProj m c (Proc.devRef .tc main_v29_1)) slices_S16384x256_S16384x4_0_132
    ∧ atStick m c (Proc.devRef .tc main_v40)
      = extf .f32 (extractStridedSlice S16384x512 ![0, 7680] (pastProj m c (Proc.devRef .tc main_v29_0)) slices_S16384x8192_S16384x512_0_7680 : FVec Ideal S16384x512 .bf16) bitsLt_bf16_f32
    ∧ atStick m c (Proc.devRef .tc main_v42)
      = extf .f32 (extractStridedSlice S16384x3072 ![0, 0] (pastProj m c (Proc.devRef .tc main_v29_0)) slices_S16384x8192_S16384x3072_0_0 : FVec Ideal S16384x3072 .bf16) bitsLt_bf16_f32
    ∧ atStick m c (Proc.devRef .tc main_v29_0) = pastProj m c (Proc.devRef .tc main_v29_0) := by
  unfold atStick
  simp only [hostOps1]
  refine ⟨?_, ?_, ?_, ?_, ?_, ?_, ?_, ?_, ?_⟩
  all_goals after_results_simp
  all_goals rfl

/-- Columns of the wide array outside its heads, -/
theorem wide_cols {n lo base : ℕ} (h : S16384x8192.Slices ![0, lo] ⟨2, ![16384, n]⟩) (h3 : ∀ e, e < n → (lo + e) / 1024 ≠ 3)
    (he : ∀ e, e < n → place (lo + e) = base + e) :
    extf (F := Ideal) .f32 (extractStridedSlice ⟨2, ![16384, n]⟩ ![0, lo] (pastProj m c (Proc.devRef .tc main_v29_0)) h
      : FVec Ideal ⟨2, ![16384, n]⟩ .bf16) bitsLt_bf16_f32 = colsOf (pAt m c) base := by
  funext y
  have hy : (y 1).val < n := (y 1).isLt
  exact plain_entry m c _ (Nat.zero_add (y 0).val) rfl (h3 _ hy) (he _ hy)
/-- and of the narrow array. -/
theorem low_cols : extractStridedSlice S16384x8 ![0, 0] (pastProj m c (Proc.devRef .tc main_v29_1)) slices_S16384x256_S16384x8_0_0
    = colsOf (pAt m c) 1536 := by
  funext y
  exact low_entry m c _ (Nat.zero_add (y 0).val) (Nat.zero_add (y 1).val) (y 1).isLt
theorem high_cols {lo : ℕ} (hlo : lo ≤ 4) (h : S16384x256.Slices ![0, 128 + lo] S16384x4) :
    extractStridedSlice S16384x4 ![0, 128 + lo] (pastProj m c (Proc.devRef .tc main_v29_1)) h = colsOf (pAt m c) (4616 + lo) := by
  funext y
  have hy : (y 1).val < 4 := (y 1).isLt
  refine (high_entry m c _ (e := lo + (y 1).val) (Nat.zero_add (y 0).val) (Nat.add_assoc 128 lo (y 1).val) (by omega)).trans ?_
  unfold colsOf
  rw [Nat.add_assoc]

/-! ### The attention's columns -/

theorem place_heads (e : ℕ) (he : e < 1536) : place (3072 + e) = 1544 + e := by
  unfold place
  rw [if_neg (by omega), if_pos (by omega)]
  omega

theorem head_found (s e : ℕ) (he : e < 1024) : head (fun s e => pAt m c s (place (3072 + e))) s e = head (fun s e => pAt m c s (1544 + e)) s e := by
  unfold head
  dsimp only
  rw [place_heads e (by omega)]
  refine congrArg (pAt m c s (1544 + e) * ·) (Cert.Math.invRms_congr fun k hk => ?_)
  rw [place_heads _ (by omega)]

theorem arg_cell (s e : ℕ) (hs : s < 16384) (he : e < 8192) : cell (Stick.arg (atStick m) c) s e
    = Proj.wideOf (fun s e => pAt m c s (place e)) (cell (Proj.gs (atProj m) c) 0) (cell (Proj.cs (atProj m) c) 0) (ix2 ⟨s, hs⟩ ⟨e, he⟩) :=
  (cell_of _ (ix2 ⟨s, hs⟩ ⟨e, he⟩) rfl rfl).symm.trans
    ((congrFun (shaped m c).2.2.2.2.2.2.2.2 _).trans (congrFun (wide_past m c) _))

theorem queries_found (s e : ℕ) (hs : s < 16384) (he : e < 512) :
    cell (Stick.arg (atStick m) c) s (3072 + e) = queriesOf (pAt m c) (entry (qIn m c)) s e := by
  rw [arg_cell m c s (3072 + e) hs (by omega)]
  refine (if_pos (show (3072 + e) / 1024 = 3 by omega)).trans ?_
  show head _ s ((3072 + e) % 1024) * cell (Proj.gs (atProj m) c) 0 ((3072 + e) % 1024) * cell (Proj.cs (atProj m) c) 0 ((3072 + e) % 1024) = _
  rw [show (3072 + e) % 1024 = e by omega, head_found m c s e (by omega)]
  rw [gains_found m c _ (by omega), scales_found m c _ (by omega), if_pos he, if_pos he]
  rfl

theorem keys_found (s e : ℕ) (hs : s < 16384) (he : e < 512) :
    cell (Stick.arg (atStick m) c) s (3584 + e) = keysOf (pAt m c) (entry (kIn m c)) s e := by
  rw [arg_cell m c s (3584 + e) hs (by omega)]
  refine (if_pos (show (3584 + e) / 1024 = 3 by omega)).trans ?_
  show head _ s ((3584 + e) % 1024) * cell (Proj.gs (atProj m) c) 0 ((3584 + e) % 1024) * cell (Proj.cs (atProj m) c) 0 ((3584 + e) % 1024) = _
  rw [show (3584 + e) % 1024 = 512 + e by omega, head_found m c s _ (by omega)]
  rw [gains_found m c _ (by omega), scales_found m c _ (by omega), if_neg (by omega), if_neg (by omega), mul_one]
  unfold keysOf head
  dsimp only
  rw [show (512 + e) % 128 = e % 128 by omega, show 1544 + (512 + e) = 2056 + e by omega]
  have hd : ∀ d, 1544 + (128 * ((512 + e) / 128) + d) = 2056 + (128 * (e / 128) + d) := fun d => by omega
  simp only [hd]

theorem values_found (s e : ℕ) (hs : s < 16384) (he : e < 512) :
    cell (Stick.arg (atStick m) c) s (4096 + e) = valuesOf (pAt m c) s e := by
  rw [arg_cell m c s (4096 + e) hs (by omega)]
  refine (if_neg (show ¬ (4096 + e) / 1024 = 3 by omega)).trans ?_
  show pAt m c s (place (4096 + e)) = pAt m c s (2568 + e)
  rw [show 4096 + e = 3072 + (1024 + e) by omega, place_heads _ (by omega)]
  congr 1
  omega

/-- The attention's result. -/
theorem attended (hq : ∀ d, d < 128 → entry (qIn m c) d = ((entry (qIn m c) d).toReal : EReal))
    (hk : ∀ d, d < 128 → entry (kIn m c) d = ((entry (kIn m c) d).toReal : EReal)) :
    (Stick.dat (atStick m) c).arrAt (3 : Fin 4) (cfg1 (F := Ideal)).N
      = want (fun s e => (queriesOf (pAt m c) (entry (qIn m c)) s e).toReal) (fun s e => (keysOf (pAt m c) (entry (kIn m c)) s e).toReal)
          (valuesOf (pAt m c)) := by
  rw [Stick.result (atStick m) c (fun s e => (queriesOf (pAt m c) (entry (qIn m c)) s e).toReal)
    (fun s e => (keysOf (pAt m c) (entry (kIn m c)) s e).toReal)
    (fun s e hs he => (queries_found m c s e hs he).trans (queriesOf_real hq s e))
    (fun s e hs he => (keys_found m c s e hs he).trans (keysOf_real hk s e))]
  funext y
  have hy : (y 1).val < 512 := (y 1).isLt
  show Cert.Math.attention _ _ _ ((y 1).val / 128) (y 0).val ((y 1).val % 128) = Cert.Math.attention _ _ _ ((y 1).val / 128) (y 0).val ((y 1).val % 128)
  unfold Cert.Math.attention
  refine Finset.sum_congr rfl fun t ht => ?_
  dsimp only
  rw [values_found m c t _ (Finset.mem_range.mp ht) (by omega)]

end Cert.KernelIdeal.Whole

end
-- ==== Proof.Reference.Layer.lean ====
/-
  The reference's projection read at a place: the modulated rows, their product with the weights, and its query, key and
  value columns, the queries and keys over the root mean square of their head.
-/
module

public import proofs.«01_k».proof.Proof.Gen.ReferenceIdeal.Run
public import proofs.«01_k».proof.Proof.Math.Layer
public import Idealize.ShloMosaic.Lib.Pointwise

@[expose] public section

set_option maxRecDepth 16384

noncomputable section

namespace Cert.ReferenceIdeal.Layer

open Cert.ReferenceIdeal Cert.ReferenceIdeal.Gen
open Idealize.ShloMosaic Idealize.ShloMosaic.TcCoe
open Cert.Math (cell cell_of entry entry_of invRms modulated product head)
open scoped BigOperators

variable {F : FTy → Type} [FloatOps F]

/-! ### The operations -/

/-- One over the root mean square of each row, -/
def rowRms (X : FVec F S16384x1024 .f32) : FVec F S16384x1 .f32 :=
  Host.rsqrt (addf (Host.divf (broadcastInDim S16384x1 ![0] bcast_S16384_S16384x1_0 (Host.reduceAdd (mulf X X) (constant S_ .f32 0x00000000#32)
    reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))
/-- a vector along the rows, -/
def along (g : FVec F S1024 .f32) : FVec F S16384x1024 .f32 :=
  broadcastInDim S16384x1024 ![0, 1] bcast_S1x1024_S16384x1024_0_1 (broadcastInDim S1x1024 ![1] bcast_S1024_S1x1024_1 g)
/-- the modulated rows, -/
def rows (X : FVec F S16384x1024 .f32) (g a b : FVec F S1024 .f32) : FVec F S16384x1024 .f32 :=
  addf (mulf (mulf (mulf X (broadcastInDim S16384x1024 ![0, 1] bcast_S16384x1_S16384x1024_0_1 (rowRms X))) (along g))
    (along (addf (broadcastInDim S1024 ![] bcast_S_S1024 (constant S_ .f32 0x3F800000#32)) a))) (along b)
/-- and the projection. -/
def proj (X : FVec F S16384x1024 .f32) (g a b : FVec F S1024 .f32) (W : FVec F S1024x8208 .f32) : FVec F S16384x8208 .f32 :=
  Host.dotGeneral dot_S16384x1024_S1024x8208_S16384x8208_1_0_0_1_n_n none (rows X g a b) W
/-- Its queries, keys and values. -/
def queries (P : FVec F S16384x8208 .f32) : FVec F S16384x4x128 .f32 :=
  shapeCast _ (extractStridedSlice S16384x512 ![0, 0] (extractStridedSlice S16384x1536 ![0, 1544] P slices_S16384x8208_S16384x1536_0_1544)
    slices_S16384x1536_S16384x512_0_0) shapeCasts_S16384x512_S16384x4x128
def keys (P : FVec F S16384x8208 .f32) : FVec F S16384x4x128 .f32 :=
  shapeCast _ (extractStridedSlice S16384x512 ![0, 512] (extractStridedSlice S16384x1536 ![0, 1544] P slices_S16384x8208_S16384x1536_0_1544)
    slices_S16384x1536_S16384x512_0_512) shapeCasts_S16384x512_S16384x4x128
def values (P : FVec F S16384x8208 .f32) : FVec F S16384x4x128 .f32 :=
  shapeCast _ (extractStridedSlice S16384x512 ![0, 1024] (extractStridedSlice S16384x1536 ![0, 1544] P slices_S16384x8208_S16384x1536_0_1544)
    slices_S16384x1536_S16384x512_0_1024) shapeCasts_S16384x512_S16384x4x128
/-- One over the root mean square of each head, -/
def headRms (P : FVec F S16384x4x128 .f32) : FVec F S16384x4x1 .f32 :=
  Host.rsqrt (addf (Host.divf (broadcastInDim S16384x4x1 ![0, 1] bcast_S16384x4_S16384x4x1_0_1 (Host.reduceAdd (mulf P P) (constant S_ .f32 0x00000000#32)
    reducesTo_S16384x4x128_S16384x4_d2 h_S_)) (broadcastInDim S16384x4x1 ![] bcast_S_S16384x4x1 (constant S_ .f32 0x43000000#32)))
    (broadcastInDim S16384x4x1 ![] bcast_S_S16384x4x1 (constant S_ .f32 0x358637BD#32)))
/-- the heads over it, with the gains, -/
def normed (P : FVec F S16384x4x128 .f32) (g : FVec F S128 .f32) : FVec F S16384x4x128 .f32 :=
  mulf (mulf P (broadcastInDim S16384x4x128 ![0, 1, 2] bcast_S16384x4x1_S16384x4x128_0_1_2 (headRms P)))
    (broadcastInDim S16384x4x128 ![0, 1, 2] bcast_S1x1x128_S16384x4x128_0_1_2 (broadcastInDim S1x1x128 ![2] bcast_S128_S1x1x128_2 g))
/-- and the scaled queries. -/
def scaled (P : FVec F S16384x4x128 .f32) : FVec F S16384x4x128 .f32 :=
  mulf P (broadcastInDim S16384x4x128 ![] bcast_S_S16384x4x128 (constant S_ .f32 0x3DB504F3#32))

/-! ### At a place -/

section
variable (X : S16384x1024.Idx → EReal) (g a b : S1024.Idx → EReal) (W : S1024x8208.Idx → EReal)

theorem rowRms_at (s : Fin 16384) (z : Fin 1) :
    rowRms (F := Ideal) X (ix2 s z) = invRms 1024 (Ideal.ofBits .f32 0x44800000#32) (cell X s) := by
  unfold rowRms invRms
  simp only [pointwise]
  rw [zero_add, Finset.sum_range fun k => cell X s k * cell X s k]
  refine congrArg (fun u => Ideal.rsqrt (Ideal.div u _ + _)) (Finset.sum_congr rfl fun k _ => ?_)
  have h : X (ix2 s k) = cell X s k := cell_of X (ix2 s k) rfl rfl
  exact congrArg₂ (· * ·) h h

theorem along_at (s : Fin 16384) (k : Fin 1024) : along (F := Ideal) g (ix2 s k) = entry g k := by
  unfold along
  simp only [pointwise]
  exact entry_of g _ rfl

theorem rows_at (s : Fin 16384) (k : Fin 1024) : rows (F := Ideal) X g a b (ix2 s k) = modulated (cell X) (entry g) (entry a) (entry b) s k := by
  unfold rows modulated
  simp only [pointwise]
  rw [along_at, along_at, along_at]
  have hX : X (ix2 s k) = cell X s k := cell_of X (ix2 s k) rfl rfl
  have ha : entry (addf (F := Ideal) (φ := .f32) (broadcastInDim S1024 ![] bcast_S_S1024 (constant S_ .f32 0x3F800000#32)) a) k
      = 1 + entry a k := by
    have h1 : a (ix1 k) = entry a k := entry_of a (ix1 k) rfl
    rw [← h1]
    refine (entry_of _ (ix1 k) rfl).symm.trans ?_
    simp only [pointwise]
  rw [ha]
  exact congrArg (· * entry g k * (1 + entry a k) + entry b k) (congrArg₂ (· * ·) hX (rowRms_at X s 0))

theorem proj_at (s : Fin 16384) (e : Fin 8208) : proj (F := Ideal) X g a b W (ix2 s e)
    = product (modulated (cell X) (entry g) (entry a) (entry b)) (cell W) s e := by
  unfold proj product
  simp only [pointwise]
  rw [zero_add, Finset.sum_range fun k => modulated (cell X) (entry g) (entry a) (entry b) s k * cell W k e]
  refine Finset.sum_congr rfl fun k _ => ?_
  rw [rows_at]
  exact congrArg _ (cell_of W (ix2 k e) rfl rfl)

end

section
variable (P : S16384x8208.Idx → EReal) (Q : S16384x4x128.Idx → EReal) (g : S128.Idx → EReal)

theorem queries_at (s : Fin 16384) (h : Fin 4) (d : Fin 128) : queries (F := Ideal) P (ix3 s h d) = cell P s (1544 + (128 * h + d)) := by
  unfold queries
  simp only [pointwise]
  exact cell_of P _ (by simp) (by simp [Nat.mul_comm])
theorem keys_at (s : Fin 16384) (h : Fin 4) (d : Fin 128) : keys (F := Ideal) P (ix3 s h d) = cell P s (2056 + (128 * h + d)) := by
  unfold keys
  simp only [pointwise]
  exact cell_of P _ (by simp) (by simp; omega)
theorem values_at (s : Fin 16384) (h : Fin 4) (d : Fin 128) : values (F := Ideal) P (ix3 s h d) = cell P s (2568 + (128 * h + d)) := by
  unfold values
  simp only [pointwise]
  exact cell_of P _ (by simp) (by simp; omega)

theorem headRms_at (p : ℕ → ℕ → EReal) (hp : ∀ (s : Fin 16384) (h : Fin 4) (d : Fin 128), Q (ix3 s h d) = p s (128 * h + d))
    (s : Fin 16384) (h : Fin 4) (z : Fin 1) :
    headRms (F := Ideal) Q (ix3 s h z) = invRms 128 (Ideal.ofBits .f32 0x43000000#32) fun d => p s (128 * h + d) := by
  unfold headRms invRms
  simp only [pointwise]
  rw [zero_add, Finset.sum_range fun d => p s (128 * h + d) * p s (128 * h + d)]
  refine congrArg (fun u => Ideal.rsqrt (Ideal.div u _ + _)) (Finset.sum_congr rfl fun d _ => ?_)
  rw [← hp]
  rfl

theorem normed_at (p : ℕ → ℕ → EReal) (hp : ∀ (s : Fin 16384) (h : Fin 4) (d : Fin 128), Q (ix3 s h d) = p s (128 * h + d))
    (s : Fin 16384) (h : Fin 4) (d : Fin 128) :
    normed (F := Ideal) Q g (ix3 s h d) = head p s (128 * h + d) * entry g d := by
  unfold normed head
  simp only [pointwise]
  rw [hp, show (128 * h.val + d.val) / 128 = h.val by omega]
  have hg : g (ix1 d) = entry g d := entry_of g (ix1 d) rfl
  exact congrArg₂ (· * ·) (congrArg (p s (128 * h + d) * ·) (headRms_at Q p hp s h 0)) hg

theorem scaled_at (s : Fin 16384) (h : Fin 4) (d : Fin 128) : scaled (F := Ideal) Q (ix3 s h d) = Q (ix3 s h d) * Ideal.ofBits .f32 0x3DB504F3#32 := by
  unfold scaled
  simp only [pointwise]

end

end Cert.ReferenceIdeal.Layer

end
-- ==== Proof.Reference.Value.lean ====
/-
  The reference's attention read at a place: it is the attention of its queries, keys and values.
-/
module

public import proofs.«01_k».proof.Proof.Gen.ReferenceIdeal.Run
public import proofs.«01_k».proof.Proof.Reference.Layer
public import proofs.«01_k».proof.Proof.Math.Stick
public import proofs.«01_k».proof.Proof.Math.Normed
public import proofs.«01_k».proof.Proof.Math.Cell
public import Idealize.ShloMosaic.Lib.Pointwise

@[expose] public section

set_option maxRecDepth 16384

noncomputable section

namespace Cert.ReferenceIdeal.Stick

open Cert.ReferenceIdeal Cert.ReferenceIdeal.Gen
open Idealize.ShloMosaic Idealize.ShloMosaic.TcCoe
open Cert.Math (attention cell cell_of score softplus leave coe_sum coe_max slt_ofNat sgt_ofNat entry colsOf modulated product queriesOf keysOf
  valuesOf queriesOf_real keysOf_real)
open scoped BigOperators

variable {F : FTy → Type} [FloatOps F]

/-! ### The operations -/

/-- The scores of the heads' queries against their keys, -/
def scores (Q K : FVec F S16384x4x128 .f32) : FVec F S4x16384x16384 .f32 :=
  Host.dotGeneral dot_S16384x4x128_S16384x4x128_S4x16384x16384_2_2_0_0_1_1 none Q K
def zeros : FVec F S4x16384x16384 .f32 := broadcastInDim S4x16384x16384 ![] bcast_S_S4x16384x16384 (constant S_ .f32 0x00000000#32)
/-- the log of the logistic of a score, -/
def logBeta (z : FVec F S4x16384x16384 .f32) : FVec F S4x16384x16384 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))
def rows : IVec S16384x16384 32 :=
  broadcastInDim S16384x16384 ![0, 1] bcast_S16384x1_S16384x16384_0_1 (broadcastInDim S16384x1 ![0] bcast_S16384_S16384x1_0 (iotaInDim S16384 32 0))
def cols : IVec S16384x16384 32 :=
  broadcastInDim S16384x16384 ![0, 1] bcast_S1x16384_S16384x16384_0_1 (broadcastInDim S1x16384 ![1] bcast_S16384_S1x16384_1 (iotaInDim S16384 32 0))
/-- whether the key comes before the query, -/
def before : IVec S4x16384x16384 1 := broadcastInDim S4x16384x16384 ![1, 2] bcast_S16384x16384_S4x16384x16384_1_2 (cmpi .slt cols rows)
/-- the log of what a key leaves, -/
def logKeep (z : FVec F S4x16384x16384 .f32) : FVec F S4x16384x16384 .f32 := select before (subf (logBeta z) z) zeros
/-- the sums of these over the later keys, -/
def after (z : FVec F S4x16384x16384 .f32) : FVec F S4x16384x16384 .f32 :=
  Host.dotGeneral dot_S4x16384x16384_S16384x16384_S4x16384x16384_2_0_01_1_n_n none (logKeep z) (uitofp .f32 (cmpi .sgt rows cols))
/-- the weights, -/
def weights (z : FVec F S4x16384x16384 .f32) : FVec F S4x16384x16384 .f32 := select before (Host.exp (addf (logBeta z) (after z))) zeros
/-- and the values summed by them. -/
def out (Q K V : FVec F S16384x4x128 .f32) : FVec F S16384x512 .f32 :=
  shapeCast _ (transpose S16384x4x128 [2, 0, 1] (Host.dotGeneral dot_S16384x4x128_S4x16384x16384_S4x128x16384_0_2_2_1_1_0 none V (weights (scores Q K)))
    transposes_S4x128x16384_S16384x4x128_2_0_1) shapeCasts_S16384x4x128_S16384x512

/-! ### At a place -/

theorem zeros_at (x : S4x16384x16384.Idx) : zeros (F := Ideal) x = 0 := by
  unfold zeros
  simp only [pointwise]

theorem logBeta_at {z : FVec Ideal S4x16384x16384 .f32} {x : S4x16384x16384.Idx} {a : ℝ} (h : z x = (a : EReal)) :
    logBeta z x = ((a - softplus a : ℝ) : EReal) := by
  unfold logBeta
  simp only [pointwise]
  rw [zeros_at, h]
  have h1 : max (-(a : EReal)) (-(-(a : EReal))) = ((|a| : ℝ) : EReal) := by
    rw [neg_neg, ← EReal.coe_neg, ← coe_max, max_comm]; rfl
  have h3 : (0 : ℝ) < 1 + Real.exp (-|a|) := by positivity
  rw [if_neg (not_not.mpr rfl), sub_zero]
  show -(max (-(a : EReal)) 0 + Ideal.log (1 + Ideal.exp (-max (-(a : EReal)) (-(-(a : EReal)))))) = _
  rw [h1, ← EReal.coe_neg, ← EReal.coe_neg, Ideal.exp_coe, ← EReal.coe_one, ← EReal.coe_add, Ideal.log_coe, if_neg (not_le.mpr h3),
    ← EReal.coe_zero, ← coe_max, ← EReal.coe_add, ← EReal.coe_neg, softplus]
  refine congrArg (fun x : ℝ => (x : EReal)) ?_
  have h2 : max (-a) 0 = max a 0 - a := by
    rw [max_sub_sub_right a 0 a |>.symm, sub_self, zero_sub, max_comm]
  rw [h2]
  ring

theorem before_at (h : Fin 4) (s t : Fin 16384) : before (ix3 h s t) = if t.val < s.val then 1#1 else 0#1 := by
  unfold before rows cols
  simp only [pointwise]
  exact slt_ofNat (by omega) (by omega)

theorem later_at (s t : Fin 16384) : FloatOps.uitofp (F := Ideal) .f32 (IntOp.cmpi .sgt (rows (ix2 s t)) (cols (ix2 s t))) = if t.val < s.val then 1 else 0 := by
  have e : IntOp.cmpi .sgt (rows (ix2 s t)) (cols (ix2 s t)) = if t.val < s.val then 1#1 else 0#1 := by
    unfold rows cols
    simp only [pointwise]
    exact sgt_ofNat (a := s.val) (b := t.val) (by omega) (by omega)
  rw [e]
  by_cases h : t.val < s.val
  · rw [if_pos h, if_pos h]
    show (((1 : ℕ) : ℝ) : EReal) = 1
    simp
  · rw [if_neg h, if_neg h]
    show (((0 : ℕ) : ℝ) : EReal) = 0
    simp

section
variable {Q K V : FVec Ideal S16384x4x128 .f32} {q k : ℕ → ℕ → ℝ} {v : ℕ → ℕ → EReal}
    (hQ : ∀ (s : Fin 16384) (h : Fin 4) (d : Fin 128), Q (ix3 s h d) = (q s (128 * h + d) : EReal))
    (hK : ∀ (s : Fin 16384) (h : Fin 4) (d : Fin 128), K (ix3 s h d) = (k s (128 * h + d) : EReal))
    (hV : ∀ (s : Fin 16384) (h : Fin 4) (d : Fin 128), V (ix3 s h d) = v s (128 * h + d))

include hQ hK

theorem scores_at (h : Fin 4) (s t : Fin 16384) : scores Q K (ix3 h s t) = (score q k h s t : EReal) := by
  unfold scores
  simp only [pointwise]
  rw [zero_add, score, Finset.sum_range fun d => q s (128 * h + d) * k t (128 * h + d), coe_sum]
  exact Finset.sum_congr rfl fun d _ => by rw [hQ, hK, EReal.coe_mul]

theorem logKeep_at (h : Fin 4) (s t : Fin 16384) : logKeep (scores Q K) (ix3 h s t) = (leave q k h s t : EReal) := by
  show Scalar.select (before (ix3 h s t)) (logBeta (scores Q K) (ix3 h s t) - scores Q K (ix3 h s t)) (zeros (F := Ideal) (ix3 h s t)) = _
  rw [before_at, logBeta_at (scores_at hQ hK h s t), scores_at hQ hK, zeros_at, leave]
  by_cases ht : t.val < s.val
  · rw [if_pos ht, if_pos ht, ← EReal.coe_sub]
    exact congrArg (fun x : ℝ => (x : EReal)) (by ring)
  · rw [if_neg ht, if_neg ht]
    rfl

theorem after_at (h : Fin 4) (s t : Fin 16384) : after (scores Q K) (ix3 h s t) = (Cert.Math.after q k h s t : EReal) := by
  unfold after
  simp only [pointwise]
  rw [zero_add, Cert.Math.after, Finset.sum_range fun t' => if t.val < t' then leave q k h s t' else 0, coe_sum]
  refine Finset.sum_congr rfl fun t' _ => ?_
  rw [logKeep_at hQ hK]
  rw [later_at t' t]
  by_cases ht : t.val < t'.val
  · rw [if_pos ht, if_pos ht, mul_one]
  · rw [if_neg ht, if_neg ht, mul_zero, EReal.coe_zero]

theorem weights_at (h : Fin 4) (s t : Fin 16384) : weights (scores Q K) (ix3 h s t) = (Cert.Math.weight q k h s t : EReal) := by
  show Scalar.select (before (ix3 h s t)) (Ideal.exp (logBeta (scores Q K) (ix3 h s t) + after (scores Q K) (ix3 h s t))) (zeros (F := Ideal) (ix3 h s t)) = _
  rw [before_at, logBeta_at (scores_at hQ hK h s t), after_at hQ hK, zeros_at, Cert.Math.weight]
  by_cases ht : t.val < s.val
  · rw [if_pos ht, if_pos ht, ← EReal.coe_add, Ideal.exp_coe]
    rfl
  · rw [if_neg ht, if_neg ht]
    rfl

include hV in
theorem out_at (s : Fin 16384) (e : Fin 512) : out Q K V (ix2 s e) = attention q k v (e.val / 128) s (e.val % 128) := by
  unfold out
  simp only [pointwise]
  rw [zero_add]
  rw [attention, Finset.sum_range fun t => (Cert.Math.weight q k (e.val / 128) s t : EReal) * v t (128 * (e.val / 128) + e.val % 128)]
  refine Finset.sum_congr rfl fun t _ => ?_
  rw [hV, weights_at hQ hK, mul_comm]

end

/-! ### The result -/

open Cert.ReferenceIdeal.Layer (rows proj queries keys values normed scaled)

variable (V : Valuation τ sig (Elt F))

/-- The projection of the arguments. -/
def projOf : FVec F S16384x8208 .f32 :=
  proj (shapeCast _ (V (Proc.devRef .tc main_arg0)) shapeCasts_S1x16384x1024_S16384x1024) (V (Proc.devRef .tc main_arg1))
    (V (Proc.devRef .tc main_arg2)) (V (Proc.devRef .tc main_arg3)) (V (Proc.devRef .tc main_arg4))
/-- The attention of its normalised queries and keys and its values. -/
def attended : FVec F S16384x512 .f32 :=
  out (scaled (normed (queries (projOf V)) (V (Proc.devRef .tc main_arg5)))) (normed (keys (projOf V)) (V (Proc.devRef .tc main_arg6)))
    (values (projOf V))

theorem proj_eq : Value.res_main_v22 V = projOf V := rfl

theorem scores_eq : Value.res_main_v66 V = scores (scaled (normed (queries (projOf V)) (V (Proc.devRef .tc main_arg5))))
    (normed (keys (projOf V)) (V (Proc.devRef .tc main_arg6))) := rfl

/-! ### In terms of the arguments' entries -/

section
variable {P : S16384x8208.Idx → EReal} {a b : S128.Idx → EReal} {p : ℕ → ℕ → EReal}
    (hP : ∀ s e, s < 16384 → e < 8208 → cell P s e = p s e)
include hP

theorem queries_at (s : Fin 16384) (h : Fin 4) (d : Fin 128) :
    scaled (F := Ideal) (normed (queries P) a) (ix3 s h d) = queriesOf p (entry a) s (128 * h + d) := by
  have h1 := fun (s : Fin 16384) (h : Fin 4) (d : Fin 128) => (Layer.queries_at P s h d).trans (hP _ _ s.isLt (by omega))
  have h2 := Layer.normed_at (queries (F := Ideal) P) a (fun s e => p s (1544 + e)) h1 s h d
  have h3 := Layer.scaled_at (normed (F := Ideal) (queries P) a) s h d
  have h4 : (128 * h.val + d.val) % 128 = d.val := by omega
  rw [h3, h2, queriesOf, h4]

theorem keys_at (s : Fin 16384) (h : Fin 4) (d : Fin 128) :
    normed (F := Ideal) (keys P) a (ix3 s h d) = keysOf p (entry a) s (128 * h + d) := by
  have h1 := fun (s : Fin 16384) (h : Fin 4) (d : Fin 128) => (Layer.keys_at P s h d).trans (hP _ _ s.isLt (by omega))
  have h2 := Layer.normed_at (keys (F := Ideal) P) a (fun s e => p s (2056 + e)) h1 s h d
  have h4 : (128 * h.val + d.val) % 128 = d.val := by omega
  rw [h2, keysOf, h4]

theorem values_at (s : Fin 16384) (h : Fin 4) (d : Fin 128) : values (F := Ideal) P (ix3 s h d) = valuesOf p s (128 * h + d) :=
  (Layer.values_at P s h d).trans (hP _ _ s.isLt (by omega))

theorem attended_at (ha : ∀ d, d < 128 → entry a d = ((entry a d).toReal : EReal)) (hb : ∀ d, d < 128 → entry b d = ((entry b d).toReal : EReal))
    (s : Fin 16384) (e : Fin 512) :
    out (F := Ideal) (scaled (normed (queries P) a)) (normed (keys P) b) (values P) (ix2 s e)
    = attention (fun s e => (queriesOf p (entry a) s e).toReal) (fun s e => (keysOf p (entry b) s e).toReal) (valuesOf p)
        (e.val / 128) s (e.val % 128) :=
  out_at (Q := scaled (F := Ideal) (normed (queries P) a)) (K := normed (F := Ideal) (keys P) b) (V := values (F := Ideal) P)
    (q := fun s e => (queriesOf p (entry a) s e).toReal) (k := fun s e => (keysOf p (entry b) s e).toReal) (v := valuesOf p)
    (fun s h d => (queries_at hP s h d).trans (queriesOf_real ha s _)) (fun s h d => (keys_at hP s h d).trans (keysOf_real hb s _))
    (values_at hP) s e

end

section
variable (V : Valuation τ sig (Elt Ideal))

/-- The projection's entries. -/
def projAt : ℕ → ℕ → EReal :=
  product (modulated (cell (shapeCast S16384x1024 (V (Proc.devRef .tc main_arg0) : S1x16384x1024.Idx → EReal) shapeCasts_S1x16384x1024_S16384x1024))
    (entry (V (Proc.devRef .tc main_arg1) : S1024.Idx → EReal)) (entry (V (Proc.devRef .tc main_arg2) : S1024.Idx → EReal))
    (entry (V (Proc.devRef .tc main_arg3) : S1024.Idx → EReal))) (cell (V (Proc.devRef .tc main_arg4) : S1024x8208.Idx → EReal))

theorem cell_proj (s e : ℕ) (hs : s < 16384) (he : e < 8208) : cell (projOf (F := Ideal) V) s e = projAt V s e :=
  (cell_of (projOf (F := Ideal) V) (ix2 ⟨s, hs⟩ ⟨e, he⟩) rfl rfl).symm.trans (Layer.proj_at _ _ _ _ _ ⟨s, hs⟩ ⟨e, he⟩)

/-- Columns of the projection. -/
theorem cols_eq {n lo : ℕ} (h : S16384x8208.Slices ![0, lo] ⟨2, ![16384, n]⟩) (hn : lo + n ≤ 8208) :
    extractStridedSlice ⟨2, ![16384, n]⟩ ![0, lo] (projOf (F := Ideal) V) h = colsOf (projAt V) lo := by
  funext y
  have h0 : (y 0).val < 16384 := (y 0).isLt
  have h1 : (y 1).val < n := (y 1).isLt
  have h2 : lo + (y 1).val < 8208 := by omega
  exact (cell_of (projOf (F := Ideal) V) _ (s := (y 0).val) (e := lo + (y 1).val) (Nat.zero_add (y 0).val) rfl).trans (cell_proj V _ _ h0 h2)

end

end Cert.ReferenceIdeal.Stick

end
-- ==== Proof.Algebraic.lean ====
/-
  Where the gains of the queries and keys are finite the kernel and the reference compute one projection and one attention.
-/
module

public import proofs.«01_k».proof.Defs
public import proofs.«01_k».proof.Proof.Frames
public import proofs.«01_k».proof.Proof.Ideal.Joined
public import proofs.«01_k».proof.Proof.Reference.Value
public import Idealize.ShloMosaic.Lib.ReduceAll

@[expose] public section

set_option maxRecDepth 16384

noncomputable section

namespace Cert.Proof

open Idealize.ShloMosaic Idealize.SL.Sem
open Idealize.ShloMosaic.StableHlo (launchContents)
open Cert.Math (attention cell entry entry_of colsOf queriesOf keysOf valuesOf product modulated)
open Cert.KernelIdeal.Stick (want)
open Cert.KernelIdeal.Whole (pAt qIn kIn wide_cols low_cols high_cols place)

/-- The precondition's side conditions. -/
theorem preFacts : Cert.Pre_finite_gains.Facts where
  bcast_S_S128 := by decide
  reducesTo_S128_S_d0 := by decide
  h_S_ := by decide

/-- An extended real whose absolute value is below infinity is a real. -/
theorem coe_of_abs_lt (x : EReal) (h : max x (-x) < ⊤) : x = (x.toReal : EReal) :=
  (EReal.coe_toReal (fun e => by rw [e] at h; exact absurd h (by simp)) (fun e => by rw [e] at h; exact absurd h (by simp))).symm

section
attribute [local instance] preFacts

/-- A vector whose every absolute value is below infinity is real. -/
theorem finite_of_all (A : Cert.Pre_finite_gains.S128.Idx → EReal)
    (h : Host.reduce IntOp.andi (cmpf .olt (Host.absf (F := Ideal) (φ := .f32) A) (broadcastInDim Cert.Pre_finite_gains.S128 ![]
      Cert.Pre_finite_gains.Facts.bcast_S_S128 (constant Cert.Pre_finite_gains.S_ .f32 0x7F800000#32))) (constantI Cert.Pre_finite_gains.S_ 1 1#1)
      Cert.Pre_finite_gains.Facts.reducesTo_S128_S_d0 Cert.Pre_finite_gains.Facts.h_S_ ix0 = 1#1) {d : ℕ} (hd : d < 128) :
    entry A d = ((entry A d).toReal : EReal) := by
  haveI : Subsingleton Cert.Pre_finite_gains.S_.Idx := ⟨fun a b => funext fun x => x.elim0⟩
  have h1 := Host.reduce_andi_all _ _ _ _ ix0 h (ix1 ⟨d, hd⟩)
  refine coe_of_abs_lt _ ?_
  simp only [pointwise] at h1
  have h2 : FloatOps.absf (F := Ideal) (φ := .f32) (A (ix1 ⟨d, hd⟩)) < Ideal.ofBits FTy.f32 2139095040#32 := by
    have h3 : ∀ b : Bool, BitVec.ofBool b = 1#1 → b = true := by decide
    exact of_decide_eq_true (h3 _ h1)
  rw [entry_of A (ix1 ⟨d, hd⟩) rfl] at h2
  exact lt_of_lt_of_le h2 le_top

/-- What the precondition says: both gains are real. -/
theorem finite_of_pre (a0 : Cert.Pre_finite_gains.S1x16384x1024.Idx → EReal) (a1 a2 a3 : Cert.Pre_finite_gains.S1024.Idx → EReal)
    (a4 : Cert.Pre_finite_gains.S1024x8208.Idx → EReal) (q k : Cert.Pre_finite_gains.S128.Idx → EReal)
    (h : Cert.Pre_finite_gains.fn (F := Ideal) a0 a1 a2 a3 a4 q k = fun _ => 1#1) :
    (∀ d, d < 128 → entry q d = ((entry q d).toReal : EReal)) ∧ (∀ d, d < 128 → entry k d = ((entry k d).toReal : EReal)) := by
  have both : ∀ a b : BitVec 1, a &&& b = 1#1 → a = 1#1 ∧ b = 1#1 := by decide
  obtain ⟨hq, hk⟩ := both _ _ (congrFun h ix0)
  exact ⟨fun d hd => finite_of_all q hq hd, fun d hd => finite_of_all k hk hd⟩

end

theorem algebraic : Cert.algebraic_KernelIdeal_ReferenceIdeal_pre_finite_gains (hKernelIdeal := Cert.KernelIdeal.Gen.facts)
    (hReferenceIdeal := Cert.ReferenceIdeal.Gen.facts) (hPre_finite_gains := preFacts) := by
  intro m g m' g' hpre hagree
  have fin := fun c => finite_of_pre _ _ _ _ _ (qIn m c) (kIn m c) (hpre c)
  have hp : ∀ c, Cert.ReferenceIdeal.Stick.projAt (launchContents m' c) = pAt m c := fun c => by
    obtain ⟨e0, e1, e2, e3, e4, -, -⟩ := hagree c
    unfold Cert.ReferenceIdeal.Stick.projAt
    rw [show launchContents m' c (Proc.devRef .tc Cert.ReferenceIdeal.main_arg0) = _ from e0,
      show launchContents m' c (Proc.devRef .tc Cert.ReferenceIdeal.main_arg1) = _ from e1,
      show launchContents m' c (Proc.devRef .tc Cert.ReferenceIdeal.main_arg2) = _ from e2,
      show launchContents m' c (Proc.devRef .tc Cert.ReferenceIdeal.main_arg3) = _ from e3,
      show launchContents m' c (Proc.devRef .tc Cert.ReferenceIdeal.main_arg4) = _ from e4]
    rfl
  refine ⟨fun c => colsOf (pAt m c) 0, fun c => colsOf (pAt m c) 512, fun c => colsOf (pAt m c) 1536, fun c => colsOf (pAt m c) 3080,
    fun c => colsOf (pAt m c) 4616, fun c => colsOf (pAt m c) 4620, fun c => colsOf (pAt m c) 4624, fun c => colsOf (pAt m c) 5136,
    fun c => want (fun s e => (queriesOf (pAt m c) (entry (qIn m c)) s e).toReal) (fun s e => (keysOf (pAt m c) (entry (kIn m c)) s e).toReal)
      (valuesOf (pAt m c)), ?_, ?_⟩
  · refine (θ_run Cert.KernelIdeal.defs _ _).mono (fun _ h c => ?_) (Cert.KernelIdeal.Whole.run (F := Ideal) m g)
    obtain ⟨⟨r0, r1, r2, r3, r4, r5, r6, r7, r8⟩, args⟩ := h.1 c
    obtain ⟨t0, t1, t2, t3, t4, t5, t6, t7, -⟩ := Cert.KernelIdeal.Whole.shaped m c
    refine ⟨r0.trans (t0.trans (wide_cols m c _ ?_ ?_)), r1.trans (t1.trans (wide_cols m c _ ?_ ?_)), r2.trans (t2.trans (low_cols m c)),
      r3.trans (t3.trans (wide_cols m c _ ?_ ?_)), r4.trans (t4.trans (high_cols m c (lo := 0) (by decide) _)),
      r5.trans (t5.trans (high_cols m c (lo := 4) (by decide) _)), r6.trans (t6.trans (wide_cols m c _ ?_ ?_)),
      r7.trans (t7.trans (wide_cols m c _ ?_ ?_)), r8.trans (Cert.KernelIdeal.Whole.attended m c (fin c).1 (fin c).2), args⟩
    all_goals
      intro e he
      first
        | omega
        | (unfold place; split_ifs <;> omega)
  · refine (θ_run Cert.ReferenceIdeal.defs _ _).mono (fun _ h c => ?_) (Cert.ReferenceIdeal.Value.run (F := Ideal) m' g')
    obtain ⟨r0, r1, r2, r3, r4, r5, r6, r7, r8, args⟩ := h c
    have cols := fun {n lo : ℕ} (hs : Cert.ReferenceIdeal.S16384x8208.Slices ![0, lo] ⟨2, ![16384, n]⟩) (hn : lo + n ≤ 8208) =>
      (Cert.ReferenceIdeal.Stick.cols_eq (launchContents m' c) hs hn).trans (by rw [hp c])
    refine ⟨r0.trans (cols _ (by decide)), r1.trans (cols _ (by decide)), r2.trans (cols _ (by decide)), r3.trans (cols _ (by decide)),
      r4.trans (cols _ (by decide)), r5.trans (cols _ (by decide)), r6.trans (cols _ (by decide)), r7.trans (cols _ (by decide)),
      r8.trans ?_, args⟩
    obtain ⟨-, -, -, -, -, e5, e6⟩ := hagree c
    show Cert.ReferenceIdeal.Stick.attended (launchContents m' c) = _
    unfold Cert.ReferenceIdeal.Stick.attended
    rw [show launchContents m' c (Proc.devRef .tc Cert.ReferenceIdeal.main_arg5) = _ from e5,
      show launchContents m' c (Proc.devRef .tc Cert.ReferenceIdeal.main_arg6) = _ from e6]
    funext y
    obtain ⟨s, e, rfl⟩ : ∃ (s : Fin 16384) (e : Fin 512), y = ix2 s e := ⟨y 0, y 1, funext fun a => by match a with | 0 => rfl | 1 => rfl⟩
    exact Cert.ReferenceIdeal.Stick.attended_at
      (fun s e hs he => (Cert.ReferenceIdeal.Stick.cell_proj (launchContents m' c) s e hs he).trans (by rw [hp c])) (fin c).1 (fin c).2 s e

end Cert.Proof

end
-- ==== Proof.Merge.Run.lean ====
/-
  The body of the merge, run once at symbolic operands: at the first point, where the counters are cleared, and at a later
  one.
-/
module

public import proofs.«01_k».proof.Proof.Gen.MergeIdeal.Skeleton
public import proofs.«01_k».proof.Proof.Gen.MergeIdeal.Points
public import proofs.«01_k».proof.Proof.Gen.MergeIdeal.Launch
public import Idealize.ShloMosaic.Lib.Pipeline.FrameBody
public import Idealize.ShloMosaic.Lib.Writes
public import Idealize.ShloMosaic.Lib.Tactic

@[expose] public section

set_option maxRecDepth 16384

noncomputable section

namespace Cert.MergeIdeal.Rows

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR (nD : Nat) (τ : Topo) : Type := URounds (GSem nD τ sig) Unit

local notation "𝕄" => MT nD τ sig Unit (Elt F) ℕ (UR nD τ) ℕ

/-- The contents of a memref's buffer, -/
abbrev Bf (c : Dev nD) {sp : Space} {S : Shape} {e : EltTy} (M : Memref sig .tc sp S e) : Type :=
  Buf (Elt F) (M.view.loc (c : Thread nD τ))
/-- and the buffer held whole. -/
abbrev pt (c : Dev nD) {sp : Space} {S : Shape} {e : EltTy} (M : Memref sig .tc sp S e) (f : Bf (F := F) c M) : sProp 𝕄 :=
  M.view.loc (c : Thread nD τ) ↦{fullShare} f

section
variable (c : Dev nD) (i : grid0.Coords)
    (M1 : Memref sig .tc .vmem S512x512 .f32) (h1 : M1.IsWhole) (M2 : Memref sig .tc .vmem S512x512 .f32) (h2 : M2.IsWhole)
    (M3 : Memref sig .tc .vmem S512x512 .f32) (h3 : M3.IsWhole) (M4 : Memref sig .tc .vmem S512x3072 .bf16) (h4 : M4.IsWhole)
    (M5 : Memref sig .tc .vmem S512x1024 .f32) (h5 : M5.IsWhole) (M6 : Memref sig .tc .vmem S3x512x1024 .bf16) (h6 : M6.IsWhole)
    (M7 : Memref sig .tc .vmem S1024x1024 .bf16) (h7 : M7.IsWhole) (M8 : Memref sig .tc .vmem S1x1024 .f32) (h8 : M8.IsWhole)
    (M9 : Memref sig .tc .vmem S1x1024 .f32) (h9 : M9.IsWhole) (M10 : Memref sig .tc .vmem S1x1024 .f32) (h10 : M10.IsWhole)
    (M11 : Memref sig .tc .vmem S1x1024 .f32) (h11 : M11.IsWhole) (M12 : Memref sig .tc .vmem S1024x128 .f32) (h12 : M12.IsWhole)
    (M13 : Memref sig .tc .vmem S1x128 .f32) (h13 : M13.IsWhole) (M14 : Memref sig .tc .vmem S512x1024 .f32) (h14 : M14.IsWhole)
    (M15 : Memref sig .tc .vmem S4096x128 .f32) (h15 : M15.IsWhole) (M16 : Memref sig .tc .vmem S512x128 .i32) (h16 : M16.IsWhole)
    (M17 : Memref sig .tc .vmem S512x128 .f32) (h17 : M17.IsWhole) (M18 : Memref sig .tc .vmem S8x128 .f32) (h18 : M18.IsWhole)
    (M19 : Memref sig .tc .vmem S1x128 .f32) (h19 : M19.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11) (f12 : Bf (F := F) c M12)
    (f13 : Bf (F := F) c M13) (f14 : Bf (F := F) c M14) (f15 : Bf (F := F) c M15) (f16 : Bf (F := F) c M16) (f17 : Bf (F := F) c M17) (f18 : Bf (F := F) c M18)
    (f19 : Bf (F := F) c M19)

/-- Whether a point is the first. -/
abbrev atFirst (i : grid0.Coords) : Prop := Scalar.cmpi .ne (Scalar.extui (Scalar.cmpi .eq (BitVec.ofNat 32 (i 0).val) 0#32) : BitVec 32) 0#32 = 1#1

/-- The first point. -/
def firstRun (c1 : atFirst i) :
    { W : Bf (F := F) c M14 × Bf (F := F) c M15 × Bf (F := F) c M16 × Bf (F := F) c M17 × Bf (F := F) c M18 × Bf (F := F) c M19 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2.1 ∗ pt c M19 W.2.2.2.2.2) -∗ Q ⟨⟩))
        ⊢ wp frame (wpE (defs₀ (F := F)) Variants.nat c none) E
            (cc0_merge i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_⟩, fun E Q => ?run⟩
  case run =>
    simp only [cc0_merge_eq_skeleton]; unfold cc0_merge_skel
    iintro ⟨H1, H2, H3, H4, H5, H6, H7, H8, H9, H10, H11, H12, H13, H14, H15, H16, H17, H18, H19, Hk⟩
    sl_exec_parts
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- A later point. -/
def laterRun (c1 : ¬ atFirst i) :
    { W : Bf (F := F) c M14 × Bf (F := F) c M15 × Bf (F := F) c M16 × Bf (F := F) c M17 × Bf (F := F) c M18 × Bf (F := F) c M19 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
              ∗ pt c M14 W.1 ∗ pt c M15 W.2.1 ∗ pt c M16 W.2.2.1 ∗ pt c M17 W.2.2.2.1 ∗ pt c M18 W.2.2.2.2.1 ∗ pt c M19 W.2.2.2.2.2) -∗ Q ⟨⟩))
        ⊢ wp frame (wpE (defs₀ (F := F)) Variants.nat c none) E
            (cc0_merge i M1 h1 M2 h2 M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_⟩, fun E Q => ?run⟩
  case run =>
    simp only [cc0_merge_eq_skeleton]; unfold cc0_merge_skel
    iintro ⟨H1, H2, H3, H4, H5, H6, H7, H8, H9, H10, H11, H12, H13, H14, H15, H16, H17, H18, H19, Hk⟩
    sl_exec_parts
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end

end Cert.MergeIdeal.Rows

end
-- ==== Proof.Merge.Tile.lean ====
/-
  What the merge's body leaves in its outputs, as functions of the blocks it finds and of the counts so far.
-/
module

public import proofs.«01_k».proof.Proof.Merge.Run
public import Idealize.ShloMosaic.Lib.Pipeline.ValueKit.Basic
public import Idealize.ShloMosaic.Lib.Pipeline.FrameBody
public import Idealize.ShloMosaic.Lib.Writes
public import Idealize.ShloMosaic.Lib.Tactic

@[expose] public section

set_option maxRecDepth 16384

noncomputable section

namespace Cert.MergeIdeal.Rows

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The blocks of the inputs at a point. -/
structure Blocks (F : FTy → Type) [FloatOps F] where
  ya : Vec F S512x512 .f32
  yb : Vec F S512x512 .f32
  yc : Vec F S512x512 .f32
  br : Vec F S512x3072 .bf16
  x : Vec F S512x1024 .f32
  wb : Vec F S3x512x1024 .bf16
  wo : Vec F S1024x1024 .bf16
  gate : Vec F S1x1024 .f32
  gain : Vec F S1x1024 .f32
  scale : Vec F S1x1024 .f32
  shift : Vec F S1x1024 .f32
  wr : Vec F S1024x128 .f32
  bias : Vec F S1x128 .f32

/-- A branch's gates, -/
abbrev gates0 (B : Vec F S512x3072 .bf16) : Vec F S512x1024 .bf16 := View.ld B (Rect.unit (s := S512x3072) ![0, 0] S512x1024.size inb_S512x3072_S512x1024_0_0)
abbrev gates1 (B : Vec F S512x3072 .bf16) : Vec F S512x1024 .bf16 := View.ld B (Rect.unit (s := S512x3072) ![0, 1024] S512x1024.size inb_S512x3072_S512x1024_0_1024)
abbrev gates2 (B : Vec F S512x3072 .bf16) : Vec F S512x1024 .bf16 := View.ld B (Rect.unit (s := S512x3072) ![0, 2048] S512x1024.size inb_S512x3072_S512x1024_0_2048)
/-- and its weights. -/
abbrev part0 (W : Vec F S3x512x1024 .bf16) : Vec F S1x512x1024 .bf16 := View.ld W (Rect.unit (s := S3x512x1024) ![0, 0, 0] S1x512x1024.size inb_S3x512x1024_S1x512x1024_0_0_0)
abbrev part1 (W : Vec F S3x512x1024 .bf16) : Vec F S1x512x1024 .bf16 := View.ld W (Rect.unit (s := S3x512x1024) ![1, 0, 0] S1x512x1024.size inb_S3x512x1024_S1x512x1024_1_0_0)
abbrev part2 (W : Vec F S3x512x1024 .bf16) : Vec F S1x512x1024 .bf16 := View.ld W (Rect.unit (s := S3x512x1024) ![2, 0, 0] S1x512x1024.size inb_S3x512x1024_S1x512x1024_2_0_0)

/-- The rows with the merged branches added, -/
def newRows (I : Blocks F) : FVec F S512x1024 .f32 :=
  k0_pay9 (k0_pay5 (gates0 I.br) I.ya (part0 I.wb) (gates1 I.br) I.yb (part1 I.wb)) (k0_pay6 (gates2 I.br)) (k0_pay7 I.yc) (k0_pay8 (part2 I.wb))
    (constant S512x1024 .f32 0x00000000#32) I.x I.gate I.wo
/-- and these normalised. -/
def normRows (I : Blocks F) : FVec F S512x1024 .f32 :=
  k0_pay10 (k0_pay5 (gates0 I.br) I.ya (part0 I.wb) (gates1 I.br) I.yb (part1 I.wb)) (k0_pay6 (gates2 I.br)) (k0_pay7 I.yc) (k0_pay8 (part2 I.wb))
    (constant S512x1024 .f32 0x00000000#32) I.x I.gate I.wo I.gain I.scale I.shift

/-- The number of each lane, -/
abbrev lanes : IVec S512x128 32 := iota .tc S512x128 32 [1] iota_S512x128_d1_w32
/-- the router's logits, -/
abbrev logits (I : Blocks F) : FVec F S512x128 .f32 := k0_pay19 (normRows I) I.wr
abbrev inGroup (I : Blocks F) : FVec F S512x128 .f32 := k0_pay24 (logits I) I.bias
abbrev candidates (I : Blocks F) : IVec S512x128 32 := k0_pay26 (logits I) I.bias
/-- the experts chosen and their places in line, -/
def ids (I : Blocks F) (S : Vec F S1x128 .f32) : IVec S512x128 32 :=
  k0_pay41 lanes (k0_pay27 (candidates I)) (k0_pay31 lanes (inGroup I) (candidates I)) (k0_pay36 lanes (candidates I))
    (k0_pay37 lanes (inGroup I) (candidates I)) (k0_pay39 S lanes (inGroup I) (candidates I)) (k0_pay40 (F := F))
/-- their weights, -/
def weights (I : Blocks F) (_ : Vec F S1x128 .f32) : FVec F S512x128 .f32 :=
  k0_pay42 lanes (k0_pay34 lanes (k0_pay23 (logits I) I.bias) (inGroup I) (k0_pay25 (logits I) I.bias) (candidates I))
    (k0_pay35 lanes (k0_pay23 (logits I) I.bias) (inGroup I) (k0_pay25 (logits I) I.bias) (candidates I))
/-- and the experts' counts after the rows, as kept and as given out. -/
def nextSeen (I : Blocks F) (S : Vec F S1x128 .f32) : FVec F S1x128 .f32 :=
  k0_pay2 S (k0_pay43 (k0_pay38 lanes (inGroup I) (candidates I)))
def counts (I : Blocks F) (S : Vec F S1x128 .f32) : FVec F S8x128 .f32 :=
  k0_pay3 S (k0_pay43 (k0_pay38 lanes (inGroup I) (candidates I)))

/-! ### Rows laid out as tiles -/

/-- Rows of 1024 numbers, each as eight rows of 128. -/
def tiled (H : FVec F S512x1024 .f32) : Vec F S4096x128 .f32 := fun y =>
  H (fun a => match a with
    | 0 => ⟨(y 0).val / 8, by have h : (y 0).val < 4096 := (y 0).isLt; show _ < 512; omega⟩
    | 1 => ⟨128 * ((y 0).val % 8) + (y 1).val, by have h : (y 1).val < 128 := (y 1).isLt; show _ < 1024; omega⟩)

theorem stride_in (n : Fin 8) : ∀ a, S512x128.size a = 0
    ∨ (![n.val, 0] : Fin 2 → Nat) a + (![8, 1] : Fin 2 → Nat) a * (S512x128.size a - 1) < S4096x128.size a := by revert n; decide
theorem slice_in (n : Fin 8) : S512x1024.Slices ![0, 128 * n.val] S512x128 := by
  match n with
  | 0 => exact slices_S512x1024_o0_0_S512x128 | 1 => exact slices_S512x1024_o0_128_S512x128
  | 2 => exact slices_S512x1024_o0_256_S512x128 | 3 => exact slices_S512x1024_o0_384_S512x128
  | 4 => exact slices_S512x1024_o0_512_S512x128 | 5 => exact slices_S512x1024_o0_640_S512x128
  | 6 => exact slices_S512x1024_o0_768_S512x128 | 7 => exact slices_S512x1024_o0_896_S512x128

/-- Every eighth row from the `n`-th on. -/
abbrev everyEighth (n : Fin 8) : Rect S4096x128 := ⟨(⟨![n.val, 0], S512x128.size, ![8, 1], stride_in n⟩ : LoadRect S4096x128), spos_8_1⟩

/-- The eight strided stores, the last one first. -/
def rowPieces (H : FVec F S512x1024 .f32) : List (View.Piece (Elt F) S4096x128 .f32) :=
  [7, 6, 5, 4, 3, 2, 1, 0].map fun n : Fin 8 => ⟨everyEighth n, extractStridedSlice S512x128 ![0, 128 * n.val] H (slice_in n)⟩

theorem mem_all (n : Fin 8) : n ∈ ([7, 6, 5, 4, 3, 2, 1, 0] : List (Fin 8)) := by revert n; decide

theorem tiled_emb (H : FVec F S512x1024 .f32) (n : Fin 8) (x : S512x128.Idx) :
    extractStridedSlice S512x128 ![0, 128 * n.val] H (slice_in n) x = tiled H ((everyEighth n).emb x) := by
  have h1 : (x 1).val < 128 := (x 1).isLt
  have h0 : (x 0).val < 512 := (x 0).isLt
  have hn : n.val < 8 := n.isLt
  refine congrArg H (funext fun a => Fin.ext ?_)
  match a with
  | 0 => show 0 + (x 0).val = (n.val + 8 * (x 0).val) / 8; omega
  | 1 => show 128 * n.val + (x 1).val = 128 * ((n.val + 8 * (x 0).val) % 8) + (0 + 1 * (x 1).val); omega

theorem read_rowPieces (c : Dev nD) (M : Memref sig .tc .vmem S4096x128 .f32) (f : Bf (F := F) c M) (H : FVec F S512x1024 .f32) :
    M.view.read (Elt F) (M.view.writes (Elt F) f (rowPieces H)) = tiled H := by
  funext y
  refine View.read_writes_apply_of_pieces M.view _ (tiled H) (rowPieces H) ?_ y ?_
  · intro p hp x
    obtain ⟨n, -, rfl⟩ := List.mem_map.mp hp
    exact tiled_emb H n x
  · have h0 : (y 0).val < 4096 := (y 0).isLt
    have h1 : (y 1).val < 128 := (y 1).isLt
    refine ⟨_, List.mem_map.mpr ⟨⟨(y 0).val % 8, by omega⟩, mem_all _, rfl⟩, ?_⟩
    refine (LoadRect.mem_set _).mpr fun a => ?_
    match a with
    | 0 => exact ⟨(y 0).val / 8, by show _ < 512; omega, by show (y 0).val = (y 0).val % 8 + 8 * ((y 0).val / 8); omega⟩
    | 1 => exact ⟨(y 1).val, by show _ < 128; omega, by show (y 1).val = 0 + 1 * (y 1).val; omega⟩

/-- A store of the whole of a memref is read back. -/
theorem read_whole (c : Dev nD) {S : Shape} {e : EltTy} (M : Memref sig .tc .vmem S e) (f : Bf (F := F) c M) (X : S.Idx → Elt F e)
    (off : Fin S.rank → Nat) (inb : ∀ a, off a + S.size a ≤ S.size a) (L : List (View.Piece (Elt F) S e)) :
    M.view.read (Elt F) (M.view.writes (Elt F) f (⟨Rect.unit (s := S) off S.size inb, X⟩ :: L)) = X := by
  have h0 : ∀ a, off a = 0 := fun a => by have := inb a; omega
  funext y
  have e : (Rect.unit (s := S) off S.size inb).emb y = y := funext fun a => Fin.ext (by show off a + 1 * (y a).val = (y a).val; rw [h0 a]; omega)
  have h := View.read_writes_cons_emb M.view f (Rect.unit (s := S) off S.size inb) X L y
  rw [e] at h
  exact h

/-- So a load of the whole of a memref reads its contents. -/
theorem readAt_whole (c : Dev nD) {S : Shape} {e : EltTy} (M : Memref sig .tc .vmem S e) (f : Bf (F := F) c M)
    (off : Fin S.rank → Nat) (inb : ∀ a, off a + S.size a ≤ S.size a) :
    View.readAt (Elt F) M.view (Rect.unit (s := S) off S.size inb).toLoadRect f = M.view.read (Elt F) f :=
  (View.readAt_eq_ld _ _ _).trans (View.ld_unit_lit inb _ fun a => by have := inb a; omega)

section
variable (c : Dev nD) (i : grid0.Coords)
    (M1 : Memref sig .tc .vmem S512x512 .f32) (h1 : M1.IsWhole) (M2 : Memref sig .tc .vmem S512x512 .f32) (h2 : M2.IsWhole)
    (M3 : Memref sig .tc .vmem S512x512 .f32) (h3 : M3.IsWhole) (M4 : Memref sig .tc .vmem S512x3072 .bf16) (h4 : M4.IsWhole)
    (M5 : Memref sig .tc .vmem S512x1024 .f32) (h5 : M5.IsWhole) (M6 : Memref sig .tc .vmem S3x512x1024 .bf16) (h6 : M6.IsWhole)
    (M7 : Memref sig .tc .vmem S1024x1024 .bf16) (h7 : M7.IsWhole) (M8 : Memref sig .tc .vmem S1x1024 .f32) (h8 : M8.IsWhole)
    (M9 : Memref sig .tc .vmem S1x1024 .f32) (h9 : M9.IsWhole) (M10 : Memref sig .tc .vmem S1x1024 .f32) (h10 : M10.IsWhole)
    (M11 : Memref sig .tc .vmem S1x1024 .f32) (h11 : M11.IsWhole) (M12 : Memref sig .tc .vmem S1024x128 .f32) (h12 : M12.IsWhole)
    (M13 : Memref sig .tc .vmem S1x128 .f32) (h13 : M13.IsWhole) (M14 : Memref sig .tc .vmem S512x1024 .f32) (h14 : M14.IsWhole)
    (M15 : Memref sig .tc .vmem S4096x128 .f32) (h15 : M15.IsWhole) (M16 : Memref sig .tc .vmem S512x128 .i32) (h16 : M16.IsWhole)
    (M17 : Memref sig .tc .vmem S512x128 .f32) (h17 : M17.IsWhole) (M18 : Memref sig .tc .vmem S8x128 .f32) (h18 : M18.IsWhole)
    (M19 : Memref sig .tc .vmem S1x128 .f32) (h19 : M19.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11) (f12 : Bf (F := F) c M12)
    (f13 : Bf (F := F) c M13) (f14 : Bf (F := F) c M14) (f15 : Bf (F := F) c M15) (f16 : Bf (F := F) c M16) (f17 : Bf (F := F) c M17) (f18 : Bf (F := F) c M18)
    (f19 : Bf (F := F) c M19)

/-- The blocks the memrefs hold. -/
abbrev found : Blocks F :=
  ⟨M1.view.read (Elt F) f1, M2.view.read (Elt F) f2, M3.view.read (Elt F) f3, M4.view.read (Elt F) f4, M5.view.read (Elt F) f5, M6.view.read (Elt F) f6, M7.view.read (Elt F) f7, M8.view.read (Elt F) f8, M9.view.read (Elt F) f9, M10.view.read (Elt F) f10, M11.view.read (Elt F) f11, M12.view.read (Elt F) f12, M13.view.read (Elt F) f13⟩

/-- The first point reads its counts back as cleared. -/
theorem cleared : firstRun.sl.v106 (F := F) M19 = k0_pay4 (F := F) := by
  unfold firstRun.sl.v106
  exact View.readCov_unit_lit (S := S1x128) M19.view _ _ (by decide)

set_option maxHeartbeats 2000000 in
theorem first_x (c1 : atFirst i) :
    M14.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.1
    = newRows (found c M1 M2 M3 M4 M5 M6 M7 M8 M9 M10 M11 M12 M13 f1 f2 f3 f4 f5 f6 f7 f8 f9 f10 f11 f12 f13) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide)]
  refine (read_whole c M14 _ _ _ _ _).trans ?_
  rfl

set_option maxHeartbeats 2000000 in
theorem first_tile (c1 : atFirst i) :
    M15.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.1
    = tiled (normRows (found c M1 M2 M3 M4 M5 M6 M7 M8 M9 M10 M11 M12 M13 f1 f2 f3 f4 f5 f6 f7 f8 f9 f10 f11 f12 f13)) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide)]
  refine Eq.trans (congrArg (M15.view.read (Elt F)) (congrArg (M15.view.writes (Elt F) f15) (a₂ := rowPieces (normRows _)) ?_)) (read_rowPieces c M15 f15 _)
  refine congrArg₂ List.cons ?h7 (congrArg₂ List.cons ?h6 (congrArg₂ List.cons ?h5 (congrArg₂ List.cons ?h4 (congrArg₂ List.cons ?h3
    (congrArg₂ List.cons ?h2 (congrArg₂ List.cons ?h1 (congrArg₂ List.cons ?h0 rfl)))))))
  all_goals rfl

set_option maxHeartbeats 2000000 in
theorem first_ids (c1 : atFirst i) :
    M16.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.1
    = ids (found c M1 M2 M3 M4 M5 M6 M7 M8 M9 M10 M11 M12 M13 f1 f2 f3 f4 f5 f6 f7 f8 f9 f10 f11 f12 f13) (k0_pay4 (F := F)) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← cleared M19]
  refine (read_whole c M16 _ _ _ _ _).trans ?_
  rfl

set_option maxHeartbeats 2000000 in
theorem first_wts (c1 : atFirst i) :
    M17.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.1
    = weights (found c M1 M2 M3 M4 M5 M6 M7 M8 M9 M10 M11 M12 M13 f1 f2 f3 f4 f5 f6 f7 f8 f9 f10 f11 f12 f13) (k0_pay4 (F := F)) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← cleared M19]
  refine (read_whole c M17 _ _ _ _ _).trans ?_
  rfl

set_option maxHeartbeats 2000000 in
theorem first_counts (c1 : atFirst i) :
    M18.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.2.1
    = counts (found c M1 M2 M3 M4 M5 M6 M7 M8 M9 M10 M11 M12 M13 f1 f2 f3 f4 f5 f6 f7 f8 f9 f10 f11 f12 f13) (k0_pay4 (F := F)) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← cleared M19]
  refine (read_whole c M18 _ _ _ _ _).trans ?_
  rfl

set_option maxHeartbeats 2000000 in
theorem first_seen (c1 : atFirst i) :
    M19.view.read (Elt F) (firstRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.2.2
    = nextSeen (found c M1 M2 M3 M4 M5 M6 M7 M8 M9 M10 M11 M12 M13 f1 f2 f3 f4 f5 f6 f7 f8 f9 f10 f11 f12 f13) (k0_pay4 (F := F)) := by
  unfold firstRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← cleared M19]
  refine (read_whole c M19 _ _ _ _ _).trans ?_
  rfl

set_option maxHeartbeats 2000000 in
theorem later_x (c1 : ¬ atFirst i) :
    M14.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.1
    = newRows (found c M1 M2 M3 M4 M5 M6 M7 M8 M9 M10 M11 M12 M13 f1 f2 f3 f4 f5 f6 f7 f8 f9 f10 f11 f12 f13) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide)]
  refine (read_whole c M14 _ _ _ _ _).trans ?_
  rfl

set_option maxHeartbeats 2000000 in
theorem later_tile (c1 : ¬ atFirst i) :
    M15.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.1
    = tiled (normRows (found c M1 M2 M3 M4 M5 M6 M7 M8 M9 M10 M11 M12 M13 f1 f2 f3 f4 f5 f6 f7 f8 f9 f10 f11 f12 f13)) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide)]
  refine Eq.trans (congrArg (M15.view.read (Elt F)) (congrArg (M15.view.writes (Elt F) f15) (a₂ := rowPieces (normRows _)) ?_)) (read_rowPieces c M15 f15 _)
  refine congrArg₂ List.cons ?h7 (congrArg₂ List.cons ?h6 (congrArg₂ List.cons ?h5 (congrArg₂ List.cons ?h4 (congrArg₂ List.cons ?h3
    (congrArg₂ List.cons ?h2 (congrArg₂ List.cons ?h1 (congrArg₂ List.cons ?h0 rfl)))))))
  all_goals rfl

set_option maxHeartbeats 2000000 in
theorem later_ids (c1 : ¬ atFirst i) :
    M16.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.1
    = ids (found c M1 M2 M3 M4 M5 M6 M7 M8 M9 M10 M11 M12 M13 f1 f2 f3 f4 f5 f6 f7 f8 f9 f10 f11 f12 f13) (M19.view.read (Elt F) f19) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← readAt_whole c M19 f19 ![0, 0] (by decide)]
  refine (read_whole c M16 _ _ _ _ _).trans ?_
  rfl

set_option maxHeartbeats 2000000 in
theorem later_wts (c1 : ¬ atFirst i) :
    M17.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.1
    = weights (found c M1 M2 M3 M4 M5 M6 M7 M8 M9 M10 M11 M12 M13 f1 f2 f3 f4 f5 f6 f7 f8 f9 f10 f11 f12 f13) (M19.view.read (Elt F) f19) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← readAt_whole c M19 f19 ![0, 0] (by decide)]
  refine (read_whole c M17 _ _ _ _ _).trans ?_
  rfl

set_option maxHeartbeats 2000000 in
theorem later_counts (c1 : ¬ atFirst i) :
    M18.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.2.1
    = counts (found c M1 M2 M3 M4 M5 M6 M7 M8 M9 M10 M11 M12 M13 f1 f2 f3 f4 f5 f6 f7 f8 f9 f10 f11 f12 f13) (M19.view.read (Elt F) f19) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← readAt_whole c M19 f19 ![0, 0] (by decide)]
  refine (read_whole c M18 _ _ _ _ _).trans ?_
  rfl

set_option maxHeartbeats 2000000 in
theorem later_seen (c1 : ¬ atFirst i) :
    M19.view.read (Elt F) (laterRun c i M1 h1 M2 h2 M3 h3 M4 h4 M5 h5 M6 h6 M7 h7 M8 h8 M9 h9 M10 h10 M11 h11 M12 h12 M13 h13 M14 h14 M15 h15 M16 h16 M17 h17 M18 h18 M19 h19
      f1 f2 f3 f4 f5 f6 f7 f8 f9 f10 f11 f12 f13 f14 f15 f16 f17 f18 f19 c1).1.2.2.2.2.2
    = nextSeen (found c M1 M2 M3 M4 M5 M6 M7 M8 M9 M10 M11 M12 M13 f1 f2 f3 f4 f5 f6 f7 f8 f9 f10 f11 f12 f13) (M19.view.read (Elt F) f19) := by
  unfold laterRun found
  dsimp only
  rw [← readAt_whole c M1 f1 ![0, 0] (by decide), ← readAt_whole c M2 f2 ![0, 0] (by decide), ← readAt_whole c M3 f3 ![0, 0] (by decide), ← readAt_whole c M5 f5 ![0, 0] (by decide), ← readAt_whole c M7 f7 ![0, 0] (by decide), ← readAt_whole c M8 f8 ![0, 0] (by decide), ← readAt_whole c M9 f9 ![0, 0] (by decide), ← readAt_whole c M10 f10 ![0, 0] (by decide), ← readAt_whole c M11 f11 ![0, 0] (by decide), ← readAt_whole c M12 f12 ![0, 0] (by decide), ← readAt_whole c M13 f13 ![0, 0] (by decide), ← readAt_whole c M19 f19 ![0, 0] (by decide)]
  refine (read_whole c M19 _ _ _ _ _).trans ?_
  rfl

end

end Cert.MergeIdeal.Rows

end
-- ==== Proof.Merge.Point.lean ====
/-
  The body of the merge at one point, its operands' contents named.
-/
module

public import proofs.«01_k».proof.Proof.Merge.Tile
public import Idealize.ShloMosaic.Lib.Pipeline.Frame
public import Idealize.ShloMosaic.Lib.Pipeline.TableIdle
public import Idealize.ShloMosaic.Lib.Writes
public import Idealize.ShloMosaic.Lib.Tactic

@[expose] public section

set_option maxRecDepth 16384

noncomputable section

namespace Cert.MergeIdeal.Rows

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR nD τ) ℕ

/-- A whole memref owned at contents `X` is its buffer held whole at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

section
variable (c : Dev nD) (i : grid0.Coords)
    (M1 : Memref sig .tc .vmem S512x512 .f32) (h1 : M1.IsWhole) (M2 : Memref sig .tc .vmem S512x512 .f32) (h2 : M2.IsWhole)
    (M3 : Memref sig .tc .vmem S512x512 .f32) (h3 : M3.IsWhole) (M4 : Memref sig .tc .vmem S512x3072 .bf16) (h4 : M4.IsWhole)
    (M5 : Memref sig .tc .vmem S512x1024 .f32) (h5 : M5.IsWhole) (M6 : Memref sig .tc .vmem S3x512x1024 .bf16) (h6 : M6.IsWhole)
    (M7 : Memref sig .tc .vmem S1024x1024 .bf16) (h7 : M7.IsWhole) (M8 : Memref sig .tc .vmem S1x1024 .f32) (h8 : M8.IsWhole)
    (M9 : Memref sig .tc .vmem S1x1024 .f32) (h9 : M9.IsWhole) (M10 : Memref sig .tc .vmem S1x1024 .f32) (h10 : M10.IsWhole)
    (M11 : Memref sig .tc .vmem S1x1024 .f32) (h11 : M11.IsWhole) (M12 : Memref sig .tc .vmem S1024x128 .f32) (h12 : M12.IsWhole)
    (M13 : Memref sig .tc .vmem S1x128 .f32) (h13 : M13.IsWhole) (M14 : Memref sig .tc .vmem S512x1024 .f32) (h14 : M14.IsWhole)
    (M15 : Memref sig .tc .vmem S4096x128 .f32) (h15 : M15.IsWhole) (M16 : Memref sig .tc .vmem S512x128 .i32) (h16 : M16.IsWhole)
    (M17 : Memref sig .tc .vmem S512x128 .f32) (h17 : M17.IsWhole) (M18 : Memref sig .tc .vmem S8x128 .f32) (h18 : M18.IsWhole)
    (M19 : Memref sig .tc .vmem S1x128 .f32) (h19 : M19.IsWhole)
    (I : Blocks F) (S : Vec F S1x128 .f32)
    {D1 D2 D3 D4 D5 D6 D7 D8 D9 D10 D11 D12 D13 D14 D15 D16 D17 D18 : Type} (X14 : D14 → Vec F S512x1024 .f32) (X15 : D15 → Vec F S4096x128 .f32) (X16 : D16 → Vec F S512x128 .i32) (X17 : D17 → Vec F S512x128 .f32) (X18 : D18 → Vec F S8x128 .f32)
    (P P' : Bf (F := F) c M19 → Prop)

/-- The first point: the counts start from nothing. -/
theorem first_at (R O B : sProp 𝕄) (hB : owns (c : Thread nD τ) M4 fullShare I.br ⊢ B) (c1 : atFirst i)
    (hS : S = k0_pay4 (F := F))
    (hP' : ∀ f, M19.view.read (Elt F) f = nextSeen I S → P' f) :
    iprop(((∃ f, ⌜P f⌝ ∗ pt c M19 f) ∗ R) ∗ O
      ∗ (∃ _ : D1, owns (c : Thread nD τ) M1 fullShare I.ya)
      ∗ (∃ _ : D2, owns (c : Thread nD τ) M2 fullShare I.yb)
      ∗ (∃ _ : D3, owns (c : Thread nD τ) M3 fullShare I.yc)
      ∗ (∃ _ : D4, owns (c : Thread nD τ) M4 fullShare I.br)
      ∗ (∃ _ : D5, owns (c : Thread nD τ) M5 fullShare I.x)
      ∗ (∃ _ : D6, owns (c : Thread nD τ) M6 fullShare I.wb)
      ∗ (∃ _ : D7, owns (c : Thread nD τ) M7 fullShare I.wo)
      ∗ (∃ _ : D8, owns (c : Thread nD τ) M8 fullShare I.gate)
      ∗ (∃ _ : D9, owns (c : Thread nD τ) M9 fullShare I.gain)
      ∗ (∃ _ : D10, owns (c : Thread nD τ) M10 fullShare I.scale)
      ∗ (∃ _ : D11, owns (c : Thread nD τ) M11 fullShare I.shift)
      ∗ (∃ _ : D12, owns (c : Thread nD τ) M12 fullShare I.wr)
      ∗ (∃ _ : D13, owns (c : Thread nD τ) M13 fullShare I.bias)
      ∗ (∃ d : D14, owns (c : Thread nD τ) M14 fullShare (X14 d))
      ∗ (∃ d : D15, owns (c : Thread nD τ) M15 fullShare (X15 d))
      ∗ (∃ d : D16, owns (c : Thread nD τ) M16 fullShare (X16 d))
      ∗ (∃ d : D17, owns (c : Thread nD τ) M17 fullShare (X17 d))
      ∗ (∃ d : D18, owns (c : Thread nD τ) M18 fullShare (X18 d)))
    ⊢ wp frame (wpE (defs₀ (F := F)) Variants.nat c none) Set.univ
        (cc0_merge i M1 h1 M2 h2 M3 h3 M4 h4 M5 h5 M6 h6 M7 h7 M8 h8 M9 h9 M10 h10 M11 h11 M12 h12 M13 h13 M14 h14 M15 h15 M16 h16 M17 h17 M18 h18 M19 h19) fun _ =>
      iprop(((∃ f, ⌜P' f⌝ ∗ pt c M19 f) ∗ R) ∗ O
      ∗ owns (c : Thread nD τ) M1 fullShare I.ya
      ∗ owns (c : Thread nD τ) M2 fullShare I.yb
      ∗ owns (c : Thread nD τ) M3 fullShare I.yc
      ∗ B
      ∗ owns (c : Thread nD τ) M5 fullShare I.x
      ∗ owns (c : Thread nD τ) M6 fullShare I.wb
      ∗ owns (c : Thread nD τ) M7 fullShare I.wo
      ∗ owns (c : Thread nD τ) M8 fullShare I.gate
      ∗ owns (c : Thread nD τ) M9 fullShare I.gain
      ∗ owns (c : Thread nD τ) M10 fullShare I.scale
      ∗ owns (c : Thread nD τ) M11 fullShare I.shift
      ∗ owns (c : Thread nD τ) M12 fullShare I.wr
      ∗ owns (c : Thread nD τ) M13 fullShare I.bias
      ∗ owns (c : Thread nD τ) M14 fullShare (newRows I)
      ∗ owns (c : Thread nD τ) M15 fullShare (tiled (normRows I))
      ∗ owns (c : Thread nD τ) M16 fullShare (ids I S)
      ∗ owns (c : Thread nD τ) M17 fullShare (weights I S)
      ∗ owns (c : Thread nD τ) M18 fullShare (counts I S)) := by
  obtain ⟨I1, I2, I3, I4, I5, I6, I7, I8, I9, I10, I11, I12, I13⟩ := I
  simp only [owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14, owns_pt c M15 h15, owns_pt c M16 h16, owns_pt c M17 h17, owns_pt c M18 h18]
  iintro ⟨⟨⟨%f19, %e19, H19⟩, Hr⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, -, H14⟩, ⟨%d15, %f15, -, H15⟩, ⟨%d16, %f16, -, H16⟩, ⟨%d17, %f17, -, H17⟩, ⟨%d18, %f18, -, H18⟩⟩
  subst e1 e2 e3 e4 e5 e6 e7 e8 e9 e10 e11 e12 e13
  rw [owns_pt c M4 h4] at hB
  subst hS
  iapply (firstRun c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  isplitl [H19 Hr]
  · isplitl [H19]
    · iexists _; isplitr
      swap; · iexact H19
      ipureintro
      exact hP' _ (first_seen c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1)
    iexact Hr
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iapply hB; iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact first_x c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H15]
  · iexists _; isplitr
    swap; · iexact H15
    ipureintro
    exact first_tile c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H16]
  · iexists _; isplitr
    swap; · iexact H16
    ipureintro
    exact first_ids c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H17]
  · iexists _; isplitr
    swap; · iexact H17
    ipureintro
    exact first_wts c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  · iexists _; isplitr
    swap; · iexact H18
    ipureintro
    exact first_counts c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1

/-- A later point: the counts go on from those kept. -/
theorem later_at (R O B : sProp 𝕄) (hB : owns (c : Thread nD τ) M4 fullShare I.br ⊢ B) (c1 : ¬ atFirst i)
    (hP : ∀ f, P f → M19.view.read (Elt F) f = S)
    (hP' : ∀ f, M19.view.read (Elt F) f = nextSeen I S → P' f) :
    iprop(((∃ f, ⌜P f⌝ ∗ pt c M19 f) ∗ R) ∗ O
      ∗ (∃ _ : D1, owns (c : Thread nD τ) M1 fullShare I.ya)
      ∗ (∃ _ : D2, owns (c : Thread nD τ) M2 fullShare I.yb)
      ∗ (∃ _ : D3, owns (c : Thread nD τ) M3 fullShare I.yc)
      ∗ (∃ _ : D4, owns (c : Thread nD τ) M4 fullShare I.br)
      ∗ (∃ _ : D5, owns (c : Thread nD τ) M5 fullShare I.x)
      ∗ (∃ _ : D6, owns (c : Thread nD τ) M6 fullShare I.wb)
      ∗ (∃ _ : D7, owns (c : Thread nD τ) M7 fullShare I.wo)
      ∗ (∃ _ : D8, owns (c : Thread nD τ) M8 fullShare I.gate)
      ∗ (∃ _ : D9, owns (c : Thread nD τ) M9 fullShare I.gain)
      ∗ (∃ _ : D10, owns (c : Thread nD τ) M10 fullShare I.scale)
      ∗ (∃ _ : D11, owns (c : Thread nD τ) M11 fullShare I.shift)
      ∗ (∃ _ : D12, owns (c : Thread nD τ) M12 fullShare I.wr)
      ∗ (∃ _ : D13, owns (c : Thread nD τ) M13 fullShare I.bias)
      ∗ (∃ d : D14, owns (c : Thread nD τ) M14 fullShare (X14 d))
      ∗ (∃ d : D15, owns (c : Thread nD τ) M15 fullShare (X15 d))
      ∗ (∃ d : D16, owns (c : Thread nD τ) M16 fullShare (X16 d))
      ∗ (∃ d : D17, owns (c : Thread nD τ) M17 fullShare (X17 d))
      ∗ (∃ d : D18, owns (c : Thread nD τ) M18 fullShare (X18 d)))
    ⊢ wp frame (wpE (defs₀ (F := F)) Variants.nat c none) Set.univ
        (cc0_merge i M1 h1 M2 h2 M3 h3 M4 h4 M5 h5 M6 h6 M7 h7 M8 h8 M9 h9 M10 h10 M11 h11 M12 h12 M13 h13 M14 h14 M15 h15 M16 h16 M17 h17 M18 h18 M19 h19) fun _ =>
      iprop(((∃ f, ⌜P' f⌝ ∗ pt c M19 f) ∗ R) ∗ O
      ∗ owns (c : Thread nD τ) M1 fullShare I.ya
      ∗ owns (c : Thread nD τ) M2 fullShare I.yb
      ∗ owns (c : Thread nD τ) M3 fullShare I.yc
      ∗ B
      ∗ owns (c : Thread nD τ) M5 fullShare I.x
      ∗ owns (c : Thread nD τ) M6 fullShare I.wb
      ∗ owns (c : Thread nD τ) M7 fullShare I.wo
      ∗ owns (c : Thread nD τ) M8 fullShare I.gate
      ∗ owns (c : Thread nD τ) M9 fullShare I.gain
      ∗ owns (c : Thread nD τ) M10 fullShare I.scale
      ∗ owns (c : Thread nD τ) M11 fullShare I.shift
      ∗ owns (c : Thread nD τ) M12 fullShare I.wr
      ∗ owns (c : Thread nD τ) M13 fullShare I.bias
      ∗ owns (c : Thread nD τ) M14 fullShare (newRows I)
      ∗ owns (c : Thread nD τ) M15 fullShare (tiled (normRows I))
      ∗ owns (c : Thread nD τ) M16 fullShare (ids I S)
      ∗ owns (c : Thread nD τ) M17 fullShare (weights I S)
      ∗ owns (c : Thread nD τ) M18 fullShare (counts I S)) := by
  obtain ⟨I1, I2, I3, I4, I5, I6, I7, I8, I9, I10, I11, I12, I13⟩ := I
  simp only [owns_pt c M1 h1, owns_pt c M2 h2, owns_pt c M3 h3, owns_pt c M4 h4, owns_pt c M5 h5, owns_pt c M6 h6, owns_pt c M7 h7, owns_pt c M8 h8, owns_pt c M9 h9, owns_pt c M10 h10, owns_pt c M11 h11, owns_pt c M12 h12, owns_pt c M13 h13, owns_pt c M14 h14, owns_pt c M15 h15, owns_pt c M16 h16, owns_pt c M17 h17, owns_pt c M18 h18]
  iintro ⟨⟨⟨%f19, %e19, H19⟩, Hr⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, -, H14⟩, ⟨%d15, %f15, -, H15⟩, ⟨%d16, %f16, -, H16⟩, ⟨%d17, %f17, -, H17⟩, ⟨%d18, %f18, -, H18⟩⟩
  subst e1 e2 e3 e4 e5 e6 e7 e8 e9 e10 e11 e12 e13
  rw [owns_pt c M4 h4] at hB
  obtain rfl := hP f19 e19
  iapply (laterRun c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  isplitl [H19 Hr]
  · isplitl [H19]
    · iexists _; isplitr
      swap; · iexact H19
      ipureintro
      exact hP' _ (later_seen c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1)
    iexact Hr
  isplitl [Ho]; · iexact Ho
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iapply hB; iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact later_x c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H15]
  · iexists _; isplitr
    swap; · iexact H15
    ipureintro
    exact later_tile c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H16]
  · iexists _; isplitr
    swap; · iexact H16
    ipureintro
    exact later_ids c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  isplitl [H17]
  · iexists _; isplitr
    swap; · iexact H17
    ipureintro
    exact later_wts c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1
  · iexists _; isplitr
    swap; · iexact H18
    ipureintro
    exact later_counts c i M1 h1 M2 h2 M3 h3 M4 h4 M5 h5 M6 h6 M7 h7 M8 h8 M9 h9 M10 h10 M11 h11 M12 h12 M13 h13 M14 h14 M15 h15 M16 h16 M17 h17 M18 h18 M19 h19 f1 f2 f3 f4 f5 f6 f7 f8 f9 f10 f11 f12 f13 f14 f15 f16 f17 f18 f19 c1

end

end Cert.MergeIdeal.Rows

end
-- ==== Proof.Merge.Data.lean ====
/-
  The merge's proof data: ahead of every point but the first the scratch keeps the experts'
  counts over the rows before.
-/
module

public import proofs.«01_k».proof.Proof.Merge.Point
public import Idealize.ShloMosaic.Lib.Pipeline.Frame
public import Idealize.ShloMosaic.Lib.Pipeline.TableIdle
public import Idealize.ShloMosaic.Lib.Writes
public import Idealize.ShloMosaic.Lib.Tactic

@[expose] public section

set_option maxRecDepth 16384

noncomputable section

namespace Cert.MergeIdeal.Rows

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR nD τ) ℕ

/-! ### The proof data -/

theorem at_first : ∀ t : Fin grid0.N, t.val = 0 → atFirst (grid0.coords t) := by decide +kernel
theorem at_later : ∀ t : Fin grid0.N, t.val ≠ 0 → ¬ atFirst (grid0.coords t) := by decide +kernel

variable (V : Dev nD → Valuation τ sig (Elt F))

/-- What the windows' arrays hold where the region begins, -/
abbrev arrAt (c : Dev nD) (w : Fin 18) : Buf (Elt F) ((cfg0.win w).arr.view.loc (c : Thread nD τ)) :=
  V c (Proc.devRef .tc (Pipeline.arrRef spec0 w))

/-- a point's block of each input, -/
def blk0 (c : Dev nD) (t : Fin grid0.N) : Vec F S512x512 .f32 := (cfg0.win 0).blk t |>.view.read (Elt F) (arrAt V c 0)
def blk1 (c : Dev nD) (t : Fin grid0.N) : Vec F S512x512 .f32 := (cfg0.win 1).blk t |>.view.read (Elt F) (arrAt V c 1)
def blk2 (c : Dev nD) (t : Fin grid0.N) : Vec F S512x512 .f32 := (cfg0.win 2).blk t |>.view.read (Elt F) (arrAt V c 2)
def blk3 (c : Dev nD) (t : Fin grid0.N) : Vec F S512x3072 .bf16 :=
  (cfg0.win 3).fill (cfg0.grid.coords t) (fun _ => Scalar.ofBits .bf16 0#16) ((cfg0.win 3).blk t |>.view.read (Elt F) (arrAt V c 3))
def blk4 (c : Dev nD) (t : Fin grid0.N) : Vec F S512x1024 .f32 := (cfg0.win 4).blk t |>.view.read (Elt F) (arrAt V c 4)
def blk5 (c : Dev nD) (t : Fin grid0.N) : Vec F S3x512x1024 .bf16 := (cfg0.win 5).blk t |>.view.read (Elt F) (arrAt V c 5)
def blk6 (c : Dev nD) (t : Fin grid0.N) : Vec F S1024x1024 .bf16 := (cfg0.win 6).blk t |>.view.read (Elt F) (arrAt V c 6)
def blk7 (c : Dev nD) (t : Fin grid0.N) : Vec F S1x1024 .f32 := (cfg0.win 7).blk t |>.view.read (Elt F) (arrAt V c 7)
def blk8 (c : Dev nD) (t : Fin grid0.N) : Vec F S1x1024 .f32 := (cfg0.win 8).blk t |>.view.read (Elt F) (arrAt V c 8)
def blk9 (c : Dev nD) (t : Fin grid0.N) : Vec F S1x1024 .f32 := (cfg0.win 9).blk t |>.view.read (Elt F) (arrAt V c 9)
def blk10 (c : Dev nD) (t : Fin grid0.N) : Vec F S1x1024 .f32 := (cfg0.win 10).blk t |>.view.read (Elt F) (arrAt V c 10)
def blk11 (c : Dev nD) (t : Fin grid0.N) : Vec F S1024x128 .f32 := (cfg0.win 11).blk t |>.view.read (Elt F) (arrAt V c 11)
def blk12 (c : Dev nD) (t : Fin grid0.N) : Vec F S1x128 .f32 := (cfg0.win 12).blk t |>.view.read (Elt F) (arrAt V c 12)

/-- No block of the gates is cut: each is of the first 3072 of 8192 columns. -/
theorem uncut : ∀ t : Fin cfg0.N, ∀ a, (cfg0.win 3).xsize (cfg0.grid.coords t) a = (cfg0.win 3).size a := by decide +kernel
theorem moved (t : Fin cfg0.N) (j : (cfg0.win 3).block.Idx) : (cfg0.win 3).moved (cfg0.grid.coords t) j = true :=
  ((cfg0.win 3).moved_iff _ j).mpr fun a => by rw [uncut t a]; exact (j a).isLt
theorem fill_any (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved t j), dif_pos (moved t j)]

/-- and all of them. -/
def blocks (c : Dev nD) (t : Fin grid0.N) : Blocks F :=
  ⟨blk0 V c t, blk1 V c t, blk2 V c t, blk3 V c t, blk4 V c t, blk5 V c t, blk6 V c t, blk7 V c t, blk8 V c t, blk9 V c t, blk10 V c t, blk11 V c t, blk12 V c t⟩

/-- The point of a number. -/
def pointOf (n : ℕ) : Fin grid0.N := ⟨n % 32, by rw [N_0]; exact Nat.mod_lt _ (by decide)⟩

theorem pointOf_self (t : Fin grid0.N) : pointOf t.val = t :=
  Fin.ext (Nat.mod_eq_of_lt (lt_of_lt_of_eq t.isLt N_0))

/-- The experts' counts over the rows before a point. -/
def seen (c : Dev nD) : ℕ → Vec F S1x128 .f32
  | 0 => k0_pay4 (F := F)
  | n + 1 => nextSeen (blocks V c (pointOf n)) (seen c n)

theorem seen_succ (c : Dev nD) (t : Fin grid0.N) : seen V c (t.val + 1) = nextSeen (blocks V c t) (seen V c t.val) := by
  show nextSeen (blocks V c (pointOf t.val)) _ = _
  rw [pointOf_self]

/-- What is known of the scratch ahead of point `n`. -/
def Kept (c : Dev nD) (n : ℕ) (f : Bf (F := F) c (Memref.whole cc0_scratch0)) : Prop :=
  n ≠ 0 → (Memref.whole cc0_scratch0).view.read (Elt F) f = seen V c n

/-- The invariant ahead of point `n`. -/
def inv (c : Dev nD) (n : ℕ) : sProp 𝕄 :=
  iprop((∃ f, ⌜Kept V c n f⌝ ∗ pt c (Memref.whole cc0_scratch0) f) ∗ emp)

/-- The proof data: the inputs stay as fetched, the outputs are the computed blocks. -/
def dat (c : Dev nD) : Dat τ (Elt F) Unit ℕ (UR nD τ) ℕ cfg0 c where
  A := arrAt V c
  after := fun w t => match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => blk8 V c t
    | ⟨9, _⟩ => blk9 V c t
    | ⟨10, _⟩ => blk10 V c t
    | ⟨11, _⟩ => blk11 V c t
    | ⟨12, _⟩ => blk12 V c t
    | ⟨13, _⟩ => newRows (blocks V c t)
    | ⟨14, _⟩ => tiled (normRows (blocks V c t))
    | ⟨15, _⟩ => ids (blocks V c t) (seen V c t.val)
    | ⟨16, _⟩ => weights (blocks V c t) (seen V c t.val)
    | ⟨17, _⟩ => counts (blocks V c t) (seen V c t.val)
    | ⟨_ + 18, h⟩ => absurd h (Nat.not_lt.2 (Nat.le_add_left _ _))
  Φ := fun n => inv V c n.val
  q := fun _ => fullShare
  owed := fun _ => 0

/-- At the ends of the region nothing is known of the scratch. -/
theorem inv_in (c : Dev nD) : (Pipeline.scopedRest spec0 c : sProp 𝕄) ⊢ inv V c 0 := by
  rw [scopedRest0_eq]
  unfold inv
  iintro ⟨%f, H⟩
  isplitl [H]
  · iexists f
    isplitr
    · ipureintro; exact fun h => absurd rfl h
    iexact H
  iempintro

theorem inv_out (c : Dev nD) : inv V c 32 ⊢ (Pipeline.scopedRest spec0 c : sProp 𝕄) := by
  rw [scopedRest0_eq]
  unfold inv
  iintro ⟨⟨%f, -, H⟩, -⟩
  iexists f; iexact H

end Cert.MergeIdeal.Rows

end
-- ==== Proof.Merge.Body.lean ====
/-
  The body's obligation at every point of the merge.
-/
module

public import proofs.«01_k».proof.Proof.Merge.Data
public import Idealize.ShloMosaic.Lib.Pipeline.Frame
public import Idealize.ShloMosaic.Lib.Pipeline.TableIdle
public import Idealize.ShloMosaic.Lib.Writes
public import Idealize.ShloMosaic.Lib.Tactic

@[expose] public section

set_option maxRecDepth 16384

noncomputable section

namespace Cert.MergeIdeal.Rows

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR nD τ) ℕ

variable (V : Dev nD → Valuation τ sig (Elt F))

section
variable (c : Dev nD) (t : Fin grid0.N)
theorem found0 (d) : (dat V c).before (0 : Fin 18) t d = blk0 V c t :=
  Dat.before_in_eq_fetched (dat V c) (0 : Fin 18) rfl (fun _ => rfl) (fun _ _ _ => rfl) (fun _ => rfl) t d
theorem found1 (d) : (dat V c).before (1 : Fin 18) t d = blk1 V c t :=
  Dat.before_in_eq_fetched (dat V c) (1 : Fin 18) rfl (fun _ => rfl) (fun _ _ _ => rfl) (fun _ => rfl) t d
theorem found2 (d) : (dat V c).before (2 : Fin 18) t d = blk2 V c t :=
  Dat.before_in_eq_fetched (dat V c) (2 : Fin 18) rfl (fun _ => rfl) (fun _ _ _ => rfl) (fun _ => rfl) t d
theorem found3 (d) : (dat V c).before (3 : Fin 18) t d = blk3 V c t :=
  (Dat.before_in_eq_fetched (dat V c) (3 : Fin 18) rfl (fun _ => rfl)
    (fun t t' h => funext fun a => congrArg (fun n => Pipeline.Clip.of n ((cfg0.win 3).size a) (S16384x8192.size a)) (congrFun h a))
    (fun t => by show (cfg0.win 3).cut _ (blk3 V c t) = _; unfold blk3; rw [Pipeline.Window.cut_fill]; rfl) t d).trans
    (by unfold Dat.fetched blk3; exact fill_any t _ _ _)
theorem found4 (d) : (dat V c).before (4 : Fin 18) t d = blk4 V c t :=
  Dat.before_in_eq_fetched (dat V c) (4 : Fin 18) rfl (fun _ => rfl) (fun _ _ _ => rfl) (fun _ => rfl) t d
theorem found5 (d) : (dat V c).before (5 : Fin 18) t d = blk5 V c t :=
  Dat.before_in_eq_fetched (dat V c) (5 : Fin 18) rfl (fun _ => rfl) (fun _ _ _ => rfl) (fun _ => rfl) t d
theorem found6 (d) : (dat V c).before (6 : Fin 18) t d = blk6 V c t :=
  Dat.before_in_eq_fetched (dat V c) (6 : Fin 18) rfl (fun _ => rfl) (fun _ _ _ => rfl) (fun _ => rfl) t d
theorem found7 (d) : (dat V c).before (7 : Fin 18) t d = blk7 V c t :=
  Dat.before_in_eq_fetched (dat V c) (7 : Fin 18) rfl (fun _ => rfl) (fun _ _ _ => rfl) (fun _ => rfl) t d
theorem found8 (d) : (dat V c).before (8 : Fin 18) t d = blk8 V c t :=
  Dat.before_in_eq_fetched (dat V c) (8 : Fin 18) rfl (fun _ => rfl) (fun _ _ _ => rfl) (fun _ => rfl) t d
theorem found9 (d) : (dat V c).before (9 : Fin 18) t d = blk9 V c t :=
  Dat.before_in_eq_fetched (dat V c) (9 : Fin 18) rfl (fun _ => rfl) (fun _ _ _ => rfl) (fun _ => rfl) t d
theorem found10 (d) : (dat V c).before (10 : Fin 18) t d = blk10 V c t :=
  Dat.before_in_eq_fetched (dat V c) (10 : Fin 18) rfl (fun _ => rfl) (fun _ _ _ => rfl) (fun _ => rfl) t d
theorem found11 (d) : (dat V c).before (11 : Fin 18) t d = blk11 V c t :=
  Dat.before_in_eq_fetched (dat V c) (11 : Fin 18) rfl (fun _ => rfl) (fun _ _ _ => rfl) (fun _ => rfl) t d
theorem found12 (d) : (dat V c).before (12 : Fin 18) t d = blk12 V c t :=
  Dat.before_in_eq_fetched (dat V c) (12 : Fin 18) rfl (fun _ => rfl) (fun _ _ _ => rfl) (fun _ => rfl) t d

/-- The gates' block is what was fetched, whatever was there before. -/
theorem kept3 : (owns (c : Thread nD τ) (st0_3 t) fullShare (blk3 V c t) : sProp 𝕄)
    ⊢ iprop(∃ d, owns (c : Thread nD τ) (st0_3 t) fullShare ((cfg0.win 3).fill (cfg0.grid.coords t) d ((cfg0.win 3).cut (cfg0.grid.coords t) (blk3 V c t)))) := by
  iintro H
  iexists (fun _ => Scalar.ofBits .bf16 0#16)
  rw [show (cfg0.win 3).fill (cfg0.grid.coords t) (fun _ => Scalar.ofBits .bf16 0#16) ((cfg0.win 3).cut (cfg0.grid.coords t) (blk3 V c t)) = blk3 V c t from by
    unfold blk3; rw [Pipeline.Window.cut_fill]]
  iexact H

end

set_option maxHeartbeats 4000000 in
/-- The body's obligation at every point. -/
theorem body_obligation (c : Dev nD) : BodyObligationLoose (dat V c) (defs₀ (F := F)) Variants.nat () Set.univ := fun t => by
  rw [bigSep_W0, bigSep_W0]
  show iprop(inv V c t.val ∗ (dat V c).owesAt () t.castSucc
      ∗ (∃ d, owns (c : Thread nD τ) (st0_0 t) fullShare ((dat V c).before (0 : Fin 18) t d))
      ∗ (∃ d, owns (c : Thread nD τ) (st0_1 t) fullShare ((dat V c).before (1 : Fin 18) t d))
      ∗ (∃ d, owns (c : Thread nD τ) (st0_2 t) fullShare ((dat V c).before (2 : Fin 18) t d))
      ∗ (∃ d, owns (c : Thread nD τ) (st0_3 t) fullShare ((dat V c).before (3 : Fin 18) t d))
      ∗ (∃ d, owns (c : Thread nD τ) (st0_4 t) fullShare ((dat V c).before (4 : Fin 18) t d))
      ∗ (∃ d, owns (c : Thread nD τ) (st0_5 t) fullShare ((dat V c).before (5 : Fin 18) t d))
      ∗ (∃ d, owns (c : Thread nD τ) (st0_6 t) fullShare ((dat V c).before (6 : Fin 18) t d))
      ∗ (∃ d, owns (c : Thread nD τ) (st0_7 t) fullShare ((dat V c).before (7 : Fin 18) t d))
      ∗ (∃ d, owns (c : Thread nD τ) (st0_8 t) fullShare ((dat V c).before (8 : Fin 18) t d))
      ∗ (∃ d, owns (c : Thread nD τ) (st0_9 t) fullShare ((dat V c).before (9 : Fin 18) t d))
      ∗ (∃ d, owns (c : Thread nD τ) (st0_10 t) fullShare ((dat V c).before (10 : Fin 18) t d))
      ∗ (∃ d, owns (c : Thread nD τ) (st0_11 t) fullShare ((dat V c).before (11 : Fin 18) t d))
      ∗ (∃ d, owns (c : Thread nD τ) (st0_12 t) fullShare ((dat V c).before (12 : Fin 18) t d))
      ∗ (∃ d, owns (c : Thread nD τ) (st0_13 t) fullShare ((dat V c).before (13 : Fin 18) t d))
      ∗ (∃ d, owns (c : Thread nD τ) (st0_14 t) fullShare ((dat V c).before (14 : Fin 18) t d))
      ∗ (∃ d, owns (c : Thread nD τ) (st0_15 t) fullShare ((dat V c).before (15 : Fin 18) t d))
      ∗ (∃ d, owns (c : Thread nD τ) (st0_16 t) fullShare ((dat V c).before (16 : Fin 18) t d))
      ∗ (∃ d, owns (c : Thread nD τ) (st0_17 t) fullShare ((dat V c).before (17 : Fin 18) t d)))
    ⊢ wp frame (wpE (defs₀ (F := F)) Variants.nat c none) Set.univ (bodyAt0 t) fun _ =>
      iprop(inv V c (t.val + 1) ∗ (dat V c).owesAt () t.succ
      ∗ owns (c : Thread nD τ) (st0_0 t) fullShare (blk0 V c t)
      ∗ owns (c : Thread nD τ) (st0_1 t) fullShare (blk1 V c t)
      ∗ owns (c : Thread nD τ) (st0_2 t) fullShare (blk2 V c t)
      ∗ (∃ d, owns (c : Thread nD τ) (st0_3 t) fullShare ((cfg0.win 3).fill (cfg0.grid.coords t) d ((cfg0.win 3).cut (cfg0.grid.coords t) (blk3 V c t))))
      ∗ owns (c : Thread nD τ) (st0_4 t) fullShare (blk4 V c t)
      ∗ owns (c : Thread nD τ) (st0_5 t) fullShare (blk5 V c t)
      ∗ owns (c : Thread nD τ) (st0_6 t) fullShare (blk6 V c t)
      ∗ owns (c : Thread nD τ) (st0_7 t) fullShare (blk7 V c t)
      ∗ owns (c : Thread nD τ) (st0_8 t) fullShare (blk8 V c t)
      ∗ owns (c : Thread nD τ) (st0_9 t) fullShare (blk9 V c t)
      ∗ owns (c : Thread nD τ) (st0_10 t) fullShare (blk10 V c t)
      ∗ owns (c : Thread nD τ) (st0_11 t) fullShare (blk11 V c t)
      ∗ owns (c : Thread nD τ) (st0_12 t) fullShare (blk12 V c t)
      ∗ owns (c : Thread nD τ) (st0_13 t) fullShare (newRows (blocks V c t))
      ∗ owns (c : Thread nD τ) (st0_14 t) fullShare (tiled (normRows (blocks V c t)))
      ∗ owns (c : Thread nD τ) (st0_15 t) fullShare (ids (blocks V c t) (seen V c t.val))
      ∗ owns (c : Thread nD τ) (st0_16 t) fullShare (weights (blocks V c t) (seen V c t.val))
      ∗ owns (c : Thread nD τ) (st0_17 t) fullShare (counts (blocks V c t) (seen V c t.val)))
  simp only [found0, found1, found2, found3, found4, found5, found6, found7, found8, found9, found10, found11, found12]
  unfold inv
  have hP' : ∀ f : Bf (F := F) c (Memref.whole cc0_scratch0),
      (Memref.whole cc0_scratch0).view.read (Elt F) f = nextSeen (blocks V c t) (seen V c t.val) → Kept V c (t.val + 1) f :=
    fun f hf _ => hf.trans (seen_succ V c t).symm
  by_cases h0 : t.val = 0
  · exact first_at c (grid0.coords t) (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _) (st0_11 t) (stage_whole0 11 _) (st0_12 t) (stage_whole0 12 _) (st0_13 t) (stage_whole0 13 _) (st0_14 t) (stage_whole0 14 _) (st0_15 t) (stage_whole0 15 _) (st0_16 t) (stage_whole0 16 _) (st0_17 t) (stage_whole0 17 _)
      (Memref.whole cc0_scratch0) (Memref.isWhole_whole _) (blocks V c t) (seen V c t.val) (X14 := _) (X15 := _) (X16 := _) (X17 := _) (X18 := _)
      (P := Kept V c t.val) (P' := Kept V c (t.val + 1)) (R := _) (O := _) (hB := kept3 V c t) (c1 := at_first t h0)
      (hS := by rw [h0]; rfl) (hP' := hP')
  · exact later_at c (grid0.coords t) (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _) (st0_11 t) (stage_whole0 11 _) (st0_12 t) (stage_whole0 12 _) (st0_13 t) (stage_whole0 13 _) (st0_14 t) (stage_whole0 14 _) (st0_15 t) (stage_whole0 15 _) (st0_16 t) (stage_whole0 16 _) (st0_17 t) (stage_whole0 17 _)
      (Memref.whole cc0_scratch0) (Memref.isWhole_whole _) (blocks V c t) (seen V c t.val) (X14 := _) (X15 := _) (X16 := _) (X17 := _) (X18 := _)
      (P := Kept V c t.val) (P' := Kept V c (t.val + 1)) (R := _) (O := _) (hB := kept3 V c t) (c1 := at_later t h0)
      (hP := fun f hf => hf h0) (hP' := hP')

end Cert.MergeIdeal.Rows

end
-- ==== Proof.Merge.Host.lean ====
/-
  The run of the merge's program: host operations, the call, host operations. Every buffer ends at what these three leave,
  the arguments as launched, and every semaphore counter at zero.
-/
module

public import proofs.«01_k».proof.Proof.Merge.Body
public import Idealize.ShloMosaic.Lib.Pipeline.Regions
public import Idealize.ShloMosaic.Lib.Pipeline.FrameTail
public import Idealize.ShloMosaic.Lib.Pipeline.FrameSuffix
public import Idealize.ShloMosaic.Lib.Pipeline.RegionArraysS

@[expose] public section

set_option maxRecDepth 16384

noncomputable section

namespace Cert.MergeIdeal.Whole

open Cert.MergeIdeal Cert.MergeIdeal.Gen
open Cert.MergeIdeal.Rows (UR)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs)

variable {F : FTy → Type} [FloatOps F]

local notation "𝕄" => MT nD τ sig Unit (Elt F) ℕ (UR nD τ) ℕ

variable (m : (ℓ : Loc nD τ sig) → Buf (Elt F) ℓ) (g : Dev nD → PrngReg)

/-- A core's buffers at launch, -/
abbrev atLaunch (c : Dev nD) : Valuation τ sig (Elt F) := fun b => m ((c : Dev nD), b)
/-- where the call begins, -/
def atCall (c : Dev nD) : Valuation τ sig (Elt F) := StableHlo.after hostOps0 (atLaunch m c)
/-- where it ends, -/
def pastCall (c : Dev nD) : Valuation τ sig (Elt F) := Pipeline.afterRegion (Rows.dat (atCall m) c) (atCall m c)
/-- and where the program ends. -/
def atEnd (c : Dev nD) : Valuation τ sig (Elt F) := StableHlo.after hostOps1 (pastCall m c)

/-- The call's proof data. -/
def pdats : (p : Fin 1) → (c : Dev nD) → Dat τ (Elt F) Unit ℕ (UR nD τ) ℕ (cfgs p) c
  | ⟨0, _⟩ => Rows.dat (atCall m)
  | ⟨_ + 1, h⟩ => absurd h (Nat.not_lt.2 (Nat.le_add_left _ _))

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev idleCore (c : Dev nD) : sProp 𝕄 := iprop(∃ W, owes (c : Thread nD τ) (0 : CellTallies nD τ sig Unit) W)

def seg0 : Pipeline.HostSeg (Name := ℕ) (U := UR nD τ) (pcfgs (F := F)) defs₀ Variants.nat L lv :=
  Pipeline.HostSeg.ofOps _ _ _ _ _ (ucRefs τ sig) hostOps0
    (fun op h => Pipeline.sub_ucRefs op ((List.forall_iff_forall_mem.mp hostOps0_sub) op h))
    (by intro _ h; (repeat (cases h with | head => rfl | tail _ h => ?_)); exact nomatch h) (atLaunch m) idleCore

def seg1 : Pipeline.HostSeg (Name := ℕ) (U := UR nD τ) (pcfgs (F := F)) defs₀ Variants.nat L lv :=
  Pipeline.HostSeg.ofOps _ _ _ _ _ (ucRefs τ sig) hostOps1
    (fun op h => Pipeline.sub_ucRefs op ((List.forall_iff_forall_mem.mp hostOps1_sub) op h))
    (by intro _ h; (repeat (cases h with | head => rfl | tail _ h => ?_)); exact nomatch h) (pastCall m) idleCore

theorem owesAt_intro {cfg : Pipeline.Cfg sig Λ₀} {c : Dev nD} (dat : Dat τ (Elt F) Unit ℕ (UR nD τ) ℕ cfg c) (t : Fin (cfg.N + 1))
    (h0 : dat.owed t = 0) (hr : dat.recorded t = Set.univ) : idleCore (F := F) c ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ (UR nD τ) ℕ cfg c) (t : Fin (cfg.N + 1))
    (h0 : dat.owed t = 0) : (dat.owesAt () t : sProp 𝕄) ⊢ idleCore (F := F) c := by
  unfold Dat.owesAt Pipeline.owesWithin; rw [h0]
  iintro ⟨%W, -, HO⟩; iexists W; iexact HO

theorem no_tables (c : Dev nD) (p : Fin 1) (pf) : (BI.emp : sProp 𝕄)
    ⊢ Pipeline.prefHeld (Ix := Unit) (Name := ℕ) (U := UR nD τ) (Lvl := ℕ) (Val := Elt F) (pcfgs (F := F) p).pre c (fun _ => fullShare) pf := by
  unfold Pipeline.prefHeld
  exact Entails.of_eq (by rw [show (Finset.univ : Finset (Fin ((pcfgs (F := F) p).pre).K)) = ∅ from rfl, BI.bigSep_empty])

set_option backward.isDefEq.respectTransparency.types false in
/-- The call: its arrays taken out of the buffers and put back as it leaves them. -/
def reg0 : Pipeline.RegionSeg (pcfgs (F := F)) adm (pdats m) () defs₀ Variants.nat L lv 0 where
  win := launch0.win.to₀
  block_pos := launch0.block_pos
  stage_whole := launch0.stage_whole
  K := PEmpty
  osem k := k.elim
  ho := Pipeline.OwnSemFacts.none _
  hbody c := Rows.body_obligation (atCall m) c
  hwaits := Pipeline.hwaits_of_owed_zero _ _ _ _ L lv 0 fun _ _ => rfl
  pre c := iprop(StableHlo.held (c : Thread nD τ) (ucRefs τ sig) (atCall m c) ∗ idleCore (F := F) c)
  post c := iprop(StableHlo.held (c : Thread nD τ) (ucRefs τ sig) (pastCall m c) ∗ idleCore (F := F) c)
  X _ := iprop(emp)
  Y _ := iprop(emp)
  Z c := Pipeline.unscopedRest (Ix := Unit) (Name := ℕ) (U := UR nD τ) (Lvl := ℕ) spec0 c fun b => atCall m c (Proc.devRef .tc b)
  hentry c := by
    rw [Pipeline.ownSems0_none,
      show StableHlo.held (c : Thread nD τ) (ucRefs τ sig) (atCall m c) = unscopedBufs c (fun b => atCall m c (Proc.devRef .tc b))
        from (Pipeline.unscopedBufs_held (Ix := Unit) (Name := ℕ) (U := UR nD τ) (Lvl := ℕ) c (atCall m c)).symm]
    have hsplit := Pipeline.arrays_of_unscopedBufs (p := 0) (pcfgs (F := F)) adm (pdats m) launch0.win launch0.arr_whole c
      ((pdats m 0 c).share_full fun _ => rfl) (fun b => atCall m c (Proc.devRef .tc b)) (fun _ => rfl)
    iintro ⟨⟨Hub, HO⟩, -, -⟩
    ihave H := hsplit $$ Hub
    icases H with ⟨Ha, Hrest⟩
    imodintro
    isplitl [Ha]; · iexact Ha
    isplitr; · iapply (no_tables c 0); iempintro
    isplitl [HO]; · iapply (owesAt_intro (pdats m 0 c) 0 rfl rfl); iexact HO
    isplitr; · iempintro
    iexact Hrest
  hin c := by
    rw [show (pdats m 0 c).Φ 0 = Rows.inv (atCall m) c 0 from rfl]
    iintro ⟨-, -, Hr⟩
    iapply (Rows.inv_in (atCall m) c); iexact Hr
  hout c := by
    rw [Pipeline.ownSems0_none, show (pdats m 0 c).Φ (Fin.last _) = Rows.inv (atCall m) c 32 from rfl]
    iintro H
    isplitr; · iempintro
    isplitr; · iempintro
    iapply (Rows.inv_out (atCall m) c); iexact H
  hexit c := by
    have hjoin := Pipeline.unscopedBufs_of_arrays (p := 0) (pcfgs (F := F)) adm (Ix := Unit) (Name := ℕ) (U := UR nD τ) (Lvl := ℕ)
      launch0.win launch0.arr_whole c (pdats m) ((pdats m 0 c).share_full fun _ => rfl)
      (fun b => atCall m c (Proc.devRef .tc b)) (fun b => pastCall m c (Proc.devRef .tc b)) ((pdats m 0 c).arrAt · cfg0.N)
      (fun w => (Pipeline.afterRegion_arr (pdats m 0 c) (atCall m c) launch0.win.arr_inj w).symm)
      (fun b hb => Pipeline.afterRegion_of_not_arr (pdats m 0 c) (atCall m c)
        fun w h => hb (h ▸ Finset.mem_image.mpr ⟨w, Finset.mem_univ _, rfl⟩))
    rw [show StableHlo.held (c : Thread nD τ) (ucRefs τ sig) (pastCall m c) = unscopedBufs c (fun b => pastCall m c (Proc.devRef .tc b))
        from (Pipeline.unscopedBufs_held (Ix := Unit) (Name := ℕ) (U := UR nD τ) (Lvl := ℕ) c (pastCall m c)).symm]
    iintro ⟨Ha, HO, -, Hrest⟩
    imodintro
    isplitl [Ha Hrest]
    · iapply hjoin; isplitl [Ha] <;> iassumption
    iapply (owesAt_elim (pdats m 0 c) _ rfl); iexact HO

/-- The program as its three parts. -/
abbrev segs : List (Pipeline.Seg (pcfgs (F := F)) adm (pdats m) () defs₀ Variants.nat L lv) :=
  [.host (seg0 m), .region (reg0 m), .host (seg1 m)]

/-- The buffers that outlive the call. -/
abbrev kept : Finset (Ref sig .tc) := Finset.univ.filter fun b : Ref sig .tc => ¬ b.isScoped

set_option backward.isDefEq.respectTransparency.types false in
/-- From any memory, every execution ends with every buffer as the three parts leave it and the counters at zero. -/
theorem run_all : θ_run (defs (F := F)) (onTc (τ := τ) (main (F := F))) ⟨m, fun _ => 0, g⟩ (fun r =>
    (∀ c : Dev nD, ∀ b ∈ kept, r.2.mem ((c.tc : Thread nD τ).loc b) = atEnd m c (Proc.devRef .tc b))
    ∧ r.2.sem = fun _ => 0) :=
  Pipeline.θ_run_regions_kit_sems (pcfgs (F := F)) adm (pdats m) () cellOf_inj emb₁ defs₀ Variants.nat L lv m g main (segs m)
    (fun c Q => by rw [main_segs adm (pdats m) () Variants.nat L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (atLaunch m c) ∗ idleCore (F := F) c)) (Tₙ := fun c => iprop(StableHlo.held (c : Thread nD τ) (ucRefs τ sig) (atEnd m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (atLaunch m c)
          from Pipeline.unscopedBufs_held (Ix := Unit) (Name := ℕ) (U := UR nD τ) (Lvl := ℕ) c (atLaunch m c)]
      iintro ⟨⟨Hh, -, HO, -, -, -⟩, -⟩
      imodintro
      isplitl [Hh]; · iexact Hh
      iexists ∅; iexact HO)
    (QY := fun c s => ∀ b ∈ kept, s.mem ((c.tc : Thread nD τ).loc b) = atEnd m c (Proc.devRef .tc b))
    (hfin := fun c s' => by
      rw [show StableHlo.held (c : Thread nD τ) (ucRefs τ sig) (atEnd m c) = unscopedBufs c (fun b => atEnd m c (Proc.devRef .tc b))
          from (Pipeline.unscopedBufs_held (Ix := Unit) (Name := ℕ) (U := UR nD τ) (Lvl := ℕ) c (atEnd m c)).symm]
      unfold unscopedBufs
      iintro ⟨Hb, HSI⟩
      ihave H := (pointsTo_read_all kept (fun b => (c.tc : Thread nD τ).loc b) (fun b => atEnd m c (Proc.devRef .tc b)) s') $$ [Hb HSI]
      · isplitl [Hb] <;> iassumption
      imodintro
      iexact H)
    (hQ := fun _ h hz => ⟨h, funext fun g => hz g (.inr (by revert g; decide))⟩)

/-! ### The arguments end as launched -/

set_option maxHeartbeats 4000000 in
theorem args_atCall (c : Dev nD) : atCall m c (Proc.devRef .tc main_arg0) = m ((c.tc : Thread nD τ).loc main_arg0)
    ∧ atCall m c (Proc.devRef .tc main_arg1) = m ((c.tc : Thread nD τ).loc main_arg1)
    ∧ atCall m c (Proc.devRef .tc main_arg2) = m ((c.tc : Thread nD τ).loc main_arg2)
    ∧ atCall m c (Proc.devRef .tc main_arg3) = m ((c.tc : Thread nD τ).loc main_arg3)
    ∧ atCall m c (Proc.devRef .tc main_arg4) = m ((c.tc : Thread nD τ).loc main_arg4)
    ∧ atCall m c (Proc.devRef .tc main_arg5) = m ((c.tc : Thread nD τ).loc main_arg5)
    ∧ atCall m c (Proc.devRef .tc main_arg6) = m ((c.tc : Thread nD τ).loc main_arg6)
    ∧ atCall m c (Proc.devRef .tc main_arg7) = m ((c.tc : Thread nD τ).loc main_arg7)
    ∧ atCall m c (Proc.devRef .tc main_arg8) = m ((c.tc : Thread nD τ).loc main_arg8)
    ∧ atCall m c (Proc.devRef .tc main_arg9) = m ((c.tc : Thread nD τ).loc main_arg9)
    ∧ atCall m c (Proc.devRef .tc main_arg10) = m ((c.tc : Thread nD τ).loc main_arg10)
    ∧ atCall m c (Proc.devRef .tc main_arg11) = m ((c.tc : Thread nD τ).loc main_arg11)
    ∧ atCall m c (Proc.devRef .tc main_arg12) = m ((c.tc : Thread nD τ).loc main_arg12)
    ∧ atCall m c (Proc.devRef .tc main_arg13) = m ((c.tc : Thread nD τ).loc main_arg13)
    ∧ atCall m c (Proc.devRef .tc main_arg14) = m ((c.tc : Thread nD τ).loc main_arg14) := by
  unfold atCall
  simp only [hostOps0]
  refine ⟨?_, ?_, ?_, ?_, ?_, ?_, ?_, ?_, ?_, ?_, ?_, ?_, ?_, ?_, ?_⟩
  all_goals after_results_simp
  all_goals rfl

theorem pastCall_other (c : Dev nD) (b : Ref sig .tc) (h : ∀ w : Fin 18, Pipeline.arrRef spec0 w ≠ b) :
    pastCall m c (Proc.devRef .tc b) = atCall m c (Proc.devRef .tc b) :=
  Pipeline.afterRegion_of_not_arr (Rows.dat (atCall m) c) (atCall m c) fun w e => h w e.symm

theorem pastCall_arr (c : Dev nD) (w : Fin 18) :
    pastCall m c (Proc.devRef .tc (Pipeline.arrRef spec0 w)) = (Rows.dat (atCall m) c).arrAt w cfg0.N :=
  Pipeline.afterRegion_arr (Rows.dat (atCall m) c) (atCall m c) launch0.win.arr_inj w

set_option maxHeartbeats 4000000 in
theorem args_atEnd (c : Dev nD) : atEnd m c (Proc.devRef .tc main_arg0) = m ((c.tc : Thread nD τ).loc main_arg0)
    ∧ atEnd m c (Proc.devRef .tc main_arg1) = m ((c.tc : Thread nD τ).loc main_arg1)
    ∧ atEnd m c (Proc.devRef .tc main_arg2) = m ((c.tc : Thread nD τ).loc main_arg2)
    ∧ atEnd m c (Proc.devRef .tc main_arg3) = m ((c.tc : Thread nD τ).loc main_arg3)
    ∧ atEnd m c (Proc.devRef .tc main_arg4) = m ((c.tc : Thread nD τ).loc main_arg4)
    ∧ atEnd m c (Proc.devRef .tc main_arg5) = m ((c.tc : Thread nD τ).loc main_arg5)
    ∧ atEnd m c (Proc.devRef .tc main_arg6) = m ((c.tc : Thread nD τ).loc main_arg6)
    ∧ atEnd m c (Proc.devRef .tc main_arg7) = m ((c.tc : Thread nD τ).loc main_arg7)
    ∧ atEnd m c (Proc.devRef .tc main_arg8) = m ((c.tc : Thread nD τ).loc main_arg8)
    ∧ atEnd m c (Proc.devRef .tc main_arg9) = m ((c.tc : Thread nD τ).loc main_arg9)
    ∧ atEnd m c (Proc.devRef .tc main_arg10) = m ((c.tc : Thread nD τ).loc main_arg10)
    ∧ atEnd m c (Proc.devRef .tc main_arg11) = m ((c.tc : Thread nD τ).loc main_arg11)
    ∧ atEnd m c (Proc.devRef .tc main_arg12) = m ((c.tc : Thread nD τ).loc main_arg12)
    ∧ atEnd m c (Proc.devRef .tc main_arg13) = m ((c.tc : Thread nD τ).loc main_arg13)
    ∧ atEnd m c (Proc.devRef .tc main_arg14) = m ((c.tc : Thread nD τ).loc main_arg14) := by
  obtain ⟨h0, h1, h2, h3, h4, h5, h6, h7, h8, h9, h10, h11, h12, h13, h14⟩ := args_atCall m c
  unfold atEnd
  simp only [hostOps1]
  refine ⟨?_, ?_, ?_, ?_, ?_, ?_, ?_, ?_, ?_, ?_, ?_, ?_, ?_, ?_, ?_⟩
  all_goals after_results_simp
  · exact (pastCall_arr m c 0).trans ((Dat.arrAt_in (Rows.dat (atCall m) c) (0 : Fin 18) rfl _).trans h0)
  · exact (pastCall_arr m c 1).trans ((Dat.arrAt_in (Rows.dat (atCall m) c) (1 : Fin 18) rfl _).trans h1)
  · exact (pastCall_arr m c 2).trans ((Dat.arrAt_in (Rows.dat (atCall m) c) (2 : Fin 18) rfl _).trans h2)
  · exact (pastCall_other m c main_arg3 (by decide)).trans h3
  · exact (pastCall_other m c main_arg4 (by decide)).trans h4
  · exact (pastCall_other m c main_arg5 (by decide)).trans h5
  · exact (pastCall_other m c main_arg6 (by decide)).trans h6
  · exact (pastCall_other m c main_arg7 (by decide)).trans h7
  · exact (pastCall_other m c main_arg8 (by decide)).trans h8
  · exact (pastCall_other m c main_arg9 (by decide)).trans h9
  · exact (pastCall_other m c main_arg10 (by decide)).trans h10
  · exact (pastCall_other m c main_arg11 (by decide)).trans h11
  · exact (pastCall_other m c main_arg12 (by decide)).trans h12
  · exact (pastCall_other m c main_arg13 (by decide)).trans h13
  · exact (pastCall_other m c main_arg14 (by decide)).trans h14

set_option maxHeartbeats 2000000 in
/-- The two results: the first array as the call leaves it, and the second's rows of 128 as rows of 1024. -/
theorem results_atEnd (c : Dev nD) : atEnd m c (Proc.devRef .tc main_v16_0) = (Rows.dat (atCall m) c).arrAt (13 : Fin 18) cfg0.N
    ∧ atEnd m c (Proc.devRef .tc main_v17)
      = shapeCast S16384x1024 ((Rows.dat (atCall m) c).arrAt (14 : Fin 18) cfg0.N) shapeCasts_S131072x128_S16384x1024 := by
  unfold atEnd
  simp only [hostOps1]
  refine ⟨?_, ?_⟩
  all_goals after_results_simp
  · exact pastCall_arr m c 13
  · exact congrArg (fun A => shapeCast S16384x1024 A shapeCasts_S131072x128_S16384x1024) (pastCall_arr m c 14)

theorem mem_kept (b : Ref sig .tc) (h : b.isScoped = false) : b ∈ kept :=
  Finset.mem_filter.mpr ⟨Finset.mem_univ _, by rw [h]; decide⟩

/-- Every run ends with the two results and the arguments as named here, and the counters at zero. -/
theorem run : θ_run (defs (F := F)) (onTc (τ := τ) (main (F := F))) ⟨m, fun _ => 0, g⟩ (fun r =>
    (∀ c : Dev nD, (r.2.mem ((c.tc : Thread nD τ).loc main_v16_0) = atEnd m c (Proc.devRef .tc main_v16_0)
        ∧ r.2.mem ((c.tc : Thread nD τ).loc main_v17) = atEnd m c (Proc.devRef .tc main_v17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
    ∧ r.2.sem = fun _ => 0) :=
  (θ_run defs _ _).mono (fun r h => ⟨fun c => by
    obtain ⟨h0, h1, h2, h3, h4, h5, h6, h7, h8, h9, h10, h11, h12, h13, h14⟩ := args_atEnd m c
    have k := fun b hs => h.1 c b (mem_kept b hs)
    exact ⟨⟨k main_v16_0 rfl, k main_v17 rfl⟩,
      (k main_arg0 rfl).trans h0, (k main_arg1 rfl).trans h1, (k main_arg2 rfl).trans h2, (k main_arg3 rfl).trans h3, (k main_arg4 rfl).trans h4, (k main_arg5 rfl).trans h5, (k main_arg6 rfl).trans h6, (k main_arg7 rfl).trans h7, (k main_arg8 rfl).trans h8, (k main_arg9 rfl).trans h9, (k main_arg10 rfl).trans h10, (k main_arg11 rfl).trans h11, (k main_arg12 rfl).trans h12, (k main_arg13 rfl).trans h13, (k main_arg14 rfl).trans h14⟩, h.2⟩) (run_all m g)

end Cert.MergeIdeal.Whole

end
-- ==== Proof.MergeFrames.lean ====
/-
  The frames of the merge's three programs: the kernel and its idealization by one run, their texts being one; the reference
  by the run of its host operations (it has no semaphore).
-/
module

public import proofs.«01_k».proof.Defs
public import proofs.«01_k».proof.Proof.Gen.MergeReferenceIdeal.Run
public import proofs.«01_k».proof.Proof.Merge.Host
public import proofs.«01_k».proof.Proof.Gen.Merge
public import Idealize.ShloMosaic.Init

@[expose] public section

noncomputable section

namespace Cert.Proof

open Idealize.ShloMosaic Idealize.SL.Sem

section
attribute [local instance] Cert.Merge.Gen.facts Cert.MergeIdeal.Gen.facts

set_option maxHeartbeats 4000000 in
/-- The kernel and its idealization have one body, -/
theorem merge_defs₀ : Cert.Merge.defs₀ (F := Bits) = Cert.MergeIdeal.defs₀ (F := Bits) := by
  funext κ
  cases κ
  · funext l a
    match l with
    | ⟨0, _⟩ => rfl
    | ⟨_ + 1, h⟩ => exact absurd h (Nat.not_lt.2 (Nat.le_add_left _ _))
  · rfl
  · rfl
/-- one pipeline around it -/
theorem merge_defs : Cert.Merge.defs (F := Bits) = Cert.MergeIdeal.defs (F := Bits) :=
  congrArg (Pipeline.defs Cert.MergeIdeal.pcfgs) merge_defs₀
set_option maxHeartbeats 4000000 in
/-- and one text around the call. -/
theorem merge_main : Cert.Merge.main (F := Bits) = Cert.MergeIdeal.main (F := Bits) := rfl

set_option maxHeartbeats 4000000 in
theorem mergeFrameBits : Cert.quiescent_Merge (hMerge := Cert.Merge.Gen.facts) := fun m g _ =>
  (congrArg₂ (fun D M => θ_run D (onTc (τ := Cert.MergeIdeal.τ) M) ⟨m, fun _ => 0, g⟩ _) merge_defs merge_main).mpr
    ((θ_run Cert.MergeIdeal.defs _ _).mono (fun _ h => ⟨fun c => (h.1 c).2, h.2⟩) (Cert.MergeIdeal.Whole.run (F := Bits) m g))

end

theorem mergeFrameIdeal : Cert.quiescent_MergeIdeal (hMergeIdeal := Cert.MergeIdeal.Gen.facts) := fun m g _ =>
  (θ_run Cert.MergeIdeal.defs _ _).mono (fun _ h => ⟨fun c => (h.1 c).2, h.2⟩) (Cert.MergeIdeal.Whole.run (F := Ideal) m g)

theorem mergeFrameReference : Cert.quiescent_MergeReferenceIdeal (hMergeReferenceIdeal := Cert.MergeReferenceIdeal.Gen.facts) := fun m g _ =>
  (θ_run Cert.MergeReferenceIdeal.defs _ _).mono (fun r h => ⟨fun c => (h c).2.2, sem_eq_zero_of_no_sems (by decide) r.2⟩)
    (Cert.MergeReferenceIdeal.Value.run (F := Ideal) m g)

end Cert.Proof

end
-- ==== Proof.Math.Merged.lean ====
/-
  Three branches merged, as functions of natural numbers: each branch's product with its weights under the logistic of its
  gates, their sum, and what the sum adds to the rows.
-/
module

public import proofs.«01_k».proof.Proof.Math.Layer

@[expose] public section

noncomputable section

namespace Cert.Math

open Idealize.ShloMosaic
open scoped BigOperators

/-- The entry at three places of an array of three dimensions. -/
def cube {n v w : ℕ} (A : (⟨3, ![n, v, w]⟩ : Shape).Idx → EReal) (i k e : ℕ) : EReal :=
  if h : i < n ∧ k < v ∧ e < w then A (ix3 ⟨i, h.1⟩ ⟨k, h.2.1⟩ ⟨e, h.2.2⟩) else 0

theorem cube_of {n v w : ℕ} (A : (⟨3, ![n, v, w]⟩ : Shape).Idx → EReal) (x : (⟨3, ![n, v, w]⟩ : Shape).Idx) {i k e : ℕ}
    (h0 : (x 0).val = i) (h1 : (x 1).val = k) (h2 : (x 2).val = e) : A x = cube A i k e := by
  subst h0 h1 h2
  rw [cube, dif_pos ⟨(x 0).isLt, (x 1).isLt, (x 2).isLt⟩]
  exact congrArg A (funext fun a => by match a with | 0 => rfl | 1 => rfl | 2 => rfl)

/-- One branch: its product with its weights under the logistic of its gates. -/
def branch (b : ℕ → ℕ → EReal) (y : ℕ → ℕ → EReal) (w : ℕ → ℕ → ℕ → EReal) (i s e : ℕ) : EReal :=
  Ideal.logistic (b s (1024 * i + e)) * ∑ k ∈ Finset.range 512, y s k * w i k e

/-- The three merged. -/
def merged (b : ℕ → ℕ → EReal) (ya yb yc : ℕ → ℕ → EReal) (w : ℕ → ℕ → ℕ → EReal) (s e : ℕ) : EReal :=
  branch b ya w 0 s e + branch b yb w 1 s e + branch b yc w 2 s e

/-- The rows with the merged branches' product with the weights added, by a gate for each column. -/
def added (x : ℕ → ℕ → EReal) (g : ℕ → EReal) (m w : ℕ → ℕ → EReal) (s e : ℕ) : EReal := x s e + g e * product m w s e

end Cert.Math

end
-- ==== Proof.Merge.Value.lean ====
/-
  The arithmetic of the merge's points read at a place: the branches, the rows they are added to, and these normalised.
-/
module

public import proofs.«01_k».proof.Proof.Merge.Tile
public import proofs.«01_k».proof.Proof.Math.Merged
public import Idealize.ShloMosaic.Lib.Pointwise

@[expose] public section

set_option maxRecDepth 16384

noncomputable section

namespace Cert.MergeIdeal.Rows

open Cert.MergeIdeal Cert.MergeIdeal.Gen
open Idealize.ShloMosaic
open Cert.Math (invRms modulated product branch merged added)
open scoped BigOperators

theorem two_branches (P R : S512x1024.Idx → EReal) (Y Z : S512x512.Idx → EReal) (W U : S1x512x1024.Idx → EReal) (r : Fin 512) (e : Fin 1024)
    {p q : EReal} {y z w u : ℕ → EReal} (hP : P (ix2 r e) = p) (hR : R (ix2 r e) = q) (hY : ∀ k : Fin 512, Y (ix2 r k) = y k)
    (hZ : ∀ k : Fin 512, Z (ix2 r k) = z k) (hW : ∀ k : Fin 512, W (ix3 0 k e) = w k) (hU : ∀ k : Fin 512, U (ix3 0 k e) = u k) :
    k0_pay5 (F := Ideal) P Y W R Z U (ix2 r e)
      = Ideal.logistic p * (∑ k ∈ Finset.range 512, y k * w k) + Ideal.logistic q * ∑ k ∈ Finset.range 512, z k * u k := by
  unfold k0_pay5
  simp only [pointwise]
  rw [zero_add, zero_add, Finset.sum_range fun k => y k * w k, Finset.sum_range fun k => z k * u k]
  exact congrArg₂ (· + ·)
    (congrArg₂ (· * ·) (congrArg Ideal.logistic hP) (Finset.sum_congr rfl fun k _ => congrArg₂ (· * ·) (hY k) (hW k)))
    (congrArg₂ (· * ·) (congrArg Ideal.logistic hR) (Finset.sum_congr rfl fun k _ => congrArg₂ (· * ·) (hZ k) (hU k)))

section
variable (I : Blocks Ideal) {b ya yb yc x wo : ℕ → ℕ → EReal} {w : ℕ → ℕ → ℕ → EReal} {g gn sc sh : ℕ → EReal} {r : Fin 512} {s : ℕ}
    (hb : ∀ e : Fin 3072, I.br (ix2 r e) = b s e) (ha : ∀ k : Fin 512, I.ya (ix2 r k) = ya s k) (hb' : ∀ k : Fin 512, I.yb (ix2 r k) = yb s k)
    (hc : ∀ k : Fin 512, I.yc (ix2 r k) = yc s k) (hw : ∀ (i : Fin 3) (k : Fin 512) (e : Fin 1024), I.wb (ix3 i k e) = w i k e)
    (hx : ∀ e : Fin 1024, I.x (ix2 r e) = x s e) (hg : ∀ e : Fin 1024, I.gate (ix2 0 e) = g e)
    (ho : ∀ k e : Fin 1024, I.wo (ix2 k e) = wo k e)
include hb ha hb' hc hw

theorem branches_at (e : Fin 1024) :
    k0_pay5 (F := Ideal) (gates0 I.br) I.ya (part0 I.wb) (gates1 I.br) I.yb (part1 I.wb) (ix2 r e) = branch b ya w 0 s e + branch b yb w 1 s e := by
  refine two_branches (gates0 I.br) (gates1 I.br) I.ya I.yb (part0 I.wb) (part1 I.wb) r e (y := ya s) (z := yb s) (w := fun k => w 0 k e)
    (u := fun k => w 1 k e) (p := b s (1024 * 0 + e)) (q := b s (1024 * 1 + e)) ?_ ?_ ha hb' (fun k => ?_) (fun k => ?_)
  · refine (congrArg I.br (funext fun a => ?_)).trans (hb ⟨1024 * 0 + e.val, by omega⟩)
    match a with
    | 0 => exact Fin.ext (show 0 + 1 * r.val = r.val by omega)
    | 1 => exact Fin.ext (show 0 + 1 * e.val = 1024 * 0 + e.val by omega)
  · refine (congrArg I.br (funext fun a => ?_)).trans (hb ⟨1024 * 1 + e.val, by omega⟩)
    match a with
    | 0 => exact Fin.ext (show 0 + 1 * r.val = r.val by omega)
    | 1 => exact Fin.ext (show 1024 + 1 * e.val = 1024 * 1 + e.val by omega)
  · refine (congrArg I.wb (funext fun a => ?_)).trans (hw 0 k e)
    match a with
    | 0 => exact Fin.ext (show 0 + 1 * 0 = 0 by omega)
    | 1 => exact Fin.ext (show 0 + 1 * k.val = k.val by omega)
    | 2 => exact Fin.ext (show 0 + 1 * e.val = e.val by omega)
  · refine (congrArg I.wb (funext fun a => ?_)).trans (hw 1 k e)
    match a with
    | 0 => exact Fin.ext (show 1 + 1 * 0 = 1 by omega)
    | 1 => exact Fin.ext (show 0 + 1 * k.val = k.val by omega)
    | 2 => exact Fin.ext (show 0 + 1 * e.val = e.val by omega)

theorem third_gate (e : Fin 1024) : gates2 I.br (ix2 r e) = b s (1024 * 2 + e) := by
  refine (congrArg I.br (funext fun a => ?_)).trans (hb ⟨1024 * 2 + e.val, by omega⟩)
  match a with
  | 0 => exact Fin.ext (show 0 + 1 * r.val = r.val by omega)
  | 1 => exact Fin.ext (show 2048 + 1 * e.val = 1024 * 2 + e.val by omega)

theorem third_part (k : Fin 512) (e : Fin 1024) : part2 I.wb (ix3 0 k e) = w 2 k e := by
  refine (congrArg I.wb (funext fun a => ?_)).trans (hw 2 k e)
  match a with
  | 0 => exact Fin.ext (show 2 + 1 * 0 = 2 by omega)
  | 1 => exact Fin.ext (show 0 + 1 * k.val = k.val by omega)
  | 2 => exact Fin.ext (show 0 + 1 * e.val = e.val by omega)

include hx hg ho

/-- The rows with the merged branches added, -/
theorem newRows_at (e : Fin 1024) : newRows (F := Ideal) I (ix2 r e) = added x g (merged b ya yb yc w) wo s e := by
  unfold newRows k0_pay9 k0_pay6 k0_pay7 k0_pay8 added product
  simp only [pointwise]
  rw [zero_add, Finset.sum_range fun k => merged b ya yb yc w s k * wo k e]
  refine congrArg₂ (· + ·) (hx e) (congrArg₂ (· * ·) (hg e) (Finset.sum_congr rfl fun k _ => congrArg₂ (· * ·) ?_ (ho k e)))
  unfold merged
  refine congrArg₂ (· + ·) (branches_at I hb ha hb' hc hw k) ?_
  unfold branch
  rw [zero_add, Finset.sum_range fun j => yc s j * w 2 j k]
  exact congrArg₂ (· * ·) (congrArg Ideal.logistic (third_gate I hb ha hb' hc hw k))
    (Finset.sum_congr rfl fun j _ => congrArg₂ (· * ·) (hc j) (third_part I hb ha hb' hc hw j k))

/-- and these normalised. -/
theorem normRows_at (hgn : ∀ e : Fin 1024, I.gain (ix2 0 e) = gn e) (hsc : ∀ e : Fin 1024, I.scale (ix2 0 e) = sc e)
    (hsh : ∀ e : Fin 1024, I.shift (ix2 0 e) = sh e) (e : Fin 1024) :
    normRows (F := Ideal) I (ix2 r e) = modulated (added x g (merged b ya yb yc w) wo) gn sc sh s e := by
  have h := newRows_at I hb ha hb' hc hw hx hg ho
  unfold newRows at h
  unfold normRows k0_pay10 modulated invRms
  generalize k0_pay9 (F := Ideal) _ _ _ _ _ _ _ _ = X at h ⊢
  simp only [pointwise]
  rw [Finset.sum_range fun k => added x g (merged b ya yb yc w) wo s k * added x g (merged b ya yb yc w) wo s k]
  refine congrArg₂ (· + ·) (congrArg₂ (· * ·) (congrArg₂ (· * ·) (congrArg₂ (· * ·) (h e)
    (congrArg (fun u => Ideal.rsqrt (Ideal.div u _ + _)) (Finset.sum_congr rfl fun k _ => congrArg₂ (· * ·) (h k) (h k))))
    (hgn e)) (congrArg (1 + ·) (hsc e))) (hsh e)

end

end Cert.MergeIdeal.Rows

end
-- ==== Proof.Merge.Arrays.lean ====
/-
  What the merge leaves in its first two result arrays, given its argument arrays at every place: the rows with the merged
  branches added, and these normalised, each row as eight rows of 128.
-/
module

public import proofs.«01_k».proof.Proof.Merge.Data
public import proofs.«01_k».proof.Proof.Merge.Value
public import Idealize.ShloMosaic.Lib.Pipeline.ValueKit

@[expose] public section

set_option maxRecDepth 16384

noncomputable section

namespace Cert.MergeIdeal.Rows

open Cert.MergeIdeal Cert.MergeIdeal.Gen
open Idealize.ShloMosaic Idealize.ShloMosaic.TcCoe Idealize.ShloMosaic.Tactic
open Cert.Math (cell cell_of cube cube_of modulated product merged added)

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![0, 0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_13 : ∀ t : Fin grid0.N, win0_13.index t = ![t.val, 0] := by decide +kernel
theorem index_14 : ∀ t : Fin grid0.N, win0_14.index t = ![t.val, 0] := by decide +kernel

variable (V : Dev nD → Valuation τ sig (Elt Ideal)) (c : Dev nD)

/-! ### A point's blocks -/

abbrev yas : S16384x512.Idx → EReal := arrAt V c 0
abbrev ybs : S16384x512.Idx → EReal := arrAt V c 1
abbrev ycs : S16384x512.Idx → EReal := arrAt V c 2
abbrev brs : S16384x8192.Idx → EReal := arrAt V c 3
abbrev xs : S16384x1024.Idx → EReal := arrAt V c 4
abbrev wbs : S3x512x1024.Idx → EReal := arrAt V c 5
abbrev wos : S1024x1024.Idx → EReal := arrAt V c 6
abbrev gates : S1x1024.Idx → EReal := arrAt V c 7
abbrev gains : S1x1024.Idx → EReal := arrAt V c 8
abbrev scales : S1x1024.Idx → EReal := arrAt V c 9
abbrev shifts : S1x1024.Idx → EReal := arrAt V c 10

theorem blk0_at (t : Fin grid0.N) (r k : Fin 512) : blk0 V c t (ix2 r k) = cell (yas V c) (512 * t.val + r) k := by
  unfold blk0
  rw [View.read_apply]
  refine cell_of (yas V c) _ ?_ ?_
  all_goals blk_simp [index_0]
  all_goals omega

theorem blk1_at (t : Fin grid0.N) (r k : Fin 512) : blk1 V c t (ix2 r k) = cell (ybs V c) (512 * t.val + r) k := by
  unfold blk1
  rw [View.read_apply]
  refine cell_of (ybs V c) _ ?_ ?_
  all_goals blk_simp [index_1]
  all_goals omega

theorem blk2_at (t : Fin grid0.N) (r k : Fin 512) : blk2 V c t (ix2 r k) = cell (ycs V c) (512 * t.val + r) k := by
  unfold blk2
  rw [View.read_apply]
  refine cell_of (ycs V c) _ ?_ ?_
  all_goals blk_simp [index_2]
  all_goals omega

theorem blk3_at (t : Fin grid0.N) (r : Fin 512) (k : Fin 3072) : blk3 V c t (ix2 r k) = cell (brs V c) (512 * t.val + r) k := by
  unfold blk3 Pipeline.Window.fill
  rw [dif_pos (moved t _), View.read_apply]
  refine cell_of (brs V c) _ ?_ ?_
  all_goals blk_simp [index_3]
  all_goals try dsimp only
  all_goals omega

theorem blk4_at (t : Fin grid0.N) (r : Fin 512) (k : Fin 1024) : blk4 V c t (ix2 r k) = cell (xs V c) (512 * t.val + r) k := by
  unfold blk4
  rw [View.read_apply]
  refine cell_of (xs V c) _ ?_ ?_
  all_goals blk_simp [index_4]
  all_goals omega

theorem blk5_at (t : Fin grid0.N) (i : Fin 3) (k : Fin 512) (e : Fin 1024) : blk5 V c t (ix3 i k e) = cube (wbs V c) i k e := by
  unfold blk5
  rw [View.read_apply]
  refine cube_of (wbs V c) _ ?_ ?_ ?_
  all_goals blk_simp [index_5]

theorem blk6_at (t : Fin grid0.N) (k e : Fin 1024) : blk6 V c t (ix2 k e) = cell (wos V c) k e := by
  unfold blk6
  rw [View.read_apply]
  refine cell_of (wos V c) _ ?_ ?_
  all_goals blk_simp [index_6]

theorem blk7_at (t : Fin grid0.N) (k : Fin 1024) : blk7 V c t (ix2 0 k) = cell (gates V c) 0 k := by
  unfold blk7
  rw [View.read_apply]
  refine cell_of (gates V c) _ ?_ ?_
  all_goals blk_simp [index_7]
  try rfl

theorem blk8_at (t : Fin grid0.N) (k : Fin 1024) : blk8 V c t (ix2 0 k) = cell (gains V c) 0 k := by
  unfold blk8
  rw [View.read_apply]
  refine cell_of (gains V c) _ ?_ ?_
  all_goals blk_simp [index_8]
  try rfl

theorem blk9_at (t : Fin grid0.N) (k : Fin 1024) : blk9 V c t (ix2 0 k) = cell (scales V c) 0 k := by
  unfold blk9
  rw [View.read_apply]
  refine cell_of (scales V c) _ ?_ ?_
  all_goals blk_simp [index_9]
  try rfl

theorem blk10_at (t : Fin grid0.N) (k : Fin 1024) : blk10 V c t (ix2 0 k) = cell (shifts V c) 0 k := by
  unfold blk10
  rw [View.read_apply]
  refine cell_of (shifts V c) _ ?_ ?_
  all_goals blk_simp [index_10]
  try rfl

/-! ### The arrays -/

/-- Rows of 1024 numbers. -/
def asRows (h : ℕ → ℕ → EReal) : S16384x1024.Idx → EReal := fun y => h (y 0).val (y 1).val
/-- A row's 1024 numbers as eight rows of 128. -/
def asTiles (h : ℕ → ℕ → EReal) : S131072x128.Idx → EReal := fun y => h ((y 0).val / 8) (128 * ((y 0).val % 8) + (y 1).val)

variable {b ya yb yc x wo : ℕ → ℕ → EReal} {w : ℕ → ℕ → ℕ → EReal} {g gn sc sh : ℕ → EReal}
    (hya : ∀ s k, s < 16384 → k < 512 → cell (yas V c) s k = ya s k) (hyb : ∀ s k, s < 16384 → k < 512 → cell (ybs V c) s k = yb s k)
    (hyc : ∀ s k, s < 16384 → k < 512 → cell (ycs V c) s k = yc s k) (hbr : ∀ s k, s < 16384 → k < 3072 → cell (brs V c) s k = b s k)
    (hx : ∀ s k, s < 16384 → k < 1024 → cell (xs V c) s k = x s k)
    (hw : ∀ i k e, i < 3 → k < 512 → e < 1024 → cube (wbs V c) i k e = w i k e)
    (ho : ∀ k e, k < 1024 → e < 1024 → cell (wos V c) k e = wo k e) (hg : ∀ k, k < 1024 → cell (gates V c) 0 k = g k)
include hya hyb hyc hbr hx hw ho hg

theorem rows_result : (dat V c).arrAt (13 : Fin 18) cfg0.N
    = asRows (added x g (merged b ya yb yc w) wo) := by
  refine (dat V c).arrAt_eq_of_covers 13 _ (by decide +kernel) fun t hf y => ?_
  have ht : t.val < 32 := lt_of_lt_of_eq t.isLt N_0
  have h0 : (y 0).val < 512 := (y 0).isLt
  have h1 : (y 1).val < 1024 := (y 1).isLt
  have e0 : ((((win0_13.blk t).view.emb y 0 : Fin _) : ℕ)) = 512 * t.val + (y 0).val := by
    blk_simp [index_13]
    omega
  have e1 : ((((win0_13.blk t).view.emb y 1 : Fin _) : ℕ)) = (y 1).val := by
    blk_simp [index_13]
  have hy : y = ix2 ⟨(y 0).val, h0⟩ ⟨(y 1).val, h1⟩ := funext fun a => by match a with | 0 => rfl | 1 => rfl
  blk_simp []
  show newRows (blocks V c t) y = asRows _ ((win0_13.blk t).view.emb y)
  unfold asRows
  rw [e0, e1]
  exact (congrArg _ hy).trans (newRows_at (blocks V c t) (s := 512 * t.val + (y 0).val)
    (fun k => (blk3_at V c t _ k).trans (hbr _ _ (by show 512 * t.val + (y 0).val < 16384; omega) k.isLt))
    (fun k => (blk0_at V c t _ k).trans (hya _ _ (by show 512 * t.val + (y 0).val < 16384; omega) k.isLt))
    (fun k => (blk1_at V c t _ k).trans (hyb _ _ (by show 512 * t.val + (y 0).val < 16384; omega) k.isLt))
    (fun k => (blk2_at V c t _ k).trans (hyc _ _ (by show 512 * t.val + (y 0).val < 16384; omega) k.isLt))
    (fun i k e => (blk5_at V c t i k e).trans (hw _ _ _ i.isLt k.isLt e.isLt))
    (fun k => (blk4_at V c t _ k).trans (hx _ _ (by show 512 * t.val + (y 0).val < 16384; omega) k.isLt))
    (fun k => (blk7_at V c t k).trans (hg _ k.isLt)) (fun k e => (blk6_at V c t k e).trans (ho _ _ k.isLt e.isLt)) ⟨(y 1).val, h1⟩)

theorem tiles_result (hgn : ∀ k, k < 1024 → cell (gains V c) 0 k = gn k) (hsc : ∀ k, k < 1024 → cell (scales V c) 0 k = sc k)
    (hsh : ∀ k, k < 1024 → cell (shifts V c) 0 k = sh k) :
    (dat V c).arrAt (14 : Fin 18) cfg0.N = asTiles (modulated (added x g (merged b ya yb yc w) wo) gn sc sh) := by
  refine (dat V c).arrAt_eq_of_covers 14 _ (by decide +kernel) fun t hf y => ?_
  have ht : t.val < 32 := lt_of_lt_of_eq t.isLt N_0
  have h0 : (y 0).val < 4096 := (y 0).isLt
  have h1 : (y 1).val < 128 := (y 1).isLt
  have e0 : ((((win0_14.blk t).view.emb y 0 : Fin _) : ℕ)) = 4096 * t.val + (y 0).val := by
    blk_simp [index_14]
    omega
  have e1 : ((((win0_14.blk t).view.emb y 1 : Fin _) : ℕ)) = (y 1).val := by
    blk_simp [index_14]
  have hr : (y 0).val / 8 < 512 := by omega
  have hk : 128 * ((y 0).val % 8) + (y 1).val < 1024 := by omega
  blk_simp []
  show tiled (normRows (blocks V c t)) y = asTiles _ ((win0_14.blk t).view.emb y)
  unfold asTiles
  rw [e0, e1, show (4096 * t.val + (y 0).val) / 8 = 512 * t.val + (y 0).val / 8 by omega,
    show (4096 * t.val + (y 0).val) % 8 = (y 0).val % 8 by omega]
  refine Eq.trans (show tiled (normRows (blocks V c t)) y = normRows (blocks V c t) (ix2 ⟨(y 0).val / 8, hr⟩ ⟨128 * ((y 0).val % 8) + (y 1).val, hk⟩)
    from congrArg (normRows (blocks V c t)) (funext fun a => by match a with | 0 => rfl | 1 => rfl)) ?_
  exact normRows_at (blocks V c t) (s := 512 * t.val + (y 0).val / 8)
    (fun k => (blk3_at V c t _ k).trans (hbr _ _ (by show 512 * t.val + (y 0).val / 8 < 16384; omega) k.isLt))
    (fun k => (blk0_at V c t _ k).trans (hya _ _ (by show 512 * t.val + (y 0).val / 8 < 16384; omega) k.isLt))
    (fun k => (blk1_at V c t _ k).trans (hyb _ _ (by show 512 * t.val + (y 0).val / 8 < 16384; omega) k.isLt))
    (fun k => (blk2_at V c t _ k).trans (hyc _ _ (by show 512 * t.val + (y 0).val / 8 < 16384; omega) k.isLt))
    (fun i k e => (blk5_at V c t i k e).trans (hw _ _ _ i.isLt k.isLt e.isLt))
    (fun k => (blk4_at V c t _ k).trans (hx _ _ (by show 512 * t.val + (y 0).val / 8 < 16384; omega) k.isLt))
    (fun k => (blk7_at V c t k).trans (hg _ k.isLt)) (fun k e => (blk6_at V c t k e).trans (ho _ _ k.isLt e.isLt))
    (fun k => (blk8_at V c t k).trans (hgn _ k.isLt)) (fun k => (blk9_at V c t k).trans (hsc _ k.isLt))
    (fun k => (blk10_at V c t k).trans (hsh _ k.isLt)) ⟨128 * ((y 0).val % 8) + (y 1).val, hk⟩

end Cert.MergeIdeal.Rows

end
-- ==== Proof.Merge.Result.lean ====
/-
  The merge's two results over the extended reals: the arrays its host operations prepare read at a place, and what the call
  leaves of them.
-/
module

public import proofs.«01_k».proof.Proof.Merge.Host
public import proofs.«01_k».proof.Proof.Merge.Arrays

@[expose] public section

set_option maxRecDepth 16384

noncomputable section

namespace Cert.MergeIdeal.Whole

open Cert.MergeIdeal Cert.MergeIdeal.Gen
open Idealize.ShloMosaic Idealize.ShloMosaic.TcCoe
open Cert.Math (cell cell_of entry entry_of cube cube_of modulated merged added)

section
variable {F : FTy → Type} [FloatOps F]
variable (m : (ℓ : Loc nD τ sig) → Buf (Elt F) ℓ) (c : Dev nD)

/-- The gates' columns before zeros. -/
def wide (B : FVec F S16384x3072 .f32) : FVec F S16384x8192 .bf16 :=
  concatenate S16384x8192 1 [⟨S16384x3072, truncf .bf16 B bitsLt_bf16_f32⟩,
    ⟨S16384x5120, broadcastInDim S16384x5120 ![] bcast_S_S16384x5120 (constant S_ .bf16 0x0000#16)⟩] concatenates_S16384x3072_S16384x5120_S16384x8192_d1

set_option maxHeartbeats 4000000 in
theorem prepared : atCall m c (Proc.devRef .tc main_v2) = wide (F := F) (m ((c.tc : Thread nD τ).loc main_arg3))
    ∧ atCall m c (Proc.devRef .tc main_v8) = shapeCast S16384x1024 (m ((c.tc : Thread nD τ).loc main_arg4)) shapeCasts_S1x16384x1024_S16384x1024
    ∧ atCall m c (Proc.devRef .tc main_v9) = truncf (F := F) .bf16 (m ((c.tc : Thread nD τ).loc main_arg5)) bitsLt_bf16_f32
    ∧ atCall m c (Proc.devRef .tc main_v10) = truncf (F := F) .bf16 (m ((c.tc : Thread nD τ).loc main_arg6)) bitsLt_bf16_f32
    ∧ atCall m c (Proc.devRef .tc main_v11) = shapeCast S1x1024 (m ((c.tc : Thread nD τ).loc main_arg7)) shapeCasts_S1024_S1x1024
    ∧ atCall m c (Proc.devRef .tc main_v12) = shapeCast S1x1024 (m ((c.tc : Thread nD τ).loc main_arg8)) shapeCasts_S1024_S1x1024
    ∧ atCall m c (Proc.devRef .tc main_v13) = shapeCast S1x1024 (m ((c.tc : Thread nD τ).loc main_arg9)) shapeCasts_S1024_S1x1024
    ∧ atCall m c (Proc.devRef .tc main_v14) = shapeCast S1x1024 (m ((c.tc : Thread nD τ).loc main_arg10)) shapeCasts_S1024_S1x1024 := by
  unfold atCall
  simp only [hostOps0]
  refine ⟨?_, ?_, ?_, ?_, ?_, ?_, ?_, ?_⟩
  all_goals after_results_simp
  all_goals rfl

end

theorem wide_at (B : S16384x3072.Idx → EReal) (s : Fin 16384) (e : Fin 8192) (h : e.val < 3072) : wide (F := Ideal) B (ix2 s e) = cell B s e := by
  unfold wide
  simp only [pointwise]
  exact (dif_pos h).trans (cell_of B _ rfl rfl)

theorem row_at (g : S1024.Idx → EReal) (z : Fin 1) (k : Fin 1024) :
    shapeCast (s := S1024) (α := EReal) S1x1024 g shapeCasts_S1024_S1x1024 (ix2 z k) = entry g k := by
  simp only [pointwise]
  exact entry_of g _ (by simp [Subsingleton.elim z 0])

theorem tiles_at (h : ℕ → ℕ → EReal) (s : Fin 16384) (e : Fin 1024) :
    shapeCast (s := S131072x128) (α := EReal) S16384x1024 (Rows.asTiles h) shapeCasts_S131072x128_S16384x1024 (ix2 s e) = h s e := by
  simp only [pointwise]
  unfold Rows.asTiles
  refine congrArg₂ h ?_ ?_
  all_goals simp
  all_goals omega

variable (m : (ℓ : Loc nD τ sig) → Buf (Elt Ideal) ℓ) (c : Dev nD)

abbrev yaIn : S16384x512.Idx → EReal := m ((c.tc : Thread nD τ).loc main_arg0)
abbrev ybIn : S16384x512.Idx → EReal := m ((c.tc : Thread nD τ).loc main_arg1)
abbrev ycIn : S16384x512.Idx → EReal := m ((c.tc : Thread nD τ).loc main_arg2)
abbrev brIn : S16384x3072.Idx → EReal := m ((c.tc : Thread nD τ).loc main_arg3)
abbrev xIn : S16384x1024.Idx → EReal := shapeCast S16384x1024 (m ((c.tc : Thread nD τ).loc main_arg4)) shapeCasts_S1x16384x1024_S16384x1024
abbrev wIn : S3x512x1024.Idx → EReal := m ((c.tc : Thread nD τ).loc main_arg5)
abbrev oIn : S1024x1024.Idx → EReal := m ((c.tc : Thread nD τ).loc main_arg6)
abbrev gIn : S1024.Idx → EReal := m ((c.tc : Thread nD τ).loc main_arg7)
abbrev gainIn : S1024.Idx → EReal := m ((c.tc : Thread nD τ).loc main_arg8)
abbrev scaleIn : S1024.Idx → EReal := m ((c.tc : Thread nD τ).loc main_arg9)
abbrev shiftIn : S1024.Idx → EReal := m ((c.tc : Thread nD τ).loc main_arg10)

/-- The new rows, -/
def newAt : ℕ → ℕ → EReal :=
  added (cell (xIn m c)) (entry (gIn m c)) (merged (cell (brIn m c)) (cell (yaIn m c)) (cell (ybIn m c)) (cell (ycIn m c)) (cube (wIn m c))) (cell (oIn m c))
/-- and these normalised. -/
def normAt : ℕ → ℕ → EReal := modulated (newAt m c) (entry (gainIn m c)) (entry (scaleIn m c)) (entry (shiftIn m c))

/-- The two results at every place. -/
theorem results : atEnd m c (Proc.devRef .tc main_v16_0) = Rows.asRows (newAt m c)
    ∧ atEnd m c (Proc.devRef .tc main_v17) = Rows.asRows (normAt m c) := by
  obtain ⟨r0, r1⟩ := results_atEnd m c
  obtain ⟨a0, a1, a2, -⟩ := args_atCall m c
  obtain ⟨p2, p8, p9, p10, p11, p12, p13, p14⟩ := prepared m c
  have hya : ∀ s k, s < 16384 → k < 512 → cell (Rows.yas (atCall m) c) s k = cell (yaIn m c) s k := fun s k _ _ => congrArg (cell · s k) a0
  have hyb : ∀ s k, s < 16384 → k < 512 → cell (Rows.ybs (atCall m) c) s k = cell (ybIn m c) s k := fun s k _ _ => congrArg (cell · s k) a1
  have hyc : ∀ s k, s < 16384 → k < 512 → cell (Rows.ycs (atCall m) c) s k = cell (ycIn m c) s k := fun s k _ _ => congrArg (cell · s k) a2
  have hbr : ∀ s k, s < 16384 → k < 3072 → cell (Rows.brs (atCall m) c) s k = cell (brIn m c) s k := fun s k hs hk =>
    (congrArg (cell · s k) p2).trans ((cell_of _ (ix2 ⟨s, hs⟩ ⟨k, by omega⟩) rfl rfl).symm.trans (wide_at (brIn m c) ⟨s, hs⟩ ⟨k, by omega⟩ hk))
  have hx : ∀ s k, s < 16384 → k < 1024 → cell (Rows.xs (atCall m) c) s k = cell (xIn m c) s k := fun s k _ _ => congrArg (cell · s k) p8
  have hw : ∀ i k e, i < 3 → k < 512 → e < 1024 → cube (Rows.wbs (atCall m) c) i k e = cube (wIn m c) i k e := fun i k e _ _ _ =>
    congrArg (cube · i k e) p9
  have ho : ∀ k e, k < 1024 → e < 1024 → cell (Rows.wos (atCall m) c) k e = cell (oIn m c) k e := fun k e _ _ => congrArg (cell · k e) p10
  have vec : ∀ (A : S1x1024.Idx → EReal) (v : S1024.Idx → EReal), A = shapeCast (s := S1024) (α := EReal) S1x1024 v shapeCasts_S1024_S1x1024 →
      ∀ k, k < 1024 → cell A 0 k = entry v k := fun A v e k hk => by
    subst e
    exact (cell_of _ (ix2 0 ⟨k, hk⟩) rfl rfl).symm.trans (row_at v 0 ⟨k, hk⟩)
  refine ⟨r0.trans (Rows.rows_result (atCall m) c hya hyb hyc hbr hx hw ho (vec _ (gIn m c) p11)), r1.trans ?_⟩
  refine (congrArg (fun A => shapeCast S16384x1024 A shapeCasts_S131072x128_S16384x1024)
    (Rows.tiles_result (atCall m) c hya hyb hyc hbr hx hw ho (vec _ (gIn m c) p11) (vec _ (gainIn m c) p12) (vec _ (scaleIn m c) p13)
      (vec _ (shiftIn m c) p14))).trans (funext fun y => ?_)
  obtain ⟨s, e, rfl⟩ : ∃ (s : Fin 16384) (e : Fin 1024), y = ix2 s e := ⟨y 0, y 1, funext fun a => by match a with | 0 => rfl | 1 => rfl⟩
  exact tiles_at _ s e

end Cert.MergeIdeal.Whole

end
-- ==== Proof.Reference.Merged.lean ====
/-
  The merge's reference read at a place: the branches under their gates, their sum's product with the weights added to the
  rows, and these normalised.
-/
module

public import proofs.«01_k».proof.Proof.Gen.MergeReferenceIdeal.Run
public import proofs.«01_k».proof.Proof.Math.Merged
public import Idealize.ShloMosaic.Lib.Pointwise

@[expose] public section

set_option maxRecDepth 16384

noncomputable section

namespace Cert.MergeReferenceIdeal.Layer

open Cert.MergeReferenceIdeal Cert.MergeReferenceIdeal.Gen
open Idealize.ShloMosaic Idealize.ShloMosaic.TcCoe
open Cert.Math (cell cell_of entry entry_of cube cube_of invRms modulated product branch merged added)
open scoped BigOperators

variable {F : FTy → Type} [FloatOps F]

/-! ### The operations -/

/-- The gates' logistic, -/
def gates (B : FVec F S16384x3072 .f32) : FVec F S16384x3x1024 .f32 :=
  shapeCast _ (Host.divf (broadcastInDim S16384x3072 ![] bcast_S_S16384x3072 (constant S_ .f32 0x3F800000#32))
    (addf (broadcastInDim S16384x3072 ![] bcast_S_S16384x3072 (constant S_ .f32 0x3F800000#32)) (Host.exp (Host.negf B)))) shapeCasts_S16384x3072_S16384x3x1024
/-- the branches' rows one beside another, -/
def stacked (A B C : FVec F S16384x512 .f32) : FVec F S16384x3x512 .f32 :=
  concatenate S16384x3x512 1 [⟨S16384x1x512, broadcastInDim S16384x1x512 ![0, 2] bcast_S16384x512_S16384x1x512_0_2 A⟩,
    ⟨S16384x1x512, broadcastInDim S16384x1x512 ![0, 2] bcast_S16384x512_S16384x1x512_0_2 B⟩,
    ⟨S16384x1x512, broadcastInDim S16384x1x512 ![0, 2] bcast_S16384x512_S16384x1x512_0_2 C⟩]
    concatenates_S16384x1x512_S16384x1x512_S16384x1x512_S16384x3x512_d1
/-- their products with the weights, -/
def products (A B C : FVec F S16384x512 .f32) (W : FVec F S3x512x1024 .f32) : FVec F S16384x3x1024 .f32 :=
  transpose S16384x3x1024 [2, 0, 1] (Host.dotGeneral dot_S3x512x1024_S16384x3x512_S3x1024x16384_1_2_2_0_0_1 none W (stacked A B C))
    transposes_S3x1024x16384_S16384x3x1024_2_0_1
/-- the sum of these under the gates, -/
def summed (A B C : FVec F S16384x512 .f32) (G : FVec F S16384x3072 .f32) (W : FVec F S3x512x1024 .f32) : FVec F S16384x1024 .f32 :=
  Host.reduceAdd (mulf (gates G) (products A B C W)) (constant S_ .f32 0x00000000#32) reducesTo_S16384x3x1024_S16384x1024_d1 h_S_
/-- a vector along the rows, -/
def along (g : FVec F S1024 .f32) : FVec F S16384x1024 .f32 :=
  broadcastInDim S16384x1024 ![0, 1] bcast_S1x1024_S16384x1024_0_1 (broadcastInDim S1x1024 ![1] bcast_S1024_S1x1024_1 g)
/-- the rows with the sum's product added, -/
def sums (X : FVec F S16384x1024 .f32) (g : FVec F S1024 .f32) (M : FVec F S16384x1024 .f32) (W : FVec F S1024x1024 .f32) : FVec F S16384x1024 .f32 :=
  addf X (mulf (along g) (Host.dotGeneral dot_S16384x1024_S1024x1024_S16384x1024_1_0_0_1_n_n none M W))
/-- one over the root mean square of each row, -/
def rowRms (X : FVec F S16384x1024 .f32) : FVec F S16384x1 .f32 :=
  Host.rsqrt (addf (Host.divf (broadcastInDim S16384x1 ![0] bcast_S16384_S16384x1_0 (Host.reduceAdd (mulf X X) (constant S_ .f32 0x00000000#32)
    reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))
/-- and the normalised rows. -/
def rows (X : FVec F S16384x1024 .f32) (g a b : FVec F S1024 .f32) : FVec F S16384x1024 .f32 :=
  addf (mulf (mulf (mulf X (broadcastInDim S16384x1024 ![0, 1] bcast_S16384x1_S16384x1024_0_1 (rowRms X))) (along g))
    (along (addf (broadcastInDim S1024 ![] bcast_S_S1024 (constant S_ .f32 0x3F800000#32)) a))) (along b)

/-! ### At a place -/

section
variable (A B C : S16384x512.Idx → EReal) (G : S16384x3072.Idx → EReal) (W : S3x512x1024.Idx → EReal)

theorem gates_at (s : Fin 16384) (i : Fin 3) (e : Fin 1024) : gates (F := Ideal) G (ix3 s i e) = Ideal.logistic (cell G s (1024 * i + e)) := by
  unfold gates Ideal.logistic
  simp only [pointwise]
  exact congrArg (fun u => Ideal.div 1 (1 + Ideal.exp (-u))) (cell_of G _ (by simp) (by simp [Nat.mul_comm]))

theorem stacked_at (s : Fin 16384) (i : Fin 3) (k : Fin 512) : stacked (F := Ideal) A B C (ix3 s i k)
    = if i.val < 1 then cell A s k else if i.val - 1 < 1 then cell B s k else cell C s k := by
  unfold stacked
  simp only [pointwise]
  by_cases h1 : i.val < 1
  · rw [if_pos h1]
    exact (dif_pos h1).trans (cell_of A _ rfl rfl)
  rw [if_neg h1]; refine (dif_neg h1).trans ?_
  by_cases h2 : i.val - 1 < 1
  · rw [if_pos h2]
    exact (dif_pos h2).trans (cell_of B _ rfl rfl)
  rw [if_neg h2]; refine (dif_neg h2).trans ?_
  exact cell_of C _ rfl rfl

theorem products_at (s : Fin 16384) (i : Fin 3) (e : Fin 1024) (y : ℕ → ℕ → EReal)
    (hy : ∀ k : Fin 512, stacked (F := Ideal) A B C (ix3 s i k) = y s k) :
    products (F := Ideal) A B C W (ix3 s i e) = ∑ k ∈ Finset.range 512, y s k * cube W i k e := by
  unfold products
  simp only [pointwise]
  rw [zero_add, Finset.sum_range fun k => y s k * cube W i k e]
  refine Finset.sum_congr rfl fun k _ => (mul_comm _ _).trans (congrArg₂ (· * ·) (hy k) (cube_of W (ix3 i k e) rfl rfl rfl))

theorem summed_at (s : Fin 16384) (e : Fin 1024) :
    summed (F := Ideal) A B C G W (ix2 s e) = merged (cell G) (cell A) (cell B) (cell C) (cube W) s e := by
  have h := fun (i : Fin 3) (y : ℕ → ℕ → EReal) hy => congrArg₂ (· * ·) (gates_at G s i e) (products_at A B C W s i e y hy)
  unfold summed merged branch
  simp only [pointwise]
  rw [zero_add, Fin.sum_univ_three]
  exact congrArg₂ (· + ·) (congrArg₂ (· + ·) (h 0 (cell A) fun k => stacked_at A B C s 0 k) (h 1 (cell B) fun k => stacked_at A B C s 1 k))
    (h 2 (cell C) fun k => stacked_at A B C s 2 k)

end

section
variable (X M : S16384x1024.Idx → EReal) (g a b : S1024.Idx → EReal) (W : S1024x1024.Idx → EReal)

theorem along_at (s : Fin 16384) (k : Fin 1024) : along (F := Ideal) g (ix2 s k) = entry g k := by
  unfold along
  simp only [pointwise]
  exact entry_of g _ rfl

theorem sums_at (s : Fin 16384) (e : Fin 1024) (x m : ℕ → ℕ → EReal) (hX : X (ix2 s e) = x s e) (hM : ∀ k : Fin 1024, M (ix2 s k) = m s k) :
    sums (F := Ideal) X g M W (ix2 s e) = added x (entry g) m (cell W) s e := by
  unfold sums added product
  simp only [pointwise]
  rw [along_at, zero_add, Finset.sum_range fun k => m s k * cell W k e]
  exact congrArg₂ (· + ·) hX (congrArg (entry g e * ·) (Finset.sum_congr rfl fun k _ =>
    congrArg₂ (· * ·) (hM k) (cell_of W (ix2 k e) rfl rfl)))

theorem rowRms_at (s : Fin 16384) (z : Fin 1) (x : ℕ → ℕ → EReal) (hX : ∀ k : Fin 1024, X (ix2 s k) = x s k) :
    rowRms (F := Ideal) X (ix2 s z) = invRms 1024 (Ideal.ofBits .f32 0x44800000#32) (x s) := by
  unfold rowRms invRms
  simp only [pointwise]
  rw [zero_add, Finset.sum_range fun k => x s k * x s k]
  exact congrArg (fun u => Ideal.rsqrt (Ideal.div u _ + _)) (Finset.sum_congr rfl fun k _ => congrArg₂ (· * ·) (hX k) (hX k))

theorem rows_at (s : Fin 16384) (x : ℕ → ℕ → EReal) (hX : ∀ k : Fin 1024, X (ix2 s k) = x s k) (k : Fin 1024) :
    rows (F := Ideal) X g a b (ix2 s k) = modulated x (entry g) (entry a) (entry b) s k := by
  unfold rows modulated
  simp only [pointwise]
  rw [along_at, along_at, along_at]
  have ha : entry (addf (F := Ideal) (φ := .f32) (broadcastInDim S1024 ![] bcast_S_S1024 (constant S_ .f32 0x3F800000#32)) a) k
      = 1 + entry a k := by
    have h1 : a (ix1 k) = entry a k := entry_of a (ix1 k) rfl
    rw [← h1]
    refine (entry_of _ (ix1 k) rfl).symm.trans ?_
    simp only [pointwise]
  rw [ha]
  exact congrArg (· * entry g k * (1 + entry a k) + entry b k) (congrArg₂ (· * ·) (hX k) (rowRms_at X s 0 x hX))

end

end Cert.MergeReferenceIdeal.Layer

end
-- ==== Proof.MergeAlgebraic.lean ====
/-
  The merge and its reference compute one array of new rows and one of these normalised.
-/
module

public import proofs.«01_k».proof.Defs
public import proofs.«01_k».proof.Proof.Merge.Result
public import proofs.«01_k».proof.Proof.Reference.Merged

@[expose] public section

set_option maxRecDepth 16384

noncomputable section

namespace Cert.Proof

open Idealize.ShloMosaic Idealize.SL.Sem
open Cert.MergeIdeal.Whole (newAt normAt yaIn ybIn ycIn brIn xIn wIn oIn gIn gainIn scaleIn shiftIn)
open Cert.Math (cell_of)

section
variable (m : (ℓ : Loc Cert.MergeIdeal.nD Cert.MergeIdeal.τ Cert.MergeIdeal.sig) → Buf (Elt Ideal) ℓ) (c : Dev Cert.MergeIdeal.nD)

/-- The reference's new rows of the kernel's arguments. -/
abbrev newRef : Cert.MergeReferenceIdeal.S16384x1024.Idx → EReal :=
  Cert.MergeReferenceIdeal.Layer.sums (F := Ideal) (xIn m c) (gIn m c)
    (Cert.MergeReferenceIdeal.Layer.summed (F := Ideal) (yaIn m c) (ybIn m c) (ycIn m c) (brIn m c) (wIn m c)) (oIn m c)

theorem newRef_at (s : Fin 16384) (e : Fin 1024) : newRef m c (ix2 s e) = newAt m c s e :=
  Cert.MergeReferenceIdeal.Layer.sums_at _ _ _ _ s e _ _ (cell_of (xIn m c) (ix2 s e) rfl rfl)
    fun k => Cert.MergeReferenceIdeal.Layer.summed_at _ _ _ _ _ s k

theorem newRef_eq : newRef m c = Cert.MergeIdeal.Rows.asRows (newAt m c) := by
  funext y
  obtain ⟨s, e, rfl⟩ : ∃ (s : Fin 16384) (e : Fin 1024), y = ix2 s e := ⟨y 0, y 1, funext fun a => by match a with | 0 => rfl | 1 => rfl⟩
  exact newRef_at m c s e

theorem normRef_eq : Cert.MergeReferenceIdeal.Layer.rows (F := Ideal) (newRef m c) (gainIn m c) (scaleIn m c) (shiftIn m c)
    = Cert.MergeIdeal.Rows.asRows (normAt m c) := by
  funext y
  obtain ⟨s, e, rfl⟩ : ∃ (s : Fin 16384) (e : Fin 1024), y = ix2 s e := ⟨y 0, y 1, funext fun a => by match a with | 0 => rfl | 1 => rfl⟩
  exact Cert.MergeReferenceIdeal.Layer.rows_at _ _ _ _ s (newAt m c) (newRef_at m c s) e

end

theorem mergeAlgebraic : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => Cert.MergeIdeal.Rows.asRows (newAt m c), fun c => Cert.MergeIdeal.Rows.asRows (normAt m c), ?_, ?_⟩
  · refine (θ_run Cert.MergeIdeal.defs _ _).mono (fun _ h c => ?_) (Cert.MergeIdeal.Whole.run (F := Ideal) m g)
    obtain ⟨⟨r0, r1⟩, args⟩ := h.1 c
    obtain ⟨v0, v1⟩ := Cert.MergeIdeal.Whole.results m c
    exact ⟨r0.trans v0, r1.trans v1, args⟩
  · refine (θ_run Cert.MergeReferenceIdeal.defs _ _).mono (fun _ h c => ?_) (Cert.MergeReferenceIdeal.Value.run (F := Ideal) m' g')
    obtain ⟨r0, r1, args⟩ := h c
    obtain ⟨e0, e1, e2, e3, e4, e5, e6, e7, e8, e9, e10, -⟩ := hagree c
    have new : Cert.MergeReferenceIdeal.Layer.sums (F := Ideal)
        (shapeCast _ (m' ((c.tc : Thread Cert.MergeReferenceIdeal.nD Cert.MergeReferenceIdeal.τ).loc Cert.MergeReferenceIdeal.main_arg4))
          Cert.MergeReferenceIdeal.Gen.shapeCasts_S1x16384x1024_S16384x1024)
        (m' ((c.tc : Thread Cert.MergeReferenceIdeal.nD Cert.MergeReferenceIdeal.τ).loc Cert.MergeReferenceIdeal.main_arg7))
        (Cert.MergeReferenceIdeal.Layer.summed (F := Ideal)
          (m' ((c.tc : Thread Cert.MergeReferenceIdeal.nD Cert.MergeReferenceIdeal.τ).loc Cert.MergeReferenceIdeal.main_arg0))
          (m' ((c.tc : Thread Cert.MergeReferenceIdeal.nD Cert.MergeReferenceIdeal.τ).loc Cert.MergeReferenceIdeal.main_arg1))
          (m' ((c.tc : Thread Cert.MergeReferenceIdeal.nD Cert.MergeReferenceIdeal.τ).loc Cert.MergeReferenceIdeal.main_arg2))
          (m' ((c.tc : Thread Cert.MergeReferenceIdeal.nD Cert.MergeReferenceIdeal.τ).loc Cert.MergeReferenceIdeal.main_arg3))
          (m' ((c.tc : Thread Cert.MergeReferenceIdeal.nD Cert.MergeReferenceIdeal.τ).loc Cert.MergeReferenceIdeal.main_arg5)))
        (m' ((c.tc : Thread Cert.MergeReferenceIdeal.nD Cert.MergeReferenceIdeal.τ).loc Cert.MergeReferenceIdeal.main_arg6)) = newRef m c := by
      rw [e0, e1, e2, e3, e4, e5, e6, e7]
    refine ⟨r0.trans (new.trans (newRef_eq m c)), r1.trans ?_, args⟩
    refine Eq.trans ?_ (normRef_eq m c)
    refine Eq.trans (b := Cert.MergeReferenceIdeal.Layer.rows (F := Ideal) (newRef m c)
      (m' ((c.tc : Thread Cert.MergeReferenceIdeal.nD Cert.MergeReferenceIdeal.τ).loc Cert.MergeReferenceIdeal.main_arg8))
      (m' ((c.tc : Thread Cert.MergeReferenceIdeal.nD Cert.MergeReferenceIdeal.τ).loc Cert.MergeReferenceIdeal.main_arg9))
      (m' ((c.tc : Thread Cert.MergeReferenceIdeal.nD Cert.MergeReferenceIdeal.τ).loc Cert.MergeReferenceIdeal.main_arg10))) ?_ (by rw [e8, e9, e10])
    rw [← new]
    unfold Cert.MergeReferenceIdeal.Value.res_main_v41
    rfl

end Cert.Proof

end
-- ==== Proof.lean ====
/-
  The claims put together: the frames, the idealizations and the values of the two programs.
-/
module

public import proofs.«01_k».proof.Defs
public import proofs.«01_k».proof.Proof.Frames
public import proofs.«01_k».proof.Proof.Algebraic
public import proofs.«01_k».proof.Proof.MergeFrames
public import proofs.«01_k».proof.Proof.MergeAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Merge.Gen.facts,
  Cert.MergeIdeal.Gen.facts, Cert.MergeReferenceIdeal.Gen.facts, preFacts,
  frameBits, frameIdeal, fun m g _ => frameIdeal m g trivial, frameReference, fun m g _ => frameReference m g trivial,
  mergeFrameBits, mergeFrameIdeal, mergeFrameReference, preserves, algebraic, trivial, mergeAlgebraic⟩

end Cert.Proof

end
